-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ff [hPre_finite_ff : Cert.Pre_finite_ff.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ff.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ff.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ff.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ff.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_ff.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ff [hPre_finite_ff : Cert.Pre_finite_ff.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ff.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ff.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ff.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ff.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_ff.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ple [hPre_finite_ple : Cert.Pre_finite_ple.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite_ple.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ple [hPre_finite_ple : Cert.Pre_finite_ple.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite_ple.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inproj [hPre_finite_inproj : Cert.Pre_finite_inproj.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_inproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_inproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_inproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inproj [hPre_finite_inproj : Cert.Pre_finite_inproj.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_inproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_inproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_inproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_loss [hPre_finite_loss : Cert.Pre_finite_loss.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_loss [hPre_finite_loss : Cert.Pre_finite_loss.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ff [hKernel2Ideal : Cert.Kernel2Ideal.Facts] [hPre_finite_ff : Cert.Pre_finite_ff.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ff m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ff [hReference2Ideal : Cert.Reference2Ideal.Facts] [hPre_finite_ff : Cert.Pre_finite_ff.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ff m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_ple [hKernel3Ideal : Cert.Kernel3Ideal.Facts] [hPre_finite_ple : Cert.Pre_finite_ple.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ple m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_ple [hReference3Ideal : Cert.Reference3Ideal.Facts] [hPre_finite_ple : Cert.Pre_finite_ple.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ple m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_inproj [hKernel4Ideal : Cert.Kernel4Ideal.Facts] [hPre_finite_inproj : Cert.Pre_finite_inproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inproj m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_inproj [hReference4Ideal : Cert.Reference4Ideal.Facts] [hPre_finite_inproj : Cert.Pre_finite_inproj.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inproj m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_loss [hKernel5Ideal : Cert.Kernel5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_loss m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_loss [hReference5Ideal : Cert.Reference5Ideal.Facts] [hPre_finite_loss : Cert.Pre_finite_loss.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_loss m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_ff [hKernel2Ideal : Cert.Kernel2Ideal.Facts] [hReference2Ideal : Cert.Reference2Ideal.Facts] [hPre_finite_ff : Cert.Pre_finite_ff.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ff m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_ple [hKernel3Ideal : Cert.Kernel3Ideal.Facts] [hReference3Ideal : Cert.Reference3Ideal.Facts] [hPre_finite_ple : Cert.Pre_finite_ple.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ple m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_inproj [hKernel4Ideal : Cert.Kernel4Ideal.Facts] [hReference4Ideal : Cert.Reference4Ideal.Facts] [hPre_finite_inproj : Cert.Pre_finite_inproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inproj m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_loss [hKernel5Ideal : Cert.Kernel5Ideal.Facts] [hReference5Ideal : Cert.Reference5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_loss m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v6_2)) (v1 : (c : Dev Cert.Kernel5Ideal.nD) → Buf (Elt Ideal) ((c.tc : Thread Cert.Kernel5Ideal.nD Cert.Kernel5Ideal.τ).loc Cert.Kernel5Ideal.main_v6_3)) (v2 : (c : Dev Cert.Kernel5Ideal.nD) → Buf (Elt Ideal) ((c.tc : Thread Cert.Kernel5Ideal.nD Cert.Kernel5Ideal.τ).loc Cert.Kernel5Ideal.main_v6_4)) (v3 : (c : Dev Cert.Kernel5Ideal.nD) → Buf (Elt Ideal) ((c.tc : Thread Cert.Kernel5Ideal.nD Cert.Kernel5Ideal.τ).loc Cert.Kernel5Ideal.main_v6_5)) (v4 : (c : Dev Cert.Kernel5Ideal.nD) → Buf (Elt Ideal) ((c.tc : Thread Cert.Kernel5Ideal.nD Cert.Kernel5Ideal.τ).loc Cert.Kernel5Ideal.main_v6_6)) (v5 : (c : Dev Cert.Kernel5Ideal.nD) → Buf (Elt Ideal) ((c.tc : Thread Cert.Kernel5Ideal.nD Cert.Kernel5Ideal.τ).loc Cert.Kernel5Ideal.main_v6_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_2) = v0 c
          ∧ r.2.mem ((c.tc : Thread Cert.Kernel5Ideal.nD Cert.Kernel5Ideal.τ).loc Cert.Kernel5Ideal.main_v6_3) = v1 c
          ∧ r.2.mem ((c.tc : Thread Cert.Kernel5Ideal.nD Cert.Kernel5Ideal.τ).loc Cert.Kernel5Ideal.main_v6_4) = v2 c
          ∧ r.2.mem ((c.tc : Thread Cert.Kernel5Ideal.nD Cert.Kernel5Ideal.τ).loc Cert.Kernel5Ideal.main_v6_5) = v3 c
          ∧ r.2.mem ((c.tc : Thread Cert.Kernel5Ideal.nD Cert.Kernel5Ideal.τ).loc Cert.Kernel5Ideal.main_v6_6) = v4 c
          ∧ r.2.mem ((c.tc : Thread Cert.Kernel5Ideal.nD Cert.Kernel5Ideal.τ).loc Cert.Kernel5Ideal.main_v6_7) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v109) = v1 c
          ∧ r.2.mem ((c.tc : Thread Cert.Reference5Ideal.nD Cert.Reference5Ideal.τ).loc Cert.Reference5Ideal.main_v107) = v2 c
          ∧ r.2.mem ((c.tc : Thread Cert.Reference5Ideal.nD Cert.Reference5Ideal.τ).loc Cert.Reference5Ideal.main_v110) = v3 c
          ∧ r.2.mem ((c.tc : Thread Cert.Reference5Ideal.nD Cert.Reference5Ideal.τ).loc Cert.Reference5Ideal.main_v111) = v4 c
          ∧ r.2.mem ((c.tc : Thread Cert.Reference5Ideal.nD Cert.Reference5Ideal.τ).loc Cert.Reference5Ideal.main_v112) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v17) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_v20) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)) (v4 : (c : Dev Cert.Kernel11Ideal.nD) → Buf (Elt Ideal) ((c.tc : Thread Cert.Kernel11Ideal.nD Cert.Kernel11Ideal.τ).loc Cert.Kernel11Ideal.main_v5_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_v5_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_v0) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_v24) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite_ff : Cert.Pre_finite_ff.Facts) (hPre_finite_ple : Cert.Pre_finite_ple.Facts) (hPre_finite_inproj : Cert.Pre_finite_inproj.Facts) (hPre_finite_loss : Cert.Pre_finite_loss.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ff (hKernel2Ideal := hKernel2Ideal) (hPre_finite_ff := hPre_finite_ff)
    ∧ quiescent_Reference2Ideal (hReference2Ideal := hReference2Ideal)
    ∧ quiescent_Reference2Ideal_pre_finite_ff (hReference2Ideal := hReference2Ideal) (hPre_finite_ff := hPre_finite_ff)
    ∧ quiescent_Kernel3 (hKernel3 := hKernel3)
    ∧ quiescent_Kernel3Ideal (hKernel3Ideal := hKernel3Ideal)
    ∧ quiescent_Kernel3Ideal_pre_finite_ple (hKernel3Ideal := hKernel3Ideal) (hPre_finite_ple := hPre_finite_ple)
    ∧ quiescent_Reference3Ideal (hReference3Ideal := hReference3Ideal)
    ∧ quiescent_Reference3Ideal_pre_finite_ple (hReference3Ideal := hReference3Ideal) (hPre_finite_ple := hPre_finite_ple)
    ∧ quiescent_Kernel4 (hKernel4 := hKernel4)
    ∧ quiescent_Kernel4Ideal (hKernel4Ideal := hKernel4Ideal)
    ∧ quiescent_Kernel4Ideal_pre_finite_inproj (hKernel4Ideal := hKernel4Ideal) (hPre_finite_inproj := hPre_finite_inproj)
    ∧ quiescent_Reference4Ideal (hReference4Ideal := hReference4Ideal)
    ∧ quiescent_Reference4Ideal_pre_finite_inproj (hReference4Ideal := hReference4Ideal) (hPre_finite_inproj := hPre_finite_inproj)
    ∧ quiescent_Kernel5 (hKernel5 := hKernel5)
    ∧ quiescent_Kernel5Ideal (hKernel5Ideal := hKernel5Ideal)
    ∧ quiescent_Kernel5Ideal_pre_finite_loss (hKernel5Ideal := hKernel5Ideal) (hPre_finite_loss := hPre_finite_loss)
    ∧ quiescent_Reference5Ideal (hReference5Ideal := hReference5Ideal)
    ∧ quiescent_Reference5Ideal_pre_finite_loss (hReference5Ideal := hReference5Ideal) (hPre_finite_loss := hPre_finite_loss)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ff (hKernel2Ideal := hKernel2Ideal) (hReference2Ideal := hReference2Ideal) (hPre_finite_ff := hPre_finite_ff)
    ∧ preserves_Kernel3_Kernel3Ideal
    ∧ algebraic_Kernel3Ideal_Reference3Ideal_pre_finite_ple (hKernel3Ideal := hKernel3Ideal) (hReference3Ideal := hReference3Ideal) (hPre_finite_ple := hPre_finite_ple)
    ∧ preserves_Kernel4_Kernel4Ideal
    ∧ algebraic_Kernel4Ideal_Reference4Ideal_pre_finite_inproj (hKernel4Ideal := hKernel4Ideal) (hReference4Ideal := hReference4Ideal) (hPre_finite_inproj := hPre_finite_inproj)
    ∧ preserves_Kernel5_Kernel5Ideal
    ∧ algebraic_Kernel5Ideal_Reference5Ideal_pre_finite_loss (hKernel5Ideal := hKernel5Ideal) (hReference5Ideal := hReference5Ideal) (hPre_finite_loss := hPre_finite_loss)
    ∧ preserves_Kernel6_Kernel6Ideal
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ preserves_Kernel17_Kernel17Ideal
    ∧ algebraic_Kernel17Ideal_Reference17Ideal (hKernel17Ideal := hKernel17Ideal) (hReference17Ideal := hReference17Ideal)
-- ==== Pre_finite_ff.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S4096x1024 1 × IVec S1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_inproj.lean ====
abbrev S4096x1024 : Shape := ⟨2, ![4096, 1024]⟩
abbrev S1024 : Shape := ⟨1, ![1024]⟩
abbrev S1024x4352 : Shape := ⟨2, ![1024, 4352]⟩
abbrev S4096x4352 : Shape := ⟨2, ![4096, 4352]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4352 : S_.BroadcastsInDim S1024x4352 (![] : Fin 0 → Fin S1024x4352.rank)
  bcast_S_S4096x4352 : S_.BroadcastsInDim S4096x4352 (![] : Fin 0 → Fin S4096x4352.rank)

variable [Facts]

def fn {F : FTy → Type} [FloatOps F] (main_arg0 : FVec F S4096x1024 .f32) (main_arg1 : FVec F S1024 .f32) (main_arg2 : FVec F S1024x4352 .f32) (main_arg3 : FVec F S4096x4352 .f32) (main_arg4 : FVec F S4096x1024 .f32) : IVec S4096x1024 1 × IVec S1024 1 × IVec S1024x4352 1 × IVec S4096x4352 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4352 .f32 := Host.absf main_arg2
  let main_cst_1 : FVec F S_ .f32 := constant S_ .f32 0x7F800000#32
  let main_v7 : FVec F S1024x4352 .f32 := broadcastInDim S1024x4352 ![] bcast_S_S1024x4352 main_cst_1
  let main_v8 : IVec S1024x4352 1 := cmpf .olt main_v6 main_v7
  let main_v9 : FVec F S4096x4352 .f32 := Host.absf main_arg3
  let main_cst_2 : FVec F S_ .f32 := constant S_ .f32 0x7F800000#32
  let main_v10 : FVec F S4096x4352 .f32 := broadcastInDim S4096x4352 ![] bcast_S_S4096x4352 main_cst_2
  let main_v11 : IVec S4096x4352 1 := cmpf .olt main_v9 main_v10
  (main_v2, main_v5, main_v8, main_v11)
-- ==== Pre_finite_loss.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S4096x256 : S_.BroadcastsInDim S4096x256 (![] : Fin 0 → Fin S4096x256.rank)
  bcast_S_S4096x1024 : S_.BroadcastsInDim S4096x1024 (![] : Fin 0 → Fin S4096x1024.rank)
  bcast_S_S1024 : S_.BroadcastsInDim S1024 (![] : Fin 0 → Fin S1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn_part1 {F : FTy → Type} [FloatOps F] (main_arg6 : FVec F S1024 .f32) (main_v2 : IVec S4096x256 1) (main_v5 : IVec S4096x1024 1) (main_v8 : IVec S4096x1024 1) (main_v11 : IVec S1024 1) (main_v14 : IVec S256x1024 1) (main_v17 : IVec S1024x1024 1) : IVec S4096x256 1 × IVec S4096x1024 1 × IVec S4096x1024 1 × IVec S1024 1 × IVec S256x1024 1 × IVec S1024x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S4096x256 .f32) (main_arg1 : FVec F S4096x1024 .f32) (main_arg2 : FVec F S4096x1024 .f32) (main_arg3 : FVec F S1024 .f32) (main_arg4 : FVec F S256x1024 .f32) (main_arg5 : FVec F S1024x1024 .f32) (main_arg6 : FVec F S1024 .f32) : IVec S4096x256 1 × IVec S4096x1024 1 × IVec S4096x1024 1 × IVec S1024 1 × IVec S256x1024 1 × IVec S1024x1024 1 × IVec S1024 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_finite_ple.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S4096x256 : S_.BroadcastsInDim S4096x256 (![] : Fin 0 → Fin S4096x256.rank)
  bcast_S_S4096x1024 : S_.BroadcastsInDim S4096x1024 (![] : Fin 0 → Fin S4096x1024.rank)
  bcast_S_S1024 : S_.BroadcastsInDim S1024 (![] : Fin 0 → Fin S1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn {F : FTy → Type} [FloatOps F] (main_arg0 : FVec F S4096x256 .f32) (main_arg1 : FVec F S4096x1024 .f32) (main_arg2 : FVec F S1024 .f32) (main_arg3 : FVec F S256x1024 .f32) (main_arg4 : FVec F S1024x1024 .f32) (main_arg5 : FVec F S4096x1024 .f32) : IVec S4096x256 1 × IVec S4096x1024 1 × IVec S1024 1 × IVec S256x1024 1 × IVec S1024x1024 1 × IVec S4096x1024 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x2048 : Shape := ⟨2, ![4096, 2048]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S512x4x256 : Shape := ⟨3, ![512, 4, 256]⟩
abbrev S4x512x256 : Shape := ⟨3, ![4, 512, 256]⟩
abbrev S512x2048 : Shape := ⟨2, ![512, 2048]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 22
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x512, .bf16⟩
  | .hbm, ⟨9, _⟩ => ⟨S4096x512, .bf16⟩
  | .hbm, ⟨10, _⟩ => ⟨S1024x1024, .bf16⟩
  | .hbm, ⟨11, _⟩ => ⟨S512x1024, .bf16⟩
  | .hbm, ⟨12, _⟩ => ⟨S512x4x256, .bf16⟩
  | .hbm, ⟨13, _⟩ => ⟨S4x512x256, .bf16⟩
  | .hbm, ⟨14, _⟩ => ⟨S512x1024, .bf16⟩
  | .hbm, ⟨15, _⟩ => ⟨S512x4x256, .bf16⟩
  | .hbm, ⟨16, _⟩ => ⟨S4x512x256, .bf16⟩
  | .hbm, ⟨17, _⟩ => ⟨S4096x1024, .bf16⟩
  | .hbm, ⟨18, _⟩ => ⟨S4096x1024, .bf16⟩
  | .hbm, ⟨19, _⟩ => ⟨S4096x2048, .bf16⟩
  | .hbm, ⟨20, _⟩ => ⟨S4096x512, .bf16⟩
  | .hbm, ⟨21, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S4x512x256, .bf16⟩
  | .local _ .vmem, ⟨10, _⟩ => ⟨S4x512x256, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x2048 : Shape := ⟨2, ![4096, 2048]⟩
abbrev S4096x512 : Shape := ⟨2, ![4096, 512]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x512, .f32⟩
  | .hbm, ⟨51, _⟩ => ⟨S4096x512, .f32⟩
  | .hbm, ⟨52, _⟩ => ⟨S4096x2048, .f32⟩
  | .hbm, ⟨53, _⟩ => ⟨S4096x1024, .bf16⟩
  | .hbm, ⟨54, _⟩ => ⟨S4096x1024, .bf16⟩
  | .hbm, ⟨55, _⟩ => ⟨S4096x2048, .bf16⟩
  | .hbm, ⟨56, _⟩ => ⟨S4096x512, .bf16⟩
  | .hbm, ⟨57, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S1x1024, .f32⟩
  | .hbm, ⟨27, _⟩ => ⟨S1024x4096, .bf16⟩
  | .hbm, ⟨28, _⟩ => ⟨S1024x4x1024, .bf16⟩
  | .hbm, ⟨29, _⟩ => ⟨S4x1024x1024, .bf16⟩
  | .hbm, ⟨30, _⟩ => ⟨S4096x1024, .bf16⟩
  | .hbm, ⟨31, _⟩ => ⟨S4096x4096, .bf16⟩
  | .hbm, ⟨32, _⟩ => ⟨S4096x1024, .bf16⟩
  | .hbm, ⟨33, _⟩ => ⟨S4096x1024, .f32⟩
  | .hbm, ⟨34, _⟩ => ⟨S4096x1024, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x1024x1024, .bf16⟩
  | .local _ .vmem, ⟨8, _⟩ => ⟨S4096x1024, .bf16⟩
  | .local _ .vmem, ⟨9, _⟩ => ⟨S256x4096, .bf16⟩
  | .local _ .vmem, ⟨10, _⟩ => ⟨S256x4096, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .bf16⟩
  | .hbm, ⟨77, _⟩ => ⟨S4096x1024, .bf16⟩
  | .hbm, ⟨78, _⟩ => ⟨S4096x1024, .bf16⟩
  | .hbm, ⟨79, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel3.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 30
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1024x1024, .bf16⟩
  | .hbm, ⟨26, _⟩ => ⟨S4096x1024, .bf16⟩
  | .hbm, ⟨27, _⟩ => ⟨S4096x1024, .bf16⟩
  | .hbm, ⟨28, _⟩ => ⟨S4096x1024, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S4096x1024, .bf16⟩
  | .hbm, ⟨79, _⟩ => ⟨S1x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x4352 : Shape := ⟨2, ![1024, 4352]⟩
abbrev S4096x4352 : Shape := ⟨2, ![4096, 4352]⟩
abbrev S4096x512 : Shape := ⟨2, ![4096, 512]⟩
abbrev S4096x256 : Shape := ⟨2, ![4096, 256]⟩
abbrev S4096x2048 : Shape := ⟨2, ![4096, 2048]⟩
abbrev S1x1024 : Shape := ⟨2, ![1, 1024]⟩
abbrev S4352x1024 : Shape := ⟨2, ![4352, 1024]⟩
abbrev S512x512 : Shape := ⟨2, ![512, 512]⟩
abbrev S512x256 : Shape := ⟨2, ![512, 256]⟩
abbrev S512x2048 : Shape := ⟨2, ![512, 2048]⟩
abbrev S512x1024 : Shape := ⟨2, ![512, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 22
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x4352, .f32⟩
  | .hbm, ⟨4, _⟩ => ⟨S4096x1024, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x256, .f32⟩
  | .hbm, ⟨14, _⟩ => ⟨S4096x256, .bf16⟩
  | .hbm, ⟨15, _⟩ => ⟨S4096x2048, .f32⟩
  | .hbm, ⟨16, _⟩ => ⟨S4096x2048, .bf16⟩
  | .hbm, ⟨17, _⟩ => ⟨S1x1024, .f32⟩
  | .hbm, ⟨18, _⟩ => ⟨S1024x4352, .bf16⟩
  | .hbm, ⟨19, _⟩ => ⟨S4352x1024, .bf16⟩
  | .hbm, ⟨20, _⟩ => ⟨S4096x1024, .f32⟩
  | .hbm, ⟨21, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S4352x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4352x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S1024 : Shape := ⟨1, ![1024]⟩
abbrev S1024x4352 : Shape := ⟨2, ![1024, 4352]⟩
abbrev S4096x4352 : Shape := ⟨2, ![4096, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x4352, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4352, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S512x256 : Shape := ⟨2, ![512, 256]⟩
abbrev S512x1024 : Shape := ⟨2, ![512, 1024]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 21
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S256x1024, .bf16⟩
  | .hbm, ⟨9, _⟩ => ⟨S256x4x256, .bf16⟩
  | .hbm, ⟨10, _⟩ => ⟨S4x256x256, .bf16⟩
  | .hbm, ⟨11, _⟩ => ⟨S1024x1024, .bf16⟩
  | .hbm, ⟨12, _⟩ => ⟨S1x1024, .f32⟩
  | .hbm, ⟨13, _⟩ => ⟨S4096x256, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S1x1024, .f32⟩
  | .hbm, ⟨19, _⟩ => ⟨S1x128, .f32⟩
  | .hbm, ⟨20, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x256x256, .bf16⟩
  | .local _ .vmem, ⟨8, _⟩ => ⟨S1024x1024, .bf16⟩
  | .local _ .vmem, ⟨9, _⟩ => ⟨S1x1024, .f32⟩
  | .local _ .vmem, ⟨10, _⟩ => ⟨S512x256, .bf16⟩
  | .local _ .vmem, ⟨11, _⟩ => ⟨S512x256, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x128, .f32⟩
  | .local _ .vmem, ⟨22, _⟩ => ⟨S1x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S4096x256, .f32⟩
  | 1 => ⟨S4096x1024, .f32⟩
  | 2 => ⟨S4096x1024, .f32⟩
  | 3 => ⟨S1024, .f32⟩
  | 4 => ⟨S256x1024, .f32⟩
  | 5 => ⟨S1024x1024, .f32⟩
  | 6 => ⟨S1024, .f32⟩
  | 7 => ⟨S_, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S4096x1024, .f32⟩
  | _ => ⟨S4096x256, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .bf16⟩
  | 18 => ⟨S4096x1024, .bf16⟩
  | 19 => ⟨S1x1024, .f32⟩
  | 20 => ⟨S1x128, .f32⟩
  | 21 => ⟨S1x1024, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_cst_16 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_22 : Ref sig .tc := ⟨.hbm, 105, rfl⟩
abbrev main_v75 : Ref sig .tc := ⟨.hbm, 106, rfl⟩
abbrev main_v76 : Ref sig .tc := ⟨.hbm, 107, rfl⟩
abbrev main_cst_23 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_24 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_25 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_27 : Ref sig .tc := ⟨.hbm, 135, rfl⟩
abbrev main_v100 : Ref sig .tc := ⟨.hbm, 136, rfl⟩
abbrev main_v101 : Ref sig .tc := ⟨.hbm, 137, rfl⟩
abbrev main_cst_28 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Kernel6.lean ====
abbrev S4096x2304 : Shape := ⟨2, ![4096, 2304]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4x2x32x128 : Shape := ⟨4, ![4, 2, 32, 128]⟩
abbrev S4x32x2x128 : Shape := ⟨4, ![4, 32, 2, 128]⟩
abbrev S4x32x256x1 : Shape := ⟨4, ![4, 32, 256, 1]⟩
abbrev S4x32x256x128 : Shape := ⟨4, ![4, 32, 256, 128]⟩
abbrev S4x32x8x128 : Shape := ⟨4, ![4, 32, 8, 128]⟩
abbrev S4x2x32x128x4096 : Shape := ⟨5, ![4, 2, 32, 128, 4096]⟩
abbrev S32 : Shape := ⟨1, ![32]⟩
abbrev S32x1x1 : Shape := ⟨3, ![32, 1, 1]⟩
abbrev S384 : Shape := ⟨1, ![384]⟩
abbrev S1x1x384 : Shape := ⟨3, ![1, 1, 384]⟩
abbrev S32x1x384 : Shape := ⟨3, ![32, 1, 384]⟩
abbrev S128 : Shape := ⟨1, ![128]⟩
abbrev S1x128x1 : Shape := ⟨3, ![1, 128, 1]⟩
abbrev S32x128x384 : Shape := ⟨3, ![32, 128, 384]⟩
abbrev S32x128x384x1 : Shape := ⟨4, ![32, 128, 384, 1]⟩
abbrev S32x128x384x3 : Shape := ⟨4, ![32, 128, 384, 3]⟩
abbrev S4x2x32x128x384 : Shape := ⟨5, ![4, 2, 32, 128, 384]⟩
abbrev S4x32x2x128x384 : Shape := ⟨5, ![4, 32, 2, 128, 384]⟩
abbrev S4x32x256x384 : Shape := ⟨4, ![4, 32, 256, 384]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x128 : Shape := ⟨2, ![256, 128]⟩
abbrev S4096x128 : Shape := ⟨2, ![4096, 128]⟩
abbrev S1x2x256x128 : Shape := ⟨4, ![1, 2, 256, 128]⟩
abbrev S1x2x8x128 : Shape := ⟨4, ![1, 2, 8, 128]⟩
abbrev S1x2x256x384 : Shape := ⟨4, ![1, 2, 256, 384]⟩
abbrev S2x256x128 : Shape := ⟨3, ![2, 256, 128]⟩
abbrev S1x1x8x128 : Shape := ⟨4, ![1, 1, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S384x128 : Shape := ⟨2, ![384, 128]⟩
abbrev S1x1x256x384 : Shape := ⟨4, ![1, 1, 256, 384]⟩
abbrev S256x384 : Shape := ⟨2, ![256, 384]⟩
abbrev S256x256 : Shape := ⟨2, ![256, 256]⟩
abbrev S1x256x128 : Shape := ⟨3, ![1, 256, 128]⟩
abbrev S1x1x256x128 : Shape := ⟨4, ![1, 1, 256, 128]⟩
abbrev S1x128x128 : Shape := ⟨3, ![1, 128, 128]⟩

abbrev nBuf : Space → Nat
  | .hbm => 213
  | .vmem => 29
  | .smem => 0
  | _ => 0

abbrev hbmTy0_0 (i : Nat) : BufTy := match i % 128 with
  | 0 => ⟨S4096x2304, .f32⟩
  | 1 => ⟨S4096x512, .f32⟩
  | 2 => ⟨S4096x512, .f32⟩
  | 3 => ⟨S4096x8x64, .f32⟩
  | 4 => ⟨S4096x512, .f32⟩
  | 5 => ⟨S4096x8x64, .f32⟩
  | 6 => ⟨S8x4096x4096, .f32⟩
  | 7 => ⟨S_, .f32⟩
  | 8 => ⟨S8x4096x4096, .f32⟩
  | 9 => ⟨S8x4096x4096, .f32⟩
  | 10 => ⟨S4096, .i32⟩
  | 11 => ⟨S1x4096, .i32⟩
  | 12 => ⟨S4096x1, .i32⟩
  | 13 => ⟨S4096x4096, .i32⟩
  | 14 => ⟨S4096x4096, .i32⟩
  | 15 => ⟨S4096x4096, .i1⟩
  | 16 => ⟨S8x4096x4096, .f32⟩
  | 17 => ⟨S_, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .i1⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .i1⟩
  | 40 => ⟨S8x4096x4096, .f32⟩
  | 41 => ⟨S8x4096x4096, .f32⟩
  | 42 => ⟨S8x4096x4096, .f32⟩
  | 43 => ⟨S8x4096x4096, .f32⟩
  | 44 => ⟨S8x4096x4096, .f32⟩
  | 45 => ⟨S8x4096x4096, .f32⟩
  | 46 => ⟨S8x4096x4096, .f32⟩
  | 47 => ⟨S8x4096x4096, .f32⟩
  | 48 => ⟨S8x4096x4096, .f32⟩
  | 49 => ⟨S_, .f32⟩
  | 50 => ⟨S_, .f32⟩
  | 51 => ⟨S8x4096x4096, .i1⟩
  | 52 => ⟨S8x4096x4096, .f32⟩
  | 53 => ⟨S8x4096x4096, .f32⟩
  | 54 => ⟨S_, .f32⟩
  | 55 => ⟨S8x4096, .f32⟩
  | 56 => ⟨S4x2x32x128, .f32⟩
  | 57 => ⟨S4x32x2x128, .f32⟩
  | 58 => ⟨S4x32x256x1, .f32⟩
  | 59 => ⟨S4x32x256x128, .f32⟩
  | 60 => ⟨S4x32x8x128, .i32⟩
  | 61 => ⟨S4x32x8x128, .f32⟩
  | 62 => ⟨S_, .f32⟩
  | 63 => ⟨S4x32x8x128, .f32⟩
  | 64 => ⟨S4x32x8x128, .f32⟩
  | 65 => ⟨S_, .f32⟩
  | 66 => ⟨S_, .f32⟩
  | 67 => ⟨S8x4096x4096, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S4x2x32x128x4096, .f32⟩
  | 77 => ⟨S32, .i32⟩
  | 78 => ⟨S32x1x1, .i32⟩
  | 79 => ⟨S_, .i32⟩
  | 80 => ⟨S32x1x1, .i32⟩
  | 81 => ⟨S32x1x1, .i32⟩
  | 82 => ⟨S_, .i32⟩
  | 83 => ⟨S32x1x1, .i32⟩
  | 84 => ⟨S32x1x1, .i32⟩
  | 85 => ⟨S_, .i32⟩
  | 86 => ⟨S32x1x1, .i32⟩
  | 87 => ⟨S32x1x1, .i32⟩
  | 88 => ⟨S384, .i32⟩
  | 89 => ⟨S1x1x384, .i32⟩
  | 90 => ⟨S32x1x384, .i32⟩
  | 91 => ⟨S32x1x384, .i32⟩
  | 92 => ⟨S32x1x384, .i32⟩
  | 93 => ⟨S128, .i32⟩
  | 94 => ⟨S1x128x1, .i32⟩
  | 95 => ⟨S_, .i32⟩
  | 96 => ⟨S32x1x1, .i32⟩
  | 97 => ⟨S32x1x1, .i1⟩
  | 98 => ⟨S_, .i32⟩
  | 99 => ⟨S32x1x1, .i32⟩
  | 100 => ⟨S32x1x1, .i32⟩
  | 101 => ⟨S32x1x1, .i32⟩
  | 102 => ⟨S_, .i32⟩
  | 103 => ⟨S1x128x1, .i32⟩
  | 104 => ⟨S1x128x1, .i1⟩
  | 105 => ⟨S_, .i32⟩
  | 106 => ⟨S1x128x1, .i32⟩
  | 107 => ⟨S1x128x1, .i32⟩
  | 108 => ⟨S1x128x1, .i32⟩
  | 109 => ⟨S_, .i32⟩
  | 110 => ⟨S32x1x384, .i32⟩
  | 111 => ⟨S32x1x384, .i1⟩
  | 112 => ⟨S_, .i32⟩
  | 113 => ⟨S32x1x384, .i32⟩
  | 114 => ⟨S32x1x384, .i32⟩
  | 115 => ⟨S32x1x384, .i32⟩
  | 116 => ⟨S32x128x384, .i32⟩
  | 117 => ⟨S32x128x384, .i32⟩
  | 118 => ⟨S32x128x384, .i32⟩
  | 119 => ⟨S32x128x384x1, .i32⟩
  | 120 => ⟨S32x128x384x1, .i32⟩
  | 121 => ⟨S32x128x384x1, .i32⟩
  | 122 => ⟨S32x128x384x3, .i32⟩
  | 123 => ⟨S4x2x32x128x384, .f32⟩
  | 124 => ⟨S4x32x2x128x384, .f32⟩
  | 125 => ⟨S4x32x256x384, .f32⟩
  | 126 => ⟨S4x32x256x384, .bf16⟩
  | 127 => ⟨S8x4096x4096, .f32⟩
  | _ => ⟨S4096x2304, .f32⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S4x2x32x128x4096, .f32⟩
  | 6 => ⟨S32, .i32⟩
  | 7 => ⟨S32x1x1, .i32⟩
  | 8 => ⟨S_, .i32⟩
  | 9 => ⟨S32x1x1, .i32⟩
  | 10 => ⟨S32x1x1, .i32⟩
  | 11 => ⟨S_, .i32⟩
  | 12 => ⟨S32x1x1, .i32⟩
  | 13 => ⟨S32x1x1, .i32⟩
  | 14 => ⟨S_, .i32⟩
  | 15 => ⟨S32x1x1, .i32⟩
  | 16 => ⟨S32x1x1, .i32⟩
  | 17 => ⟨S384, .i32⟩
  | 18 => ⟨S1x1x384, .i32⟩
  | 19 => ⟨S32x1x384, .i32⟩
  | 20 => ⟨S32x1x384, .i32⟩
  | 21 => ⟨S32x1x384, .i32⟩
  | 22 => ⟨S128, .i32⟩
  | 23 => ⟨S1x128x1, .i32⟩
  | 24 => ⟨S_, .i32⟩
  | 25 => ⟨S32x1x1, .i32⟩
  | 26 => ⟨S32x1x1, .i1⟩
  | 27 => ⟨S_, .i32⟩
  | 28 => ⟨S32x1x1, .i32⟩
  | 29 => ⟨S32x1x1, .i32⟩
  | 30 => ⟨S32x1x1, .i32⟩
  | 31 => ⟨S_, .i32⟩
  | 32 => ⟨S1x128x1, .i32⟩
  | 33 => ⟨S1x128x1, .i1⟩
  | 34 => ⟨S_, .i32⟩
  | 35 => ⟨S1x128x1, .i32⟩
  | 36 => ⟨S1x128x1, .i32⟩
  | 37 => ⟨S1x128x1, .i32⟩
  | 38 => ⟨S_, .i32⟩
  | 39 => ⟨S32x1x384, .i32⟩
  | 40 => ⟨S32x1x384, .i1⟩
  | 41 => ⟨S_, .i32⟩
  | 42 => ⟨S32x1x384, .i32⟩
  | 43 => ⟨S32x1x384, .i32⟩
  | 44 => ⟨S32x1x384, .i32⟩
  | 45 => ⟨S32x128x384, .i32⟩
  | 46 => ⟨S32x128x384, .i32⟩
  | 47 => ⟨S32x128x384, .i32⟩
  | 48 => ⟨S32x128x384x1, .i32⟩
  | 49 => ⟨S32x128x384x1, .i32⟩
  | 50 => ⟨S32x128x384x1, .i32⟩
  | 51 => ⟨S32x128x384x3, .i32⟩
  | 52 => ⟨S4x2x32x128x384, .f32⟩
  | 53 => ⟨S4x32x2x128x384, .f32⟩
  | 54 => ⟨S4x32x256x384, .f32⟩
  | 55 => ⟨S4x32x256x384, .bf16⟩
  | 56 => ⟨S4096x2304, .bf16⟩
  | 57 => ⟨S4096x512, .bf16⟩
  | 58 => ⟨S128, .i32⟩
  | 59 => ⟨S128x1, .i32⟩
  | 60 => ⟨S128, .i32⟩
  | 61 => ⟨S1x128, .i32⟩
  | 62 => ⟨S_, .f32⟩
  | 63 => ⟨S128x128, .f32⟩
  | 64 => ⟨S128x128, .i32⟩
  | 65 => ⟨S128x128, .i32⟩
  | 66 => ⟨S128x128, .i1⟩
  | 67 => ⟨S128x128, .f32⟩
  | 68 => ⟨S128x256, .f32⟩
  | 69 => ⟨S128x256, .bf16⟩
  | 70 => ⟨S128x128, .i32⟩
  | 71 => ⟨S128x128, .i32⟩
  | 72 => ⟨S128x128, .i1⟩
  | 73 => ⟨S128x128, .f32⟩
  | 74 => ⟨S128x256, .f32⟩
  | 75 => ⟨S128x256, .bf16⟩
  | 76 => ⟨S128x128, .i32⟩
  | 77 => ⟨S128x128, .i32⟩
  | 78 => ⟨S128x128, .i1⟩
  | 79 => ⟨S128x128, .f32⟩
  | 80 => ⟨S128x256, .f32⟩
  | 81 => ⟨S128x256, .bf16⟩
  | 82 => ⟨S4096x512, .bf16⟩
  | 83 => ⟨S4096x512, .bf16⟩
  | 84 => ⟨S4096x512, .bf16⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x2x256x128, .f32⟩
  | .local _ .vmem, ⟨7, _⟩ => ⟨S1x2x256x128, .f32⟩
  | .local _ .vmem, ⟨8, _⟩ => ⟨S1x2x8x128, .f32⟩
  | .local _ .vmem, ⟨9, _⟩ => ⟨S1x2x8x128, .f32⟩
  | .local _ .vmem, ⟨10, _⟩ => ⟨S256x128, .bf16⟩
  | .local _ .vmem, ⟨11, _⟩ => ⟨S256x128, .bf16⟩
  | .local _ .vmem, ⟨12, _⟩ => ⟨S128x256, .bf16⟩
  | .local _ .vmem, ⟨13, _⟩ => ⟨S128x256, .bf16⟩
  | .local _ .vmem, ⟨14, _⟩ => ⟨S1x2x256x384, .bf16⟩
  | .local _ .vmem, ⟨15, _⟩ => ⟨S1x2x256x384, .bf16⟩
  | .local _ .vmem, ⟨16, _⟩ => ⟨S1x2x256x384, .bf16⟩
  | .local _ .vmem, ⟨17, _⟩ => ⟨S1x2x256x384, .bf16⟩
  | .local _ .vmem, ⟨18, _⟩ => ⟨S256x128, .bf16⟩
  | .local _ .vmem, ⟨19, _⟩ => ⟨S256x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S2x256x128, .f32⟩
  | .local _ .vmem, ⟨25, _⟩ => ⟨S2x256x128, .f32⟩
  | .local _ .vmem, ⟨26, _⟩ => ⟨S2x256x128, .f32⟩
  | .local _ .vmem, ⟨27, _⟩ => ⟨S4096x128, .f32⟩
  | .local _ .vmem, ⟨28, _⟩ => ⟨S4096x128, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v15 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v16 : Ref sig .tc := ⟨.hbm, 53, rfl⟩
abbrev main_cst_1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_call3_cst : Ref sig .tc := ⟨.hbm, 65, rfl⟩
abbrev main_call3_v0 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_3 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c : Ref sig .tc := ⟨.hbm, 79, rfl⟩
abbrev main_v34 : Ref sig .tc := ⟨.hbm, 80, rfl⟩
abbrev main_v35 : Ref sig .tc := ⟨.hbm, 81, rfl⟩
abbrev main_c_4 : Ref sig .tc := ⟨.hbm, 82, rfl⟩
abbrev main_v36 : Ref sig .tc := ⟨.hbm, 83, rfl⟩
abbrev main_v37 : Ref sig .tc := ⟨.hbm, 84, rfl⟩
abbrev main_c_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_6 : Ref sig .tc := ⟨.hbm, 95, rfl⟩
abbrev main_v47 : Ref sig .tc := ⟨.hbm, 96, rfl⟩
abbrev main_v48 : Ref sig .tc := ⟨.hbm, 97, rfl⟩
abbrev main_c_7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_8 : Ref sig .tc := ⟨.hbm, 102, rfl⟩
abbrev main_v52 : Ref sig .tc := ⟨.hbm, 103, rfl⟩
abbrev main_v53 : Ref sig .tc := ⟨.hbm, 104, rfl⟩
abbrev main_c_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_10 : Ref sig .tc := ⟨.hbm, 109, rfl⟩
abbrev main_v57 : Ref sig .tc := ⟨.hbm, 110, rfl⟩
abbrev main_v58 : Ref sig .tc := ⟨.hbm, 111, rfl⟩
abbrev main_c_11 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_12 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_13 : Ref sig .tc := ⟨.hbm, 136, rfl⟩
abbrev main_v78 : Ref sig .tc := ⟨.hbm, 137, rfl⟩
abbrev main_v79 : Ref sig .tc := ⟨.hbm, 138, rfl⟩
abbrev main_c_14 : Ref sig .tc := ⟨.hbm, 139, rfl⟩
abbrev main_v80 : Ref sig .tc := ⟨.hbm, 140, rfl⟩
abbrev main_v81 : Ref sig .tc := ⟨.hbm, 141, rfl⟩
abbrev main_c_15 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_c_16 : Ref sig .tc := ⟨.hbm, 152, rfl⟩
abbrev main_v91 : Ref sig .tc := ⟨.hbm, 153, rfl⟩
abbrev main_v92 : Ref sig .tc := ⟨.hbm, 154, rfl⟩
abbrev main_c_17 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_18 : Ref sig .tc := ⟨.hbm, 159, rfl⟩
abbrev main_v96 : Ref sig .tc := ⟨.hbm, 160, rfl⟩
abbrev main_v97 : Ref sig .tc := ⟨.hbm, 161, rfl⟩
abbrev main_c_19 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_c_20 : Ref sig .tc := ⟨.hbm, 166, rfl⟩
abbrev main_v101 : Ref sig .tc := ⟨.hbm, 167, rfl⟩
abbrev main_v102 : Ref sig .tc := ⟨.hbm, 168, rfl⟩
abbrev main_c_21 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_22 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142_0 : Ref sig .tc := ⟨.hbm, 210, rfl⟩
abbrev main_v142_1 : Ref sig .tc := ⟨.hbm, 211, rfl⟩
abbrev main_v142_2 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 16], ![false, false]⟩

def k0_mult1 (i : grid0.Coords) (v63 : BitVec 32) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c128_i32_61 : BitVec 32 := 128#32
  let v117 : BitVec 32 := Scalar.muli v78 c128_i32_61
  v117
def k0_cond2 (i : grid0.Coords) (v63 : BitVec 32) (v73 : BitVec 32) : BitVec 1 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let c3_i32 : BitVec 32 := 3#32
  let v84 : BitVec 1 := Scalar.cmpi .eq v66 c3_i32
  let c2_i32_1 : BitVec 32 := 2#32
  let v11 : BitVec 32 := Scalar.muli arg1 c2_i32_1
  let c1_i32 : BitVec 32 := 1#32
  let v12 : BitVec 32 := Scalar.addi v11 c1_i32
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let c3_i32_37 : BitVec 32 := 3#32
  let v85 : BitVec 1 := Scalar.cmpi .eq v76 c3_i32_37
  let v86 : BitVec 1 := Scalar.andi v84 v85
  let v87 : BitVec 32 := Scalar.extui v86
  let c0_i32_38 : BitVec 32 := 0#32
  let v88 : BitVec 1 := Scalar.cmpi .ne v87 c0_i32_38
  v88

def k0_off1 (i : grid0.Coords) (v63 : BitVec 32) : Fin 2 → Nat :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c128_i32_61 : BitVec 32 := 128#32
  let v117 : BitVec 32 := Scalar.muli v78 c128_i32_61
  let v118 : BitVec 32 := v117
  let v119 : Index := Scalar.indexCast v118
  let c0_62 : Index := 0#32
  ![v119.toNat, 0]
def k0_mult2 (i : grid0.Coords) (v73 : BitVec 32) : BitVec 32 :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c128_i32_88 : BitVec 32 := 128#32
  let v177 : BitVec 32 := Scalar.muli v80 c128_i32_88
  v177
def k0_off2 (i : grid0.Coords) (v73 : BitVec 32) : Fin 2 → Nat :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c128_i32_88 : BitVec 32 := 128#32
  let v177 : BitVec 32 := Scalar.muli v80 c128_i32_88
  let v178 : BitVec 32 := v177
  let v179 : Index := Scalar.indexCast v178
  let c0_89 : Index := 0#32
  ![v179.toNat, 0]
@[reducible] def k0_t1_loop (i : grid0.Coords) (v63 : BitVec 32) : Scf.Loop 32 :=
  let c0_i32_75 : BitVec 32 := 0#32
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v130 : BitVec 32 := Scalar.subi v66 c0_i32_75
  let c1_i32_76 : BitVec 32 := 1#32
  let v132 : BitVec 32 := Scalar.divsi v130 c1_i32_76
  let v133 : BitVec 32 := Scalar.muli v132 c1_i32_76
  let v134 : BitVec 32 := Scalar.addi c0_i32_75 v133
  let c1_i32_77 : BitVec 32 := 1#32
  ⟨c0_i32_75, v134, c1_i32_77⟩
def k0_cond3 (i : grid0.Coords) (v63 : BitVec 32) (v73 : BitVec 32) : BitVec 1 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let c3_i32 : BitVec 32 := 3#32
  let v84 : BitVec 1 := Scalar.cmpi .eq v66 c3_i32
  let c2_i32_1 : BitVec 32 := 2#32
  let v11 : BitVec 32 := Scalar.muli arg1 c2_i32_1
  let c1_i32 : BitVec 32 := 1#32
  let v12 : BitVec 32 := Scalar.addi v11 c1_i32
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let c3_i32_37 : BitVec 32 := 3#32
  let v85 : BitVec 1 := Scalar.cmpi .eq v76 c3_i32_37
  let v86 : BitVec 1 := Scalar.andi v84 v85
  let v_true : BitVec 1 := 1#1
  let v89 : BitVec 1 := Scalar.xori v86 v_true
  let v90 : BitVec 32 := Scalar.extui v89
  let c0_i32_39 : BitVec 32 := 0#32
  let v91 : BitVec 1 := Scalar.cmpi .ne v90 c0_i32_39
  v91

def k0_mult3 (i : grid0.Coords) (v63 : BitVec 32) (k0_t1 : Fin (k0_t1_loop i v63).trips) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c0_i32_75 : BitVec 32 := 0#32
  let c1_i32_77 : BitVec 32 := 1#32
  let arg20 : BitVec 32 := Scf.iv c0_i32_75 c1_i32_77 k0_t1
  let v141 : BitVec 32 := Scalar.addi v78 arg20
  let c128_i32_85 : BitVec 32 := 128#32
  let v142 : BitVec 32 := Scalar.muli v141 c128_i32_85
  v142
def k0_off3 (i : grid0.Coords) (v63 : BitVec 32) (k0_t1 : Fin (k0_t1_loop i v63).trips) : Fin 2 → Nat :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c0_i32_75 : BitVec 32 := 0#32
  let c1_i32_77 : BitVec 32 := 1#32
  let arg20 : BitVec 32 := Scf.iv c0_i32_75 c1_i32_77 k0_t1
  let v141 : BitVec 32 := Scalar.addi v78 arg20
  let c128_i32_85 : BitVec 32 := 128#32
  let v142 : BitVec 32 := Scalar.muli v141 c128_i32_85
  let v143 : BitVec 32 := v142
  let v144 : Index := Scalar.indexCast v143
  let c0_86 : Index := 0#32
  ![v144.toNat, 0]
@[reducible] def k0_t2_loop (i : grid0.Coords) (v63 : BitVec 32) : Scf.Loop 32 :=
  let c0_i32_75 : BitVec 32 := 0#32
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v130 : BitVec 32 := Scalar.subi v66 c0_i32_75
  let c1_i32_76 : BitVec 32 := 1#32
  let v132 : BitVec 32 := Scalar.divsi v130 c1_i32_76
  let v133 : BitVec 32 := Scalar.muli v132 c1_i32_76
  let v134 : BitVec 32 := Scalar.addi c0_i32_75 v133
  let v131 : BitVec 32 := Scalar.addi c0_i32_75 v130
  let c1_i32_78 : BitVec 32 := 1#32
  ⟨v134, v131, c1_i32_78⟩
def k0_mult4 (i : grid0.Coords) (v63 : BitVec 32) (k0_t2 : Fin (k0_t2_loop i v63).trips) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c0_i32_75 : BitVec 32 := 0#32
  let v130 : BitVec 32 := Scalar.subi v66 c0_i32_75
  let c1_i32_76 : BitVec 32 := 1#32
  let v132 : BitVec 32 := Scalar.divsi v130 c1_i32_76
  let v133 : BitVec 32 := Scalar.muli v132 c1_i32_76
  let v134 : BitVec 32 := Scalar.addi c0_i32_75 v133
  let c1_i32_78 : BitVec 32 := 1#32
  let arg20 : BitVec 32 := Scf.iv v134 c1_i32_78 k0_t2
  let v141 : BitVec 32 := Scalar.addi v78 arg20
  let c128_i32_85 : BitVec 32 := 128#32
  let v142 : BitVec 32 := Scalar.muli v141 c128_i32_85
  v142
def k0_off4 (i : grid0.Coords) (v63 : BitVec 32) (k0_t2 : Fin (k0_t2_loop i v63).trips) : Fin 2 → Nat :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c1_i32_33 : BitVec 32 := 1#32
  let v77 : BitVec 32 := Scalar.addi v10 c1_i32_33
  let c1_i32_25 : BitVec 32 := 1#32
  let v64 : BitVec 32 := Scalar.addi v10 c1_i32_25
  let c1_i32_26 : BitVec 32 := 1#32
  let v65 : BitVec 32 := Scalar.maxsi c1_i32_26 v63
  let v66 : BitVec 32 := Scalar.minsi v64 v65
  let v78 : BitVec 32 := Scalar.subi v77 v66
  let c0_i32_75 : BitVec 32 := 0#32
  let v130 : BitVec 32 := Scalar.subi v66 c0_i32_75
  let c1_i32_76 : BitVec 32 := 1#32
  let v132 : BitVec 32 := Scalar.divsi v130 c1_i32_76
  let v133 : BitVec 32 := Scalar.muli v132 c1_i32_76
  let v134 : BitVec 32 := Scalar.addi c0_i32_75 v133
  let c1_i32_78 : BitVec 32 := 1#32
  let arg20 : BitVec 32 := Scf.iv v134 c1_i32_78 k0_t2
  let v141 : BitVec 32 := Scalar.addi v78 arg20
  let c128_i32_85 : BitVec 32 := 128#32
  let v142 : BitVec 32 := Scalar.muli v141 c128_i32_85
  let v143 : BitVec 32 := v142
  let v144 : Index := Scalar.indexCast v143
  let c0_86 : Index := 0#32
  ![v144.toNat, 0]
@[reducible] def k0_t3_loop (i : grid0.Coords) (v73 : BitVec 32) : Scf.Loop 32 :=
  let c0_i32_81 : BitVec 32 := 0#32
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v136 : BitVec 32 := Scalar.subi v76 c0_i32_81
  let c1_i32_82 : BitVec 32 := 1#32
  let v138 : BitVec 32 := Scalar.divsi v136 c1_i32_82
  let v139 : BitVec 32 := Scalar.muli v138 c1_i32_82
  let v140 : BitVec 32 := Scalar.addi c0_i32_81 v139
  let c1_i32_83 : BitVec 32 := 1#32
  ⟨c0_i32_81, v140, c1_i32_83⟩
def k0_mult5 (i : grid0.Coords) (v73 : BitVec 32) (k0_t3 : Fin (k0_t3_loop i v73).trips) : BitVec 32 :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c0_i32_81 : BitVec 32 := 0#32
  let c1_i32_83 : BitVec 32 := 1#32
  let arg20 : BitVec 32 := Scf.iv c0_i32_81 c1_i32_83 k0_t3
  let v141 : BitVec 32 := Scalar.addi v80 arg20
  let c128_i32_85 : BitVec 32 := 128#32
  let v142 : BitVec 32 := Scalar.muli v141 c128_i32_85
  v142
def k0_off5 (i : grid0.Coords) (v73 : BitVec 32) (k0_t3 : Fin (k0_t3_loop i v73).trips) : Fin 2 → Nat :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c0_i32_81 : BitVec 32 := 0#32
  let c1_i32_83 : BitVec 32 := 1#32
  let arg20 : BitVec 32 := Scf.iv c0_i32_81 c1_i32_83 k0_t3
  let v141 : BitVec 32 := Scalar.addi v80 arg20
  let c128_i32_85 : BitVec 32 := 128#32
  let v142 : BitVec 32 := Scalar.muli v141 c128_i32_85
  let v143 : BitVec 32 := v142
  let v144 : Index := Scalar.indexCast v143
  let c0_86 : Index := 0#32
  ![v144.toNat, 0]
@[reducible] def k0_t4_loop (i : grid0.Coords) (v73 : BitVec 32) : Scf.Loop 32 :=
  let c0_i32_81 : BitVec 32 := 0#32
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v136 : BitVec 32 := Scalar.subi v76 c0_i32_81
  let c1_i32_82 : BitVec 32 := 1#32
  let v138 : BitVec 32 := Scalar.divsi v136 c1_i32_82
  let v139 : BitVec 32 := Scalar.muli v138 c1_i32_82
  let v140 : BitVec 32 := Scalar.addi c0_i32_81 v139
  let v137 : BitVec 32 := Scalar.addi c0_i32_81 v136
  let c1_i32_84 : BitVec 32 := 1#32
  ⟨v140, v137, c1_i32_84⟩
def k0_mult6 (i : grid0.Coords) (v73 : BitVec 32) (k0_t4 : Fin (k0_t4_loop i v73).trips) : BitVec 32 :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c0_i32_81 : BitVec 32 := 0#32
  let v136 : BitVec 32 := Scalar.subi v76 c0_i32_81
  let c1_i32_82 : BitVec 32 := 1#32
  let v138 : BitVec 32 := Scalar.divsi v136 c1_i32_82
  let v139 : BitVec 32 := Scalar.muli v138 c1_i32_82
  let v140 : BitVec 32 := Scalar.addi c0_i32_81 v139
  let c1_i32_84 : BitVec 32 := 1#32
  let arg20 : BitVec 32 := Scf.iv v140 c1_i32_84 k0_t4
  let v141 : BitVec 32 := Scalar.addi v80 arg20
  let c128_i32_85 : BitVec 32 := 128#32
  let v142 : BitVec 32 := Scalar.muli v141 c128_i32_85
  v142
def k0_off6 (i : grid0.Coords) (v73 : BitVec 32) (k0_t4 : Fin (k0_t4_loop i v73).trips) : Fin 2 → Nat :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c1_i32_34 : BitVec 32 := 1#32
  let v79 : BitVec 32 := Scalar.addi v12 c1_i32_34
  let c1_i32_31 : BitVec 32 := 1#32
  let v74 : BitVec 32 := Scalar.addi v12 c1_i32_31
  let c1_i32_32 : BitVec 32 := 1#32
  let v75 : BitVec 32 := Scalar.maxsi c1_i32_32 v73
  let v76 : BitVec 32 := Scalar.minsi v74 v75
  let v80 : BitVec 32 := Scalar.subi v79 v76
  let c0_i32_81 : BitVec 32 := 0#32
  let v136 : BitVec 32 := Scalar.subi v76 c0_i32_81
  let c1_i32_82 : BitVec 32 := 1#32
  let v138 : BitVec 32 := Scalar.divsi v136 c1_i32_82
  let v139 : BitVec 32 := Scalar.muli v138 c1_i32_82
  let v140 : BitVec 32 := Scalar.addi c0_i32_81 v139
  let c1_i32_84 : BitVec 32 := 1#32
  let arg20 : BitVec 32 := Scf.iv v140 c1_i32_84 k0_t4
  let v141 : BitVec 32 := Scalar.addi v80 arg20
  let c128_i32_85 : BitVec 32 := 128#32
  let v142 : BitVec 32 := Scalar.muli v141 c128_i32_85
  let v143 : BitVec 32 := v142
  let v144 : Index := Scalar.indexCast v143
  let c0_86 : Index := 0#32
  ![v144.toNat, 0]

def k0_chk1 (i : grid0.Coords) (v63 : BitVec 32) (v73 : BitVec 32) : Prop :=
  (∀ (k0_h2 : k0_cond2 i v63 v73 = 1#1), 128 ∣ (k0_mult1 i v63).toNat) ∧
  (∀ (k0_h2 : k0_cond2 i v63 v73 = 1#1), ∀ a, (k0_off1 i v63) a + S384x128.size a ≤ S4096x128.size a) ∧
  (∀ (k0_h2 : k0_cond2 i v63 v73 = 1#1), 128 ∣ (k0_mult2 i v73).toNat) ∧
  (∀ (k0_h2 : k0_cond2 i v63 v73 = 1#1), ∀ a, (k0_off2 i v73) a + S384x128.size a ≤ S4096x128.size a) ∧
  (∀ (k0_h3 : k0_cond3 i v63 v73 = 1#1), (k0_t1_loop i v63).OK) ∧
  (∀ k0_t1 : Fin (k0_t1_loop i v63).trips, ∀ (k0_h3 : k0_cond3 i v63 v73 = 1#1), 128 ∣ (k0_mult3 i v63 k0_t1).toNat) ∧
  (∀ k0_t1 : Fin (k0_t1_loop i v63).trips, ∀ (k0_h3 : k0_cond3 i v63 v73 = 1#1), ∀ a, (k0_off3 i v63 k0_t1) a + S128x128.size a ≤ S4096x128.size a) ∧
  (∀ (k0_h3 : k0_cond3 i v63 v73 = 1#1), (k0_t2_loop i v63).OK) ∧
  (∀ k0_t2 : Fin (k0_t2_loop i v63).trips, ∀ (k0_h3 : k0_cond3 i v63 v73 = 1#1), 128 ∣ (k0_mult4 i v63 k0_t2).toNat) ∧
  (∀ k0_t2 : Fin (k0_t2_loop i v63).trips, ∀ (k0_h3 : k0_cond3 i v63 v73 = 1#1), ∀ a, (k0_off4 i v63 k0_t2) a + S128x128.size a ≤ S4096x128.size a) ∧
  (∀ (k0_h3 : k0_cond3 i v63 v73 = 1#1), (k0_t3_loop i v73).OK) ∧
  (∀ k0_t3 : Fin (k0_t3_loop i v73).trips, ∀ (k0_h3 : k0_cond3 i v63 v73 = 1#1), 128 ∣ (k0_mult5 i v73 k0_t3).toNat) ∧
  (∀ k0_t3 : Fin (k0_t3_loop i v73).trips, ∀ (k0_h3 : k0_cond3 i v63 v73 = 1#1), ∀ a, (k0_off5 i v73 k0_t3) a + S128x128.size a ≤ S4096x128.size a) ∧
  (∀ (k0_h3 : k0_cond3 i v63 v73 = 1#1), (k0_t4_loop i v73).OK) ∧
  (∀ k0_t4 : Fin (k0_t4_loop i v73).trips, ∀ (k0_h3 : k0_cond3 i v63 v73 = 1#1), 128 ∣ (k0_mult6 i v73 k0_t4).toNat) ∧
  (∀ k0_t4 : Fin (k0_t4_loop i v73).trips, ∀ (k0_h3 : k0_cond3 i v63 v73 = 1#1), ∀ a, (k0_off6 i v73 k0_t4) a + S128x128.size a ≤ S4096x128.size a)
theorem k0_mult1_dvd : ∀ (i : grid0.Coords) (v63 : BitVec 32) (v73 : BitVec 32) (k0_hw1 : k0_chk1 i v63 v73), ∀ (k0_h2 : k0_cond2 i v63 v73 = 1#1), 128 ∣ (k0_mult1 i v63).toNat := fun i v63 v73 k0_hw1 k0_h2 => k0_hw1.1 k0_h2
theorem k0_off1_inb : ∀ (i : grid0.Coords) (v63 : BitVec 32) (v73 : BitVec 32) (k0_hw1 : k0_chk1 i v63 v73), ∀ (k0_h2 : k0_cond2 i v63 v73 = 1#1), ∀ a, (k0_off1 i v63) a + S384x128.size a ≤ S4096x128.size a := fun i v63 v73 k0_hw1 k0_h2 => k0_hw1.2.1 k0_h2
theorem k0_mult2_dvd : ∀ (i : grid0.Coords) (v63 : BitVec 32) (v73 : BitVec 32) (k0_hw1 : k0_chk1 i v63 v73), ∀ (k0_h2 : k0_cond2 i v63 v73 = 1#1), 128 ∣ (k0_mult2 i v73).toNat := fun i v63 v73 k0_hw1 k0_h2 => k0_hw1.2.2.1 k0_h2
theorem k0_off2_inb : ∀ (i : grid0.Coords) (v63 : BitVec 32) (v73 : BitVec 32) (k0_hw1 : k0_chk1 i v63 v73), ∀ (k0_h2 : k0_cond2 i v63 v73 = 1#1), ∀ a, (k0_off2 i v73) a + S384x128.size a ≤ S4096x128.size a := fun i v63 v73 k0_hw1 k0_h2 => k0_hw1.2.2.2.1 k0_h2
theorem k0_t1_ok : ∀ (i : grid0.Coords) (v63 : BitVec 32) (v73 : BitVec 32) (k0_hw1 : k0_chk1 i v63 v73), ∀ (k0_h3 : k0_cond3 i v63 v73 = 1#1), (k0_t1_loop i v63).OK := fun i v63 v73 k0_hw1 k0_h3 => k0_hw1.2.2.2.2.1 k0_h3
theorem k0_mult3_dvd : ∀ (i : grid0.Coords) (v63 : BitVec 32) (v73 : BitVec 32) (k0_hw1 : k0_chk1 i v63 v73) (k0_t1 : Fin (k0_t1_loop i v63).trips), ∀ (k0_h3 : k0_cond3 i v63 v73 = 1#1), 128 ∣ (k0_mult3 i v63 k0_t1).toNat := fun i v63 v73 k0_hw1 k0_t1 k0_h3 => k0_hw1.2.2.2.2.2.1 k0_t1 k0_h3
theorem k0_off3_inb : ∀ (i : grid0.Coords) (v63 : BitVec 32) (v73 : BitVec 32) (k0_hw1 : k0_chk1 i v63 v73) (k0_t1 : Fin (k0_t1_loop i v63).trips), ∀ (k0_h3 : k0_cond3 i v63 v73 = 1#1), ∀ a, (k0_off3 i v63 k0_t1) a + S128x128.size a ≤ S4096x128.size a := fun i v63 v73 k0_hw1 k0_t1 k0_h3 => k0_hw1.2.2.2.2.2.2.1 k0_t1 k0_h3
theorem k0_t2_ok : ∀ (i : grid0.Coords) (v63 : BitVec 32) (v73 : BitVec 32) (k0_hw1 : k0_chk1 i v63 v73), ∀ (k0_h3 : k0_cond3 i v63 v73 = 1#1), (k0_t2_loop i v63).OK := fun i v63 v73 k0_hw1 k0_h3 => k0_hw1.2.2.2.2.2.2.2.1 k0_h3
theorem k0_mult4_dvd : ∀ (i : grid0.Coords) (v63 : BitVec 32) (v73 : BitVec 32) (k0_hw1 : k0_chk1 i v63 v73) (k0_t2 : Fin (k0_t2_loop i v63).trips), ∀ (k0_h3 : k0_cond3 i v63 v73 = 1#1), 128 ∣ (k0_mult4 i v63 k0_t2).toNat := fun i v63 v73 k0_hw1 k0_t2 k0_h3 => k0_hw1.2.2.2.2.2.2.2.2.1 k0_t2 k0_h3
theorem k0_off4_inb : ∀ (i : grid0.Coords) (v63 : BitVec 32) (v73 : BitVec 32) (k0_hw1 : k0_chk1 i v63 v73) (k0_t2 : Fin (k0_t2_loop i v63).trips), ∀ (k0_h3 : k0_cond3 i v63 v73 = 1#1), ∀ a, (k0_off4 i v63 k0_t2) a + S128x128.size a ≤ S4096x128.size a := fun i v63 v73 k0_hw1 k0_t2 k0_h3 => k0_hw1.2.2.2.2.2.2.2.2.2.1 k0_t2 k0_h3
theorem k0_t3_ok : ∀ (i : grid0.Coords) (v63 : BitVec 32) (v73 : BitVec 32) (k0_hw1 : k0_chk1 i v63 v73), ∀ (k0_h3 : k0_cond3 i v63 v73 = 1#1), (k0_t3_loop i v73).OK := fun i v63 v73 k0_hw1 k0_h3 => k0_hw1.2.2.2.2.2.2.2.2.2.2.1 k0_h3
theorem k0_mult5_dvd : ∀ (i : grid0.Coords) (v63 : BitVec 32) (v73 : BitVec 32) (k0_hw1 : k0_chk1 i v63 v73) (k0_t3 : Fin (k0_t3_loop i v73).trips), ∀ (k0_h3 : k0_cond3 i v63 v73 = 1#1), 128 ∣ (k0_mult5 i v73 k0_t3).toNat := fun i v63 v73 k0_hw1 k0_t3 k0_h3 => k0_hw1.2.2.2.2.2.2.2.2.2.2.2.1 k0_t3 k0_h3
theorem k0_off5_inb : ∀ (i : grid0.Coords) (v63 : BitVec 32) (v73 : BitVec 32) (k0_hw1 : k0_chk1 i v63 v73) (k0_t3 : Fin (k0_t3_loop i v73).trips), ∀ (k0_h3 : k0_cond3 i v63 v73 = 1#1), ∀ a, (k0_off5 i v73 k0_t3) a + S128x128.size a ≤ S4096x128.size a := fun i v63 v73 k0_hw1 k0_t3 k0_h3 => k0_hw1.2.2.2.2.2.2.2.2.2.2.2.2.1 k0_t3 k0_h3
theorem k0_t4_ok : ∀ (i : grid0.Coords) (v63 : BitVec 32) (v73 : BitVec 32) (k0_hw1 : k0_chk1 i v63 v73), ∀ (k0_h3 : k0_cond3 i v63 v73 = 1#1), (k0_t4_loop i v73).OK := fun i v63 v73 k0_hw1 k0_h3 => k0_hw1.2.2.2.2.2.2.2.2.2.2.2.2.2.1 k0_h3
theorem k0_mult6_dvd : ∀ (i : grid0.Coords) (v63 : BitVec 32) (v73 : BitVec 32) (k0_hw1 : k0_chk1 i v63 v73) (k0_t4 : Fin (k0_t4_loop i v73).trips), ∀ (k0_h3 : k0_cond3 i v63 v73 = 1#1), 128 ∣ (k0_mult6 i v73 k0_t4).toNat := fun i v63 v73 k0_hw1 k0_t4 k0_h3 => k0_hw1.2.2.2.2.2.2.2.2.2.2.2.2.2.2.1 k0_t4 k0_h3
theorem k0_off6_inb : ∀ (i : grid0.Coords) (v63 : BitVec 32) (v73 : BitVec 32) (k0_hw1 : k0_chk1 i v63 v73) (k0_t4 : Fin (k0_t4_loop i v73).trips), ∀ (k0_h3 : k0_cond3 i v63 v73 = 1#1), ∀ a, (k0_off6 i v73 k0_t4) a + S128x128.size a ≤ S4096x128.size a := fun i v63 v73 k0_hw1 k0_t4 k0_h3 => k0_hw1.2.2.2.2.2.2.2.2.2.2.2.2.2.2.2 k0_t4 k0_h3

def k0_cond4 (i : grid0.Coords) : BitVec 1 :=
  let arg1 : BitVec 32 := BitVec.ofNat 32 (i 1).val
  let c15_i32 : BitVec 32 := 15#32
  let v114 : BitVec 1 := Scalar.cmpi .eq arg1 c15_i32
  let v115 : BitVec 32 := Scalar.extui v114
  let c0_i32_60 : BitVec 32 := 0#32
  let v116 : BitVec 1 := Scalar.cmpi .ne v115 c0_i32_60
  v116

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference6Ideal.lean ====
abbrev S4096x2304 : Shape := ⟨2, ![4096, 2304]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 176
  | .vmem => 0
  | .smem => 0
  | _ => 0

abbrev hbmTy0_0 (i : Nat) : BufTy := match i % 128 with
  | 0 => ⟨S4096x2304, .f32⟩
  | 1 => ⟨S4096x512, .f32⟩
  | 2 => ⟨S4096x512, .f32⟩
  | 3 => ⟨S4096x8x64, .f32⟩
  | 4 => ⟨S4096x512, .f32⟩
  | 5 => ⟨S4096x8x64, .f32⟩
  | 6 => ⟨S4096x512, .f32⟩
  | 7 => ⟨S4096x8x64, .f32⟩
  | 8 => ⟨S8x4096x4096, .f32⟩
  | 9 => ⟨S_, .f32⟩
  | 10 => ⟨S8x4096x4096, .f32⟩
  | 11 => ⟨S8x4096x4096, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S8x4096x4096, .f32⟩
  | 19 => ⟨S_, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .i1⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S_, .f32⟩
  | 34 => ⟨S8x4096x4096, .f32⟩
  | 35 => ⟨S8x4096x4096, .i1⟩
  | 36 => ⟨S_, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S8x4096x4096, .f32⟩
  | 46 => ⟨S8x4096x4096, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x4096x4096, .f32⟩
  | 55 => ⟨S8x4096x4096, .i1⟩
  | 56 => ⟨S_, .f32⟩
  | 57 => ⟨S8x4096x4096, .f32⟩
  | 58 => ⟨S8x4096x4096, .f32⟩
  | 59 => ⟨S8x4096x4096, .f32⟩
  | 60 => ⟨S8x4096x4096, .f32⟩
  | 61 => ⟨S8x4096x4096, .f32⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .i1⟩
  | 74 => ⟨S8x4096x4096, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .f32⟩
  | 82 => ⟨S_, .f32⟩
  | 83 => ⟨S8x4096x4096, .f32⟩
  | 84 => ⟨S8x4096x4096, .i1⟩
  | 85 => ⟨S_, .f32⟩
  | 86 => ⟨S8x4096x4096, .f32⟩
  | 87 => ⟨S8x4096x4096, .f32⟩
  | 88 => ⟨S_, .f32⟩
  | 89 => ⟨S8x4096x4096, .f32⟩
  | 90 => ⟨S8x4096x4096, .i1⟩
  | 91 => ⟨S_, .f32⟩
  | 92 => ⟨S8x4096x4096, .f32⟩
  | 93 => ⟨S8x4096x4096, .f32⟩
  | 94 => ⟨S8x4096x4096, .f32⟩
  | 95 => ⟨S8x4096x4096, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S8x4096x4096, .f32⟩
  | 104 => ⟨S8x4096x4096, .i1⟩
  | 105 => ⟨S_, .f32⟩
  | 106 => ⟨S8x4096x4096, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S8x4096x4096, .f32⟩
  | 113 => ⟨S8x4096x4096, .f32⟩
  | 114 => ⟨S8x4096x4096, .f32⟩
  | 115 => ⟨S_, .f32⟩
  | 116 => ⟨S_, .f32⟩
  | 117 => ⟨S8x4096x4096, .i1⟩
  | 118 => ⟨S8x4096x4096, .f32⟩
  | 119 => ⟨S8x4096x4096, .f32⟩
  | 120 => ⟨S_, .f32⟩
  | 121 => ⟨S8x4096x4096, .f32⟩
  | 122 => ⟨S_, .f32⟩
  | 123 => ⟨S_, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x2304, .f32⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S_, .f32⟩
  | 6 => ⟨S8x4096x4096, .f32⟩
  | 7 => ⟨S8x64x4096, .f32⟩
  | 8 => ⟨S4096x8x64, .f32⟩
  | 9 => ⟨S4096x512, .f32⟩
  | 10 => ⟨S4096x8x64, .f32⟩
  | 11 => ⟨S8x64x4096, .f32⟩
  | 12 => ⟨S8x4096x4096, .f32⟩
  | 13 => ⟨S8x64x4096, .f32⟩
  | 14 => ⟨S4096x8x64, .f32⟩
  | 15 => ⟨S_, .f32⟩
  | 16 => ⟨S8x4096x4096, .f32⟩
  | 17 => ⟨S8x4096x4096, .f32⟩
  | 18 => ⟨S8x4096x4096, .f32⟩
  | 19 => ⟨S8x4096x4096, .f32⟩
  | 20 => ⟨S_, .f32⟩
  | 21 => ⟨S_, .f32⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S_, .f32⟩
  | 36 => ⟨S8x4096x4096, .f32⟩
  | 37 => ⟨S8x4096x4096, .f32⟩
  | 38 => ⟨S8x4096x64, .f32⟩
  | 39 => ⟨S4096x8x64, .f32⟩
  | 40 => ⟨S8x4096x64, .f32⟩
  | 41 => ⟨S4096x8x64, .f32⟩
  | 42 => ⟨S4096x512, .f32⟩
  | 43 => ⟨S4096x512, .bf16⟩
  | 44 => ⟨S4096x512, .f32⟩
  | 45 => ⟨S4096x512, .bf16⟩
  | 46 => ⟨S4096x512, .f32⟩
  | 47 => ⟨S4096x512, .bf16⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v17_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v17_2 : Ref sig .tc := ⟨.hbm, 113, rfl⟩
abbrev main_v17_0 : Ref sig .tc := ⟨.hbm, 114, rfl⟩
abbrev main_cst_0 : Ref sig .tc := ⟨.hbm, 115, rfl⟩
abbrev main_call2_v0 : Ref sig .tc := ⟨.hbm, 116, rfl⟩
abbrev main_v18_1 : Ref sig .tc := ⟨.hbm, 117, rfl⟩
abbrev main_call2_v2 : Ref sig .tc := ⟨.hbm, 118, rfl⟩
abbrev main_v18_0 : Ref sig .tc := ⟨.hbm, 119, rfl⟩
abbrev main_call2_cst : Ref sig .tc := ⟨.hbm, 120, rfl⟩
abbrev main_v18_2 : Ref sig .tc := ⟨.hbm, 121, rfl⟩
abbrev main_call3_cst : Ref sig .tc := ⟨.hbm, 122, rfl⟩
abbrev main_call3_v0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call6_cst : Ref sig .tc := ⟨.hbm, 148, rfl⟩
abbrev main_call6_v0 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_call8_v0 : Ref sig .tc := ⟨.hbm, 155, rfl⟩
abbrev main_call8_v1 : Ref sig .tc := ⟨.hbm, 156, rfl⟩
abbrev main_v38 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== Kernel7.lean ====
abbrev S4096x2304 : Shape := ⟨2, ![4096, 2304]⟩
abbrev S8 : Shape := ⟨1, ![8]⟩
abbrev S32x8 : Shape := ⟨2, ![32, 8]⟩
abbrev S4096x512 : Shape := ⟨2, ![4096, 512]⟩
abbrev S128x256 : Shape := ⟨2, ![128, 256]⟩
abbrev S4096x128 : Shape := ⟨2, ![4096, 128]⟩
abbrev S4096x2x64 : Shape := ⟨3, ![4096, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S1x2x4x128x256 : Shape := ⟨5, ![1, 2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x4x128x128 : Shape := ⟨5, ![32, 2, 4, 128, 128]⟩
abbrev S32x2x4x128x384 : Shape := ⟨5, ![32, 2, 4, 128, 384]⟩
abbrev S32x4x256x384 : Shape := ⟨4, ![32, 4, 256, 384]⟩
abbrev S4x32x256x384 : Shape := ⟨4, ![4, 32, 256, 384]⟩
abbrev S4096x256 : Shape := ⟨2, ![4096, 256]⟩
abbrev S8x128 : Shape := ⟨2, ![8, 128]⟩
abbrev S512x128 : Shape := ⟨2, ![512, 128]⟩
abbrev S1x4x256x384 : Shape := ⟨4, ![1, 4, 256, 384]⟩
abbrev S256x256 : Shape := ⟨2, ![256, 256]⟩
abbrev S128x128 : Shape := ⟨2, ![128, 128]⟩
abbrev S256x128 : Shape := ⟨2, ![256, 128]⟩
abbrev S256x1 : Shape := ⟨2, ![256, 1]⟩
abbrev S1x1x256x256 : Shape := ⟨4, ![1, 1, 256, 256]⟩
abbrev S1x1x256x128 : Shape := ⟨4, ![1, 1, 256, 128]⟩
abbrev S1x128 : Shape := ⟨2, ![1, 128]⟩
abbrev S1 : Shape := ⟨1, ![1]⟩
abbrev S1x1 : Shape := ⟨2, ![1, 1]⟩

abbrev nBuf : Space → Nat
  | .hbm => 162
  | .vmem => 19
  | .smem => 0
  | _ => 0

abbrev hbmTy0_0 (i : Nat) : BufTy := match i % 128 with
  | 0 => ⟨S4096x2304, .f32⟩
  | 1 => ⟨S8, .f32⟩
  | 2 => ⟨S32x8, .f32⟩
  | 3 => ⟨S4096x512, .f32⟩
  | 4 => ⟨S128x256, .i32⟩
  | 5 => ⟨S4096x512, .f32⟩
  | 6 => ⟨S4096x128, .f32⟩
  | 7 => ⟨S4096x128, .f32⟩
  | 8 => ⟨S4096x2x64, .f32⟩
  | 9 => ⟨S128, .i32⟩
  | 10 => ⟨S128x1, .i32⟩
  | 11 => ⟨S256, .i32⟩
  | 12 => ⟨S1x256, .i32⟩
  | 13 => ⟨S_, .i32⟩
  | 14 => ⟨S128x1, .i32⟩
  | 15 => ⟨S128x1, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i32⟩
  | 25 => ⟨S128x256, .f32⟩
  | 26 => ⟨S_, .f32⟩
  | 27 => ⟨S128x256, .f32⟩
  | 28 => ⟨S128x256, .f32⟩
  | 29 => ⟨S128x256, .f32⟩
  | 30 => ⟨S_, .f32⟩
  | 31 => ⟨S128x256, .f32⟩
  | 32 => ⟨S128x256, .f32⟩
  | 33 => ⟨S_, .f32⟩
  | 34 => ⟨S128x256, .f32⟩
  | 35 => ⟨S128x256, .f32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i32⟩
  | 53 => ⟨S128x256, .i32⟩
  | 54 => ⟨S128x256x1, .i32⟩
  | 55 => ⟨S128x256x8, .f32⟩
  | 56 => ⟨S8x128x256, .f32⟩
  | 57 => ⟨S2x4x128x256, .f32⟩
  | 58 => ⟨S32x128x2x4x64, .f32⟩
  | 59 => ⟨S_, .f32⟩
  | 60 => ⟨S128x2x64, .f32⟩
  | 61 => ⟨S4224x2x64, .f32⟩
  | 62 => ⟨S33x128x2x64, .f32⟩
  | 63 => ⟨S32x128x2x64, .f32⟩
  | 64 => ⟨S32x128x2x64, .f32⟩
  | 65 => ⟨S32x256x2x64, .f32⟩
  | 66 => ⟨S32x2x256x128x4, .f32⟩
  | 67 => ⟨S32x2x4x128x256, .f32⟩
  | 68 => ⟨S_, .f32⟩
  | 69 => ⟨S32x2x4x128x256, .f32⟩
  | 70 => ⟨S32x2x4x128x256, .f32⟩
  | 71 => ⟨S1x2x4x128x256, .f32⟩
  | 72 => ⟨S32x2x4x128x256, .f32⟩
  | 73 => ⟨S32x2x4x128x256, .f32⟩
  | 74 => ⟨S128, .i32⟩
  | 75 => ⟨S128x1, .i32⟩
  | 76 => ⟨S256, .i32⟩
  | 77 => ⟨S1x256, .i32⟩
  | 78 => ⟨S_, .i32⟩
  | 79 => ⟨S128x1, .i32⟩
  | 80 => ⟨S128x1, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S32, .i32⟩
  | 92 => ⟨S32x1x1, .i32⟩
  | 93 => ⟨S_, .i32⟩
  | 94 => ⟨S32x1x1, .i32⟩
  | 95 => ⟨S32x1x1, .i32⟩
  | 96 => ⟨S_, .i32⟩
  | 97 => ⟨S32x1x1, .i32⟩
  | 98 => ⟨S32x1x1, .i32⟩
  | 99 => ⟨S1x1x256, .i32⟩
  | 100 => ⟨S32x1x256, .i32⟩
  | 101 => ⟨S32x1x256, .i32⟩
  | 102 => ⟨S32x1x256, .i32⟩
  | 103 => ⟨S1x128x256, .i1⟩
  | 104 => ⟨S_, .i32⟩
  | 105 => ⟨S32x1x256, .i32⟩
  | 106 => ⟨S32x1x256, .i1⟩
  | 107 => ⟨S32x128x256, .i1⟩
  | 108 => ⟨S32x128x256, .i1⟩
  | 109 => ⟨S32x128x256, .i1⟩
  | 110 => ⟨S32x1x1x128x256, .i1⟩
  | 111 => ⟨S_, .f32⟩
  | 112 => ⟨S_, .f32⟩
  | 113 => ⟨S32x2x4x128x256, .i1⟩
  | 114 => ⟨S32x2x4x128x256, .f32⟩
  | 115 => ⟨S32x2x4x128x256, .f32⟩
  | 116 => ⟨S2x4, .f32⟩
  | 117 => ⟨S1x2x4x1x1, .f32⟩
  | 118 => ⟨S_, .f32⟩
  | 119 => ⟨S32x2x4x128, .f32⟩
  | 120 => ⟨S32x2x4x128x1, .f32⟩
  | 121 => ⟨S32x2x4x128x1, .f32⟩
  | 122 => ⟨S32x2x4x128x1, .f32⟩
  | 123 => ⟨S32x2x4x128x256, .f32⟩
  | 124 => ⟨S32x2x4x128x256, .f32⟩
  | 125 => ⟨S32x2x4x128x256, .f32⟩
  | 126 => ⟨S_, .f32⟩
  | 127 => ⟨S32x2x4x128, .f32⟩
  | _ => ⟨S4096x2304, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x1, .f32⟩
  | 4 => ⟨S32x2x4x128x1, .f32⟩
  | 5 => ⟨S32x2x4x128x256, .f32⟩
  | 6 => ⟨S32x2x4x128x256, .f32⟩
  | 7 => ⟨S32x2x4x128x1, .f32⟩
  | 8 => ⟨S32x2x4x128x1, .f32⟩
  | 9 => ⟨S32x2x4x128x1, .f32⟩
  | 10 => ⟨S32x2x4x128x1, .f32⟩
  | 11 => ⟨S4096x2x64, .f32⟩
  | 12 => ⟨S_, .f32⟩
  | 13 => ⟨S128x2x64, .f32⟩
  | 14 => ⟨S4224x2x64, .f32⟩
  | 15 => ⟨S33x128x2x64, .f32⟩
  | 16 => ⟨S32x128x2x64, .f32⟩
  | 17 => ⟨S32x128x2x64, .f32⟩
  | 18 => ⟨S32x256x2x64, .f32⟩
  | 19 => ⟨S32x2x64x4x128, .f32⟩
  | 20 => ⟨S32x128x2x4x64, .f32⟩
  | 21 => ⟨S4096x512, .f32⟩
  | 22 => ⟨S32x2x4x128x128, .f32⟩
  | 23 => ⟨S32x2x4x128x384, .f32⟩
  | 24 => ⟨S32x4x256x384, .f32⟩
  | 25 => ⟨S4x32x256x384, .f32⟩
  | 26 => ⟨S4x32x256x384, .bf16⟩
  | 27 => ⟨S4096x2304, .bf16⟩
  | 28 => ⟨S4096x512, .bf16⟩
  | 29 => ⟨S4096x512, .bf16⟩
  | 30 => ⟨S4096x512, .bf16⟩
  | 31 => ⟨S4096x256, .bf16⟩
  | 32 => ⟨S8x128, .f32⟩
  | 33 => ⟨S8x128, .f32⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S128x256, .i32⟩
  | .local _ .vmem, ⟨9, _⟩ => ⟨S1x4x256x384, .bf16⟩
  | .local _ .vmem, ⟨10, _⟩ => ⟨S1x4x256x384, .bf16⟩
  | .local _ .vmem, ⟨11, _⟩ => ⟨S512x128, .bf16⟩
  | .local _ .vmem, ⟨12, _⟩ => ⟨S512x128, .bf16⟩
  | .local _ .vmem, ⟨13, _⟩ => ⟨S4096x256, .bf16⟩
  | .local _ .vmem, ⟨14, _⟩ => ⟨S8x128, .f32⟩
  | .local _ .vmem, ⟨15, _⟩ => ⟨S8x128, .f32⟩
  | .local _ .vmem, ⟨16, _⟩ => ⟨S256x256, .f32⟩
  | .local _ .vmem, ⟨17, _⟩ => ⟨S4096x128, .f32⟩
  | .local _ .vmem, ⟨18, _⟩ => ⟨S4096x128, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_21 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127_0 : Ref sig .tc := ⟨.hbm, 158, rfl⟩
abbrev main_v127_1 : Ref sig .tc := ⟨.hbm, 159, rfl⟩
abbrev main_v127_2 : Ref sig .tc := ⟨.hbm, 160, rfl⟩
abbrev main_v127_3 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4_i32 : BitVec 32 := 4#32
  let v30 : BitVec 32 := Scalar.muli arg1 c4_i32
  let c0_i32_10 : BitVec 32 := 0#32
  let v31 : BitVec 32 := Scalar.addi v30 c0_i32_10
  let c1_i32_38 : BitVec 32 := 1#32
  let v94 : BitVec 32 := Scalar.subi v31 c1_i32_38
  let c0_i32_39 : BitVec 32 := 0#32
  let v95 : BitVec 32 := Scalar.maxsi v94 c0_i32_39
  let c128_i32 : BitVec 32 := 128#32
  let v96 : BitVec 32 := Scalar.muli v95 c128_i32
  v96
def k0_mult2 (i : grid0.Coords) : BitVec 32 :=
  let arg1 : BitVec 32 := BitVec.ofNat 32 (i 1).val
  let c4_i32 : BitVec 32 := 4#32
  let v30 : BitVec 32 := Scalar.muli arg1 c4_i32
  let c0_i32_10 : BitVec 32 := 0#32
  let v31 : BitVec 32 := Scalar.addi v30 c0_i32_10
  let c128_i32_40 : BitVec 32 := 128#32
  let v98 : BitVec 32 := Scalar.muli v31 c128_i32_40
  v98
def k0_off1 (i : grid0.Coords) (c0_i32_10 : BitVec 32) : Fin 2 → Nat :=
  let arg1 : BitVec 32 := BitVec.ofNat 32 (i 1).val
  let c4_i32 : BitVec 32 := 4#32
  let v30 : BitVec 32 := Scalar.muli arg1 c4_i32
  let v31 : BitVec 32 := Scalar.addi v30 c0_i32_10
  let c1_i32_38 : BitVec 32 := 1#32
  let v94 : BitVec 32 := Scalar.subi v31 c1_i32_38
  let c0_i32_39 : BitVec 32 := 0#32
  let v95 : BitVec 32 := Scalar.maxsi v94 c0_i32_39
  let c128_i32 : BitVec 32 := 128#32
  let v96 : BitVec 32 := Scalar.muli v95 c128_i32
  let v97 : BitVec 32 := v96
  let v100 : Index := Scalar.indexCast v97
  let c0_41 : Index := 0#32
  ![v100.toNat, 0]
def k0_off2 (i : grid0.Coords) (c0_i32_10 : BitVec 32) : Fin 2 → Nat :=
  let arg1 : BitVec 32 := BitVec.ofNat 32 (i 1).val
  let c4_i32 : BitVec 32 := 4#32
  let v30 : BitVec 32 := Scalar.muli arg1 c4_i32
  let v31 : BitVec 32 := Scalar.addi v30 c0_i32_10
  let c128_i32_40 : BitVec 32 := 128#32
  let v98 : BitVec 32 := Scalar.muli v31 c128_i32_40
  let v99 : BitVec 32 := v98
  let v103 : Index := Scalar.indexCast v99
  let c0_42 : Index := 0#32
  ![v103.toNat, 0]
def k0_mult3 (i : grid0.Coords) : BitVec 32 :=
  let arg1 : BitVec 32 := BitVec.ofNat 32 (i 1).val
  let c4_i32 : BitVec 32 := 4#32
  let v30 : BitVec 32 := Scalar.muli arg1 c4_i32
  let c0_i32_10 : BitVec 32 := 0#32
  let v31 : BitVec 32 := Scalar.addi v30 c0_i32_10
  let c1_i32_43 : BitVec 32 := 1#32
  let v107 : BitVec 32 := Scalar.subi v31 c1_i32_43
  let c0_i32_44 : BitVec 32 := 0#32
  let v108 : BitVec 32 := Scalar.maxsi v107 c0_i32_44
  let c128_i32_45 : BitVec 32 := 128#32
  let v109 : BitVec 32 := Scalar.muli v108 c128_i32_45
  v109
def k0_mult4 (i : grid0.Coords) : BitVec 32 :=
  let arg1 : BitVec 32 := BitVec.ofNat 32 (i 1).val
  let c4_i32 : BitVec 32 := 4#32
  let v30 : BitVec 32 := Scalar.muli arg1 c4_i32
  let c0_i32_10 : BitVec 32 := 0#32
  let v31 : BitVec 32 := Scalar.addi v30 c0_i32_10
  let c128_i32_46 : BitVec 32 := 128#32
  let v111 : BitVec 32 := Scalar.muli v31 c128_i32_46
  v111
def k0_mult5 (i : grid0.Coords) : BitVec 32 :=
  let arg1 : BitVec 32 := BitVec.ofNat 32 (i 1).val
  let c4_i32_84 : BitVec 32 := 4#32
  let v209 : BitVec 32 := Scalar.muli arg1 c4_i32_84
  let c1_i32_85 : BitVec 32 := 1#32
  let v210 : BitVec 32 := Scalar.addi v209 c1_i32_85
  let c1_i32_114 : BitVec 32 := 1#32
  let v273 : BitVec 32 := Scalar.subi v210 c1_i32_114
  let c0_i32_115 : BitVec 32 := 0#32
  let v274 : BitVec 32 := Scalar.maxsi v273 c0_i32_115
  let c128_i32_116 : BitVec 32 := 128#32
  let v275 : BitVec 32 := Scalar.muli v274 c128_i32_116
  v275
def k0_mult6 (i : grid0.Coords) : BitVec 32 :=
  let arg1 : BitVec 32 := BitVec.ofNat 32 (i 1).val
  let c4_i32_84 : BitVec 32 := 4#32
  let v209 : BitVec 32 := Scalar.muli arg1 c4_i32_84
  let c1_i32_85 : BitVec 32 := 1#32
  let v210 : BitVec 32 := Scalar.addi v209 c1_i32_85
  let c128_i32_117 : BitVec 32 := 128#32
  let v277 : BitVec 32 := Scalar.muli v210 c128_i32_117
  v277
def k0_mult7 (i : grid0.Coords) : BitVec 32 :=
  let arg1 : BitVec 32 := BitVec.ofNat 32 (i 1).val
  let c4_i32_84 : BitVec 32 := 4#32
  let v209 : BitVec 32 := Scalar.muli arg1 c4_i32_84
  let c1_i32_85 : BitVec 32 := 1#32
  let v210 : BitVec 32 := Scalar.addi v209 c1_i32_85
  let c1_i32_120 : BitVec 32 := 1#32
  let v286 : BitVec 32 := Scalar.subi v210 c1_i32_120
  let c0_i32_121 : BitVec 32 := 0#32
  let v287 : BitVec 32 := Scalar.maxsi v286 c0_i32_121
  let c128_i32_122 : BitVec 32 := 128#32
  let v288 : BitVec 32 := Scalar.muli v287 c128_i32_122
  v288
def k0_mult8 (i : grid0.Coords) : BitVec 32 :=
  let arg1 : BitVec 32 := BitVec.ofNat 32 (i 1).val
  let c4_i32_84 : BitVec 32 := 4#32
  let v209 : BitVec 32 := Scalar.muli arg1 c4_i32_84
  let c1_i32_85 : BitVec 32 := 1#32
  let v210 : BitVec 32 := Scalar.addi v209 c1_i32_85
  let c128_i32_123 : BitVec 32 := 128#32
  let v290 : BitVec 32 := Scalar.muli v210 c128_i32_123
  v290
def k0_mult9 (i : grid0.Coords) : BitVec 32 :=
  let arg1 : BitVec 32 := BitVec.ofNat 32 (i 1).val
  let c4_i32_161 : BitVec 32 := 4#32
  let v388 : BitVec 32 := Scalar.muli arg1 c4_i32_161
  let c2_i32_162 : BitVec 32 := 2#32
  let v389 : BitVec 32 := Scalar.addi v388 c2_i32_162
  let c1_i32_192 : BitVec 32 := 1#32
  let v452 : BitVec 32 := Scalar.subi v389 c1_i32_192
  let c0_i32_193 : BitVec 32 := 0#32
  let v453 : BitVec 32 := Scalar.maxsi v452 c0_i32_193
  let c128_i32_194 : BitVec 32 := 128#32
  let v454 : BitVec 32 := Scalar.muli v453 c128_i32_194
  v454
def k0_mult10 (i : grid0.Coords) : BitVec 32 :=
  let arg1 : BitVec 32 := BitVec.ofNat 32 (i 1).val
  let c4_i32_161 : BitVec 32 := 4#32
  let v388 : BitVec 32 := Scalar.muli arg1 c4_i32_161
  let c2_i32_162 : BitVec 32 := 2#32
  let v389 : BitVec 32 := Scalar.addi v388 c2_i32_162
  let c128_i32_195 : BitVec 32 := 128#32
  let v456 : BitVec 32 := Scalar.muli v389 c128_i32_195
  v456
def k0_mult11 (i : grid0.Coords) : BitVec 32 :=
  let arg1 : BitVec 32 := BitVec.ofNat 32 (i 1).val
  let c4_i32_161 : BitVec 32 := 4#32
  let v388 : BitVec 32 := Scalar.muli arg1 c4_i32_161
  let c2_i32_162 : BitVec 32 := 2#32
  let v389 : BitVec 32 := Scalar.addi v388 c2_i32_162
  let c1_i32_198 : BitVec 32 := 1#32
  let v465 : BitVec 32 := Scalar.subi v389 c1_i32_198
  let c0_i32_199 : BitVec 32 := 0#32
  let v466 : BitVec 32 := Scalar.maxsi v465 c0_i32_199
  let c128_i32_200 : BitVec 32 := 128#32
  let v467 : BitVec 32 := Scalar.muli v466 c128_i32_200
  v467
def k0_mult12 (i : grid0.Coords) : BitVec 32 :=
  let arg1 : BitVec 32 := BitVec.ofNat 32 (i 1).val
  let c4_i32_161 : BitVec 32 := 4#32
  let v388 : BitVec 32 := Scalar.muli arg1 c4_i32_161
  let c2_i32_162 : BitVec 32 := 2#32
  let v389 : BitVec 32 := Scalar.addi v388 c2_i32_162
  let c128_i32_201 : BitVec 32 := 128#32
  let v469 : BitVec 32 := Scalar.muli v389 c128_i32_201
  v469
def k0_mult13 (i : grid0.Coords) : BitVec 32 :=
  let arg1 : BitVec 32 := BitVec.ofNat 32 (i 1).val
  let c4_i32_239 : BitVec 32 := 4#32
  let v567 : BitVec 32 := Scalar.muli arg1 c4_i32_239
  let c3_i32 : BitVec 32 := 3#32
  let v568 : BitVec 32 := Scalar.addi v567 c3_i32
  let c1_i32_268 : BitVec 32 := 1#32
  let v631 : BitVec 32 := Scalar.subi v568 c1_i32_268
  let c0_i32_269 : BitVec 32 := 0#32
  let v632 : BitVec 32 := Scalar.maxsi v631 c0_i32_269
  let c128_i32_270 : BitVec 32 := 128#32
  let v633 : BitVec 32 := Scalar.muli v632 c128_i32_270
  v633
def k0_mult14 (i : grid0.Coords) : BitVec 32 :=
  let arg1 : BitVec 32 := BitVec.ofNat 32 (i 1).val
  let c4_i32_239 : BitVec 32 := 4#32
  let v567 : BitVec 32 := Scalar.muli arg1 c4_i32_239
  let c3_i32 : BitVec 32 := 3#32
  let v568 : BitVec 32 := Scalar.addi v567 c3_i32
  let c128_i32_271 : BitVec 32 := 128#32
  let v635 : BitVec 32 := Scalar.muli v568 c128_i32_271
  v635
def k0_mult15 (i : grid0.Coords) : BitVec 32 :=
  let arg1 : BitVec 32 := BitVec.ofNat 32 (i 1).val
  let c4_i32_239 : BitVec 32 := 4#32
  let v567 : BitVec 32 := Scalar.muli arg1 c4_i32_239
  let c3_i32 : BitVec 32 := 3#32
  let v568 : BitVec 32 := Scalar.addi v567 c3_i32
  let c1_i32_274 : BitVec 32 := 1#32
  let v644 : BitVec 32 := Scalar.subi v568 c1_i32_274
  let c0_i32_275 : BitVec 32 := 0#32
  let v645 : BitVec 32 := Scalar.maxsi v644 c0_i32_275
  let c128_i32_276 : BitVec 32 := 128#32
  let v646 : BitVec 32 := Scalar.muli v645 c128_i32_276
  v646
def k0_mult16 (i : grid0.Coords) : BitVec 32 :=
  let arg1 : BitVec 32 := BitVec.ofNat 32 (i 1).val
  let c4_i32_239 : BitVec 32 := 4#32
  let v567 : BitVec 32 := Scalar.muli arg1 c4_i32_239
  let c3_i32 : BitVec 32 := 3#32
  let v568 : BitVec 32 := Scalar.addi v567 c3_i32
  let c128_i32_277 : BitVec 32 := 128#32
  let v648 : BitVec 32 := Scalar.muli v568 c128_i32_277
  v648
def k0_cond3 (i : grid0.Coords) : BitVec 1 :=
  let arg1 : BitVec 32 := BitVec.ofNat 32 (i 1).val
  let c7_i32 : BitVec 32 := 7#32
  let v755 : BitVec 1 := Scalar.cmpi .eq arg1 c7_i32
  let v756 : BitVec 32 := Scalar.extui v755
  let c0_i32_323 : BitVec 32 := 0#32
  let v757 : BitVec 1 := Scalar.cmpi .ne v756 c0_i32_323
  v757

@[reducible] def k0_t1_loop : Scf.Loop 32 :=
  let c0_i32_330 : BitVec 32 := 0#32
  let c32_i32 : BitVec 32 := 32#32
  let v766 : BitVec 32 := Scalar.addi c0_i32_330 c32_i32
  let c1_i32_331 : BitVec 32 := 1#32
  ⟨c0_i32_330, v766, c1_i32_331⟩
@[reducible] def k0_t2_loop : Scf.Loop 32 :=
  let c0_i32_338 : BitVec 32 := 0#32
  let c32_i32_339 : BitVec 32 := 32#32
  let v773 : BitVec 32 := Scalar.addi c0_i32_338 c32_i32_339
  let c1_i32_340 : BitVec 32 := 1#32
  ⟨c0_i32_338, v773, c1_i32_340⟩
def k0_cond4 (i : grid0.Coords) : BitVec 1 :=
  let arg1 : BitVec 32 := BitVec.ofNat 32 (i 1).val
  let c7_i32_324 : BitVec 32 := 7#32
  let v758 : BitVec 1 := Scalar.cmpi .eq arg1 c7_i32_324
  let arg0 : BitVec 32 := BitVec.ofNat 32 (i 0).val
  let c3_i32_325 : BitVec 32 := 3#32
  let v759 : BitVec 1 := Scalar.cmpi .eq arg0 c3_i32_325
  let v760 : BitVec 1 := Scalar.andi v758 v759
  let v761 : BitVec 32 := Scalar.extui v760
  let c0_i32_326 : BitVec 32 := 0#32
  let v762 : BitVec 1 := Scalar.cmpi .ne v761 c0_i32_326
  v762

def k0_cond1 (i : grid0.Coords) : BitVec 1 :=
  let arg1 : BitVec 32 := BitVec.ofNat 32 (i 1).val
  let c0_i32_4 : BitVec 32 := 0#32
  let v20 : BitVec 1 := Scalar.cmpi .eq arg1 c0_i32_4
  let arg0 : BitVec 32 := BitVec.ofNat 32 (i 0).val
  let c0_i32_5 : BitVec 32 := 0#32
  let v21 : BitVec 1 := Scalar.cmpi .eq arg0 c0_i32_5
  let v22 : BitVec 1 := Scalar.andi v20 v21
  let v23 : BitVec 32 := Scalar.extui v22
  let c0_i32_6 : BitVec 32 := 0#32
  let v24 : BitVec 1 := Scalar.cmpi .ne v23 c0_i32_6
  v24

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![c0_i32.toNat, c17_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4096x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference7Ideal.lean ====
abbrev S4096x2304 : Shape := ⟨2, ![4096, 2304]⟩
abbrev S8 : Shape := ⟨1, ![8]⟩
abbrev S32x8 : Shape := ⟨2, ![32, 8]⟩
abbrev S4096x512 : Shape := ⟨2, ![4096, 512]⟩
abbrev S4096x128 : Shape := ⟨2, ![4096, 128]⟩
abbrev S4096x2x64 : Shape := ⟨3, ![4096, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S1x2x4x128x256 : Shape := ⟨5, ![1, 2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x256 : Shape := ⟨4, ![32, 2, 64, 256]⟩
abbrev S2x4x1 : Shape := ⟨3, ![2, 4, 1]⟩
abbrev S32x2x128x4x64 : Shape := ⟨5, ![32, 2, 128, 4, 64]⟩
abbrev S32x2x256x64 : Shape := ⟨4, ![32, 2, 256, 64]⟩
abbrev S4096x256 : Shape := ⟨2, ![4096, 256]⟩
abbrev S8x1 : Shape := ⟨2, ![8, 1]⟩
abbrev S8x128 : Shape := ⟨2, ![8, 128]⟩
abbrev S8x32 : Shape := ⟨2, ![8, 32]⟩

abbrev nBuf : Space → Nat
  | .hbm => 290
  | .vmem => 0
  | .smem => 0
  | _ => 0

abbrev hbmTy0_0 (i : Nat) : BufTy := match i % 128 with
  | 0 => ⟨S4096x2304, .f32⟩
  | 1 => ⟨S8, .f32⟩
  | 2 => ⟨S32x8, .f32⟩
  | 3 => ⟨S4096x512, .f32⟩
  | 4 => ⟨S4096x512, .f32⟩
  | 5 => ⟨S4096x128, .f32⟩
  | 6 => ⟨S4096x128, .f32⟩
  | 7 => ⟨S4096x2x64, .f32⟩
  | 8 => ⟨S128, .i32⟩
  | 9 => ⟨S128x1, .i32⟩
  | 10 => ⟨S256, .i32⟩
  | 11 => ⟨S1x256, .i32⟩
  | 12 => ⟨S_, .i32⟩
  | 13 => ⟨S128x1, .i32⟩
  | 14 => ⟨S128x1, .i32⟩
  | 15 => ⟨S128x256, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i32⟩
  | 24 => ⟨S128x256, .f32⟩
  | 25 => ⟨S_, .f32⟩
  | 26 => ⟨S128x256, .f32⟩
  | 27 => ⟨S128x256, .f32⟩
  | 28 => ⟨S128x256, .f32⟩
  | 29 => ⟨S_, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S128x256, .i32⟩
  | 36 => ⟨S_, .i32⟩
  | 37 => ⟨S128x256, .i32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i32⟩
  | 52 => ⟨S128x256, .i32⟩
  | 53 => ⟨S128x256x1, .i32⟩
  | 54 => ⟨S128x256x8, .f32⟩
  | 55 => ⟨S8x128x256, .f32⟩
  | 56 => ⟨S2x4x128x256, .f32⟩
  | 57 => ⟨S32x128x2x4x64, .f32⟩
  | 58 => ⟨S_, .f32⟩
  | 59 => ⟨S128x2x64, .f32⟩
  | 60 => ⟨S4224x2x64, .f32⟩
  | 61 => ⟨S_, .f32⟩
  | 62 => ⟨S128x2x64, .f32⟩
  | 63 => ⟨S33x128x2x64, .f32⟩
  | 64 => ⟨S32x128x2x64, .f32⟩
  | 65 => ⟨S32x128x2x64, .f32⟩
  | 66 => ⟨S32x256x2x64, .f32⟩
  | 67 => ⟨S32x2x256x128x4, .f32⟩
  | 68 => ⟨S32x2x4x128x256, .f32⟩
  | 69 => ⟨S_, .f32⟩
  | 70 => ⟨S32x2x4x128x256, .f32⟩
  | 71 => ⟨S32x2x4x128x256, .f32⟩
  | 72 => ⟨S1x2x4x128x256, .f32⟩
  | 73 => ⟨S32x2x4x128x256, .f32⟩
  | 74 => ⟨S32x2x4x128x256, .f32⟩
  | 75 => ⟨S128, .i32⟩
  | 76 => ⟨S128x1, .i32⟩
  | 77 => ⟨S256, .i32⟩
  | 78 => ⟨S1x256, .i32⟩
  | 79 => ⟨S_, .i32⟩
  | 80 => ⟨S128x1, .i32⟩
  | 81 => ⟨S128x1, .i32⟩
  | 82 => ⟨S128x256, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i1⟩
  | 91 => ⟨S128x256, .i1⟩
  | 92 => ⟨S32, .i32⟩
  | 93 => ⟨S32x1x1, .i32⟩
  | 94 => ⟨S_, .i32⟩
  | 95 => ⟨S32x1x1, .i32⟩
  | 96 => ⟨S32x1x1, .i32⟩
  | 97 => ⟨S_, .i32⟩
  | 98 => ⟨S32x1x1, .i32⟩
  | 99 => ⟨S32x1x1, .i32⟩
  | 100 => ⟨S1x1x256, .i32⟩
  | 101 => ⟨S32x1x256, .i32⟩
  | 102 => ⟨S32x1x256, .i32⟩
  | 103 => ⟨S32x1x256, .i32⟩
  | 104 => ⟨S1x128x256, .i1⟩
  | 105 => ⟨S_, .i32⟩
  | 106 => ⟨S32x1x256, .i32⟩
  | 107 => ⟨S32x1x256, .i1⟩
  | 108 => ⟨S32x128x256, .i1⟩
  | 109 => ⟨S32x128x256, .i1⟩
  | 110 => ⟨S32x128x256, .i1⟩
  | 111 => ⟨S32x1x1x128x256, .i1⟩
  | 112 => ⟨S_, .f32⟩
  | 113 => ⟨S_, .f32⟩
  | 114 => ⟨S32x2x4x128x256, .i1⟩
  | 115 => ⟨S32x2x4x128x256, .f32⟩
  | 116 => ⟨S32x2x4x128x256, .f32⟩
  | 117 => ⟨S_, .f32⟩
  | 118 => ⟨S32x2x4x128x256, .f32⟩
  | 119 => ⟨S2x4, .f32⟩
  | 120 => ⟨S1x2x4x1x1, .f32⟩
  | 121 => ⟨S_, .f32⟩
  | 122 => ⟨S32x2x4x128, .f32⟩
  | 123 => ⟨S32x2x4x128x1, .f32⟩
  | 124 => ⟨S32x2x4x128x256, .f32⟩
  | 125 => ⟨S32x2x4x128x256, .i1⟩
  | 126 => ⟨S32x2x4x128x256, .f32⟩
  | 127 => ⟨S_, .f32⟩
  | _ => ⟨S4096x2304, .f32⟩

abbrev hbmTy0_1 (i : Nat) : BufTy := match i % 128 with
  | 0 => ⟨S32x2x4x128, .f32⟩
  | 1 => ⟨S32x2x4x128x1, .f32⟩
  | 2 => ⟨S32x2x4x128x1, .f32⟩
  | 3 => ⟨S32x2x4x128x1, .f32⟩
  | 4 => ⟨S32x2x4x128x1, .f32⟩
  | 5 => ⟨S32x2x4x128x1, .i1⟩
  | 6 => ⟨S32x2x4x128x1, .f32⟩
  | 7 => ⟨S32x2x4x128x1, .i1⟩
  | 8 => ⟨S_, .f32⟩
  | 9 => ⟨S32x2x4x128x1, .f32⟩
  | 10 => ⟨S_, .f32⟩
  | 11 => ⟨S32x2x4x128x1, .f32⟩
  | 12 => ⟨S_, .f32⟩
  | 13 => ⟨S32x2x4x128x1, .f32⟩
  | 14 => ⟨S32x2x4x128x1, .f32⟩
  | 15 => ⟨S32x2x4x128x1, .f32⟩
  | 16 => ⟨S32x2x4x128x1, .f32⟩
  | 17 => ⟨S32x2x4x128x1, .i1⟩
  | 18 => ⟨S32x2x4x128x1, .f32⟩
  | 19 => ⟨S32x2x4x128x1, .i1⟩
  | 20 => ⟨S_, .f32⟩
  | 21 => ⟨S32x2x4x128x1, .f32⟩
  | 22 => ⟨S_, .f32⟩
  | 23 => ⟨S32x2x4x128x1, .f32⟩
  | 24 => ⟨S_, .f32⟩
  | 25 => ⟨S32x2x4x128x1, .f32⟩
  | 26 => ⟨S32x2x4x128x1, .f32⟩
  | 27 => ⟨S32x2x4x128x1, .f32⟩
  | 28 => ⟨S32x2x4x128x256, .f32⟩
  | 29 => ⟨S32x2x4x128x256, .f32⟩
  | 30 => ⟨S32x2x4x128x256, .f32⟩
  | 31 => ⟨S_, .f32⟩
  | 32 => ⟨S32x2x4x128, .f32⟩
  | 33 => ⟨S32x2x4x128x1, .f32⟩
  | 34 => ⟨S32x2x4x128x1, .f32⟩
  | 35 => ⟨S32x2x4x128x1, .f32⟩
  | 36 => ⟨S32x2x4x128x1, .f32⟩
  | 37 => ⟨S32x2x4x128x1, .f32⟩
  | 38 => ⟨S32x2x4x128x256, .f32⟩
  | 39 => ⟨S32x2x4x128x256, .f32⟩
  | 40 => ⟨S32x2x4x128x1, .f32⟩
  | 41 => ⟨S_, .f32⟩
  | 42 => ⟨S32x2x4x128x1, .f32⟩
  | 43 => ⟨S32x2x4x128x1, .f32⟩
  | 44 => ⟨S32x2x4x128x1, .f32⟩
  | 45 => ⟨S32x2x4x128x1, .f32⟩
  | 46 => ⟨S32x2x4x128x1, .f32⟩
  | 47 => ⟨S32x2x4x128x1, .f32⟩
  | 48 => ⟨S32x2x4x128x1, .f32⟩
  | 49 => ⟨S_, .f32⟩
  | 50 => ⟨S32x2x4x128x1, .f32⟩
  | 51 => ⟨S32x2x4x128x1, .f32⟩
  | 52 => ⟨S4096x2x64, .f32⟩
  | 53 => ⟨S_, .f32⟩
  | 54 => ⟨S128x2x64, .f32⟩
  | 55 => ⟨S4224x2x64, .f32⟩
  | 56 => ⟨S_, .f32⟩
  | 57 => ⟨S128x2x64, .f32⟩
  | 58 => ⟨S33x128x2x64, .f32⟩
  | 59 => ⟨S32x128x2x64, .f32⟩
  | 60 => ⟨S32x128x2x64, .f32⟩
  | 61 => ⟨S32x256x2x64, .f32⟩
  | 62 => ⟨S32x2x64x4x128, .f32⟩
  | 63 => ⟨S32x128x2x4x64, .f32⟩
  | 64 => ⟨S4096x512, .f32⟩
  | 65 => ⟨S32x128x2x4x64, .f32⟩
  | 66 => ⟨S32x2x64x4x128, .f32⟩
  | 67 => ⟨S32x2x4x128x256, .f32⟩
  | 68 => ⟨S32x2x64x256, .f32⟩
  | 69 => ⟨S32x256x2x64, .f32⟩
  | 70 => ⟨S32x128x2x64, .f32⟩
  | 71 => ⟨S32x128x2x64, .f32⟩
  | 72 => ⟨S_, .f32⟩
  | 73 => ⟨S33x128x2x64, .f32⟩
  | 74 => ⟨S_, .f32⟩
  | 75 => ⟨S33x128x2x64, .f32⟩
  | 76 => ⟨S33x128x2x64, .f32⟩
  | 77 => ⟨S4224x2x64, .f32⟩
  | 78 => ⟨S128x2x64, .f32⟩
  | 79 => ⟨S4096x2x64, .f32⟩
  | 80 => ⟨S4096x128, .f32⟩
  | 81 => ⟨S32x2x4x128x256, .f32⟩
  | 82 => ⟨S32x2x4x128x256, .f32⟩
  | 83 => ⟨S32x2x4x128x256, .f32⟩
  | 84 => ⟨S_, .f32⟩
  | 85 => ⟨S32x2x4x128, .f32⟩
  | 86 => ⟨S32x2x4x128x1, .f32⟩
  | 87 => ⟨S32x2x4x128x1, .f32⟩
  | 88 => ⟨S32x2x4x128x256, .f32⟩
  | 89 => ⟨S32x2x4x128x256, .f32⟩
  | 90 => ⟨S32x2x4x128x1, .f32⟩
  | 91 => ⟨S_, .f32⟩
  | 92 => ⟨S2x4x1, .f32⟩
  | 93 => ⟨S1x2x4x1x1, .f32⟩
  | 94 => ⟨S32x2x4x128x1, .f32⟩
  | 95 => ⟨S_, .f32⟩
  | 96 => ⟨S32x2x4x128, .f32⟩
  | 97 => ⟨S32x2x4x128x256, .f32⟩
  | 98 => ⟨S32x2x4x128x256, .f32⟩
  | 99 => ⟨S32x2x4x128x256, .f32⟩
  | 100 => ⟨S32x2x4x128x256, .f32⟩
  | 101 => ⟨S_, .f32⟩
  | 102 => ⟨S32x2x4x128, .f32⟩
  | 103 => ⟨S32x2x4x128x1, .f32⟩
  | 104 => ⟨S32x2x4x128x1, .f32⟩
  | 105 => ⟨S32x2x4x128x1, .f32⟩
  | 106 => ⟨S_, .f32⟩
  | 107 => ⟨S2x4x1, .f32⟩
  | 108 => ⟨S1x2x4x1x1, .f32⟩
  | 109 => ⟨S1x2x4x1x1, .f32⟩
  | 110 => ⟨S32x2x4x128x1, .f32⟩
  | 111 => ⟨S_, .f32⟩
  | 112 => ⟨S32x2x4x128, .f32⟩
  | 113 => ⟨S32x2x4x128, .f32⟩
  | 114 => ⟨S32x2x4x128x256, .f32⟩
  | 115 => ⟨S32x2x4x128x256, .f32⟩
  | 116 => ⟨S32x2x4x128x256, .f32⟩
  | 117 => ⟨S_, .f32⟩
  | 118 => ⟨S2x4, .f32⟩
  | 119 => ⟨S8, .f32⟩
  | 120 => ⟨S_, .f32⟩
  | 121 => ⟨S32x2x4x128x256, .f32⟩
  | 122 => ⟨S32x2x4x128x256, .f32⟩
  | 123 => ⟨S_, .f32⟩
  | 124 => ⟨S2x4x128x256, .f32⟩
  | 125 => ⟨S1x2x4x128x256, .f32⟩
  | 126 => ⟨S_, .f32⟩
  | 127 => ⟨S2x4x128x256, .f32⟩
  | _ => ⟨S4096x2304, .f32⟩

abbrev hbmTy0_2 (i : Nat) : BufTy := match i % 128 with
  | 0 => ⟨S_, .f32⟩
  | 1 => ⟨S32x2x4x128x256, .f32⟩
  | 2 => ⟨S32x2x4x128x256, .f32⟩
  | 3 => ⟨S32x2x256x128x4, .f32⟩
  | 4 => ⟨S32x2x128x4x64, .f32⟩
  | 5 => ⟨S32x128x2x4x64, .f32⟩
  | 6 => ⟨S32x2x256x64, .f32⟩
  | 7 => ⟨S32x256x2x64, .f32⟩
  | 8 => ⟨S32x128x2x64, .f32⟩
  | 9 => ⟨S32x128x2x64, .f32⟩
  | 10 => ⟨S_, .f32⟩
  | 11 => ⟨S33x128x2x64, .f32⟩
  | 12 => ⟨S_, .f32⟩
  | 13 => ⟨S33x128x2x64, .f32⟩
  | 14 => ⟨S33x128x2x64, .f32⟩
  | 15 => ⟨S4224x2x64, .f32⟩
  | 16 => ⟨S128x2x64, .f32⟩
  | 17 => ⟨S4096x2x64, .f32⟩
  | 18 => ⟨S4096x512, .f32⟩
  | 19 => ⟨S8x128x256, .f32⟩
  | 20 => ⟨S128x256x8, .f32⟩
  | 21 => ⟨S_, .f32⟩
  | 22 => ⟨S32x8, .f32⟩
  | 23 => ⟨S32x8, .f32⟩
  | 24 => ⟨S4096x128, .f32⟩
  | 25 => ⟨S4096x512, .bf16⟩
  | 26 => ⟨S4096x256, .f32⟩
  | 27 => ⟨S4096x256, .bf16⟩
  | 28 => ⟨S8x1, .f32⟩
  | 29 => ⟨S8x128, .f32⟩
  | 30 => ⟨S8x32, .f32⟩
  | 31 => ⟨S_, .i32⟩
  | 32 => ⟨S_, .f32⟩
  | 33 => ⟨S8x128, .f32⟩
  | _ => ⟨S4096x2304, .f32⟩

abbrev hbmTy (i : Nat) : BufTy := match i / 128 with
  | 0 => hbmTy0_0 i
  | 1 => hbmTy0_1 i
  | 2 => hbmTy0_2 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_13 : Ref sig .tc := ⟨.hbm, 85, rfl⟩
abbrev main_v66 : Ref sig .tc := ⟨.hbm, 86, rfl⟩
abbrev main_v67 : Ref sig .tc := ⟨.hbm, 87, rfl⟩
abbrev main_c_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_15 : Ref sig .tc := ⟨.hbm, 94, rfl⟩
abbrev main_v73 : Ref sig .tc := ⟨.hbm, 95, rfl⟩
abbrev main_v74 : Ref sig .tc := ⟨.hbm, 96, rfl⟩
abbrev main_c_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_17 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_call1_v0 : Ref sig .tc := ⟨.hbm, 113, rfl⟩
abbrev main_v88_1 : Ref sig .tc := ⟨.hbm, 114, rfl⟩
abbrev main_call1_v2 : Ref sig .tc := ⟨.hbm, 115, rfl⟩
abbrev main_v88_0 : Ref sig .tc := ⟨.hbm, 116, rfl⟩
abbrev main_call1_cst : Ref sig .tc := ⟨.hbm, 117, rfl⟩
abbrev main_v88_2 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_cst_23 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_24 : Ref sig .tc := ⟨.hbm, 148, rfl⟩
abbrev main_v113 : Ref sig .tc := ⟨.hbm, 149, rfl⟩
abbrev main_cst_25 : Ref sig .tc := ⟨.hbm, 150, rfl⟩
abbrev main_v114 : Ref sig .tc := ⟨.hbm, 151, rfl⟩
abbrev main_cst_26 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_27 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_28 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_29 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_30 : Ref sig .tc := ⟨.hbm, 181, rfl⟩
abbrev main_v140 : Ref sig .tc := ⟨.hbm, 182, rfl⟩
abbrev main_v141 : Ref sig .tc := ⟨.hbm, 183, rfl⟩
abbrev main_cst_31 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_32 : Ref sig .tc := ⟨.hbm, 200, rfl⟩
abbrev main_v157 : Ref sig .tc := ⟨.hbm, 201, rfl⟩
abbrev main_cst_33 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_34 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_35 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_36 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_37 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_38 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_39 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_cst_40 : Ref sig .tc := ⟨.hbm, 245, rfl⟩
abbrev main_v194 : Ref sig .tc := ⟨.hbm, 246, rfl⟩
abbrev main_v195 : Ref sig .tc := ⟨.hbm, 247, rfl⟩
abbrev main_call2_cst : Ref sig .tc := ⟨.hbm, 248, rfl⟩
abbrev main_call2_v0 : Ref sig .tc := ⟨.hbm, 249, rfl⟩
abbrev main_v196 : Ref sig .tc := ⟨.hbm, 250, rfl⟩
abbrev main_cst_41 : Ref sig .tc := ⟨.hbm, 251, rfl⟩
abbrev main_v197 : Ref sig .tc := ⟨.hbm, 252, rfl⟩
abbrev main_v198 : Ref sig .tc := ⟨.hbm, 253, rfl⟩
abbrev main_cst_42 : Ref sig .tc := ⟨.hbm, 254, rfl⟩
abbrev main_v199 : Ref sig .tc := ⟨.hbm, 255, rfl⟩
abbrev main_cst_43 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_44 : Ref sig .tc := ⟨.hbm, 266, rfl⟩
abbrev main_v209 : Ref sig .tc := ⟨.hbm, 267, rfl⟩
abbrev main_cst_45 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_cst_46 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_c_47 : Ref sig .tc := ⟨.hbm, 287, rfl⟩
abbrev main_call3_v0 : Ref sig .tc := ⟨.hbm, 288, rfl⟩
abbrev main_v227 : Ref sig .tc := ⟨.hbm, 289, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4352 : Shape := ⟨2, ![1024, 4352]⟩
abbrev S1x1024 : Shape := ⟨2, ![1, 1024]⟩
abbrev S4352x1024 : Shape := ⟨2, ![4352, 1024]⟩
abbrev S4096x2304 : Shape := ⟨2, ![4096, 2304]⟩
abbrev S4096x2048 : Shape := ⟨2, ![4096, 2048]⟩
abbrev S512x1024 : Shape := ⟨2, ![512, 1024]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S2304x1024 : Shape := ⟨2, ![2304, 1024]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S1024x4352, .bf16⟩
  | .hbm, ⟨5, _⟩ => ⟨S4352x1024, .bf16⟩
  | .hbm, ⟨6, _⟩ => ⟨S4096x1024, .bf16⟩
  | .hbm, ⟨7, _⟩ => ⟨S4096x2304, .bf16⟩
  | .hbm, ⟨8, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2304, .bf16⟩
  | .local _ .vmem, ⟨7, _⟩ => ⟨S512x2304, .bf16⟩
  | .local _ .vmem, ⟨8, _⟩ => ⟨S512x2048, .f32⟩
  | .local _ .vmem, ⟨9, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1024 : Shape := ⟨1, ![1024]⟩
abbrev S1024x4352 : Shape := ⟨2, ![1024, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩
abbrev S4096x2304 : Shape := ⟨2, ![4096, 2304]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4352, .f32⟩
  | .hbm, ⟨20, _⟩ => ⟨S4096x1024, .bf16⟩
  | .hbm, ⟨21, _⟩ => ⟨S4096x2304, .f32⟩
  | .hbm, ⟨22, _⟩ => ⟨S4096x2304, .bf16⟩
  | .hbm, ⟨23, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 18
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x512, .bf16⟩
  | .hbm, ⟨8, _⟩ => ⟨S4096x512, .bf16⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S512x1024, .bf16⟩
  | .hbm, ⟨13, _⟩ => ⟨S512x4x256, .bf16⟩
  | .hbm, ⟨14, _⟩ => ⟨S4x512x256, .bf16⟩
  | .hbm, ⟨15, _⟩ => ⟨S1024x1024, .bf16⟩
  | .hbm, ⟨16, _⟩ => ⟨S4096x1024, .bf16⟩
  | .hbm, ⟨17, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .hbm, ⟨11, _⟩ => ⟨S4096x4096, .bf16⟩
  | .hbm, ⟨12, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .bf16⟩
  | .hbm, ⟨26, _⟩ => ⟨S4096x4096, .bf16⟩
  | .hbm, ⟨27, _⟩ => ⟨S4096x4096, .bf16⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel11.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S256x4x256 : Shape := ⟨3, ![256, 4, 256]⟩
abbrev S4x256x256 : Shape := ⟨3, ![4, 256, 256]⟩
abbrev S512x256 : Shape := ⟨2, ![512, 256]⟩
abbrev S512x1024 : Shape := ⟨2, ![512, 1024]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1x1024, .f32⟩
  | .hbm, ⟨6, _⟩ => ⟨S256x1024, .bf16⟩
  | .hbm, ⟨7, _⟩ => ⟨S256x4x256, .bf16⟩
  | .hbm, ⟨8, _⟩ => ⟨S4x256x256, .bf16⟩
  | .hbm, ⟨9, _⟩ => ⟨S1024x1024, .bf16⟩
  | .hbm, ⟨10, _⟩ => ⟨S4096x256, .bf16⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x256x256, .bf16⟩
  | .local _ .vmem, ⟨6, _⟩ => ⟨S1024x1024, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x256, .bf16⟩
  | .hbm, ⟨24, _⟩ => ⟨S4096x1024, .bf16⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel12.lean ====
abbrev S4096x2304 : Shape := ⟨2, ![4096, 2304]⟩
abbrev S8 : Shape := ⟨1, ![8]⟩
abbrev S32x8 : Shape := ⟨2, ![32, 8]⟩
abbrev S128x256 : Shape := ⟨2, ![128, 256]⟩
abbrev S4096x512 : Shape := ⟨2, ![4096, 512]⟩
abbrev S4x32x256x384 : Shape := ⟨4, ![4, 32, 256, 384]⟩
abbrev S512x128 : Shape := ⟨2, ![512, 128]⟩
abbrev S4096x128 : Shape := ⟨2, ![4096, 128]⟩
abbrev S1x4x256x384 : Shape := ⟨4, ![1, 4, 256, 384]⟩
abbrev S256x256 : Shape := ⟨2, ![256, 256]⟩
abbrev S128x128 : Shape := ⟨2, ![128, 128]⟩
abbrev S1x1 : Shape := ⟨2, ![1, 1]⟩
abbrev S256x128 : Shape := ⟨2, ![256, 128]⟩
abbrev S256x1 : Shape := ⟨2, ![256, 1]⟩
abbrev S1 : Shape := ⟨1, ![1]⟩
abbrev S256 : Shape := ⟨1, ![256]⟩
abbrev S1x1x256x256 : Shape := ⟨4, ![1, 1, 256, 256]⟩
abbrev S1x1x256x128 : Shape := ⟨4, ![1, 1, 256, 128]⟩

abbrev nBuf : Space → Nat
  | .hbm => 7
  | .vmem => 10
  | .smem => 2
  | _ => 0

abbrev bufTy : (tb : Table) → Fin (tcTables nBuf tb) → BufTy
  | .hbm, ⟨0, _⟩ => ⟨S4096x2304, .f32⟩
  | .hbm, ⟨1, _⟩ => ⟨S8, .f32⟩
  | .hbm, ⟨2, _⟩ => ⟨S32x8, .f32⟩
  | .hbm, ⟨3, _⟩ => ⟨S128x256, .i32⟩
  | .hbm, ⟨4, _⟩ => ⟨S4096x2304, .bf16⟩
  | .hbm, ⟨5, _⟩ => ⟨S4096x512, .bf16⟩
  | .hbm, ⟨6, _⟩ => ⟨S4x32x256x384, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S128x256, .i32⟩
  | .local _ .vmem, ⟨5, _⟩ => ⟨S512x128, .bf16⟩
  | .local _ .vmem, ⟨6, _⟩ => ⟨S512x128, .bf16⟩
  | .local _ .vmem, ⟨7, _⟩ => ⟨S1x4x256x384, .bf16⟩
  | .local _ .vmem, ⟨8, _⟩ => ⟨S1x4x256x384, .bf16⟩
  | .local _ .vmem, ⟨9, _⟩ => ⟨S256x256, .f32⟩
  | .local _ .smem, ⟨0, _⟩ => ⟨S8, .f32⟩
  | .local _ .smem, ⟨1, _⟩ => ⟨S32x8, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_4 : BitVec 32 := 0#32
  let v18 : BitVec 1 := Scalar.cmpi .eq arg1 c0_i32_4
  let v19 : BitVec 32 := Scalar.extui v18
  let c0_i32_5 : BitVec 32 := 0#32
  let v20 : BitVec 1 := Scalar.cmpi .ne v19 c0_i32_5
  v20

@[reducible] def k0_t1_loop : Scf.Loop 32 :=
  let c0_i32_211 : BitVec 32 := 0#32
  let c32_i32 : BitVec 32 := 32#32
  let v483 : BitVec 32 := Scalar.addi c0_i32_211 c32_i32
  let c1_i32_212 : BitVec 32 := 1#32
  ⟨c0_i32_211, v483, c1_i32_212⟩
def k0_off1 (i : grid0.Coords) (k0_t1 : Fin k0_t1_loop.trips) : Fin 2 → Nat :=
  let c0_i32_211 : BitVec 32 := 0#32
  let c1_i32_212 : BitVec 32 := 1#32
  let arg11 : BitVec 32 := Scf.iv c0_i32_211 c1_i32_212 k0_t1
  let v503 : Index := Scalar.indexCast arg11
  let c2_i32_227 : BitVec 32 := 2#32
  let arg0 : BitVec 32 := BitVec.ofNat 32 (i 0).val
  let v501 : BitVec 32 := Scalar.muli c2_i32_227 arg0
  let c0_i32_228 : BitVec 32 := 0#32
  let v502 : BitVec 32 := Scalar.addi v501 c0_i32_228
  let v504 : Index := Scalar.indexCast v502
  ![v503.toNat, v504.toNat]
@[reducible] def k0_t2_loop : Scf.Loop 32 :=
  let c0_i32_218 : BitVec 32 := 0#32
  let c32_i32_219 : BitVec 32 := 32#32
  let v491 : BitVec 32 := Scalar.addi c0_i32_218 c32_i32_219
  let c1_i32_220 : BitVec 32 := 1#32
  ⟨c0_i32_218, v491, c1_i32_220⟩
def k0_off2 (i : grid0.Coords) (k0_t2 : Fin k0_t2_loop.trips) : Fin 2 → Nat :=
  let c0_i32_218 : BitVec 32 := 0#32
  let c1_i32_220 : BitVec 32 := 1#32
  let arg11 : BitVec 32 := Scf.iv c0_i32_218 c1_i32_220 k0_t2
  let v503 : Index := Scalar.indexCast arg11
  let c2_i32_227 : BitVec 32 := 2#32
  let arg0 : BitVec 32 := BitVec.ofNat 32 (i 0).val
  let v501 : BitVec 32 := Scalar.muli c2_i32_227 arg0
  let c1_i32_228 : BitVec 32 := 1#32
  let v502 : BitVec 32 := Scalar.addi v501 c1_i32_228
  let v504 : Index := Scalar.indexCast v502
  ![v503.toNat, v504.toNat]
def k0_mult1 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c1_i32_15 : BitVec 32 := 1#32
  let v49 : BitVec 32 := Scalar.subi v25 c1_i32_15
  let c0_i32_16 : BitVec 32 := 0#32
  let v50 : BitVec 32 := Scalar.maxsi v49 c0_i32_16
  let c128_i32_17 : BitVec 32 := 128#32
  let v51 : BitVec 32 := Scalar.muli v50 c128_i32_17
  v51
def k0_mult2 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c128_i32_18 : BitVec 32 := 128#32
  let v53 : BitVec 32 := Scalar.muli v25 c128_i32_18
  v53
def k0_off3 (i : grid0.Coords) (c0_i32_6 : BitVec 32) : Fin 2 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_6
  let c1_i32_15 : BitVec 32 := 1#32
  let v49 : BitVec 32 := Scalar.subi v25 c1_i32_15
  let c0_i32_16 : BitVec 32 := 0#32
  let v50 : BitVec 32 := Scalar.maxsi v49 c0_i32_16
  let c128_i32_17 : BitVec 32 := 128#32
  let v51 : BitVec 32 := Scalar.muli v50 c128_i32_17
  let v52 : BitVec 32 := v51
  let v55 : Index := Scalar.indexCast v52
  let c0_19 : Index := 0#32
  ![v55.toNat, 0]
def k0_off4 (i : grid0.Coords) (c0_i32_6 : BitVec 32) : Fin 2 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_6
  let c128_i32_18 : BitVec 32 := 128#32
  let v53 : BitVec 32 := Scalar.muli v25 c128_i32_18
  let v54 : BitVec 32 := v53
  let v58 : Index := Scalar.indexCast v54
  let c0_20 : Index := 0#32
  ![v58.toNat, 0]
def k0_mult3 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c1_i32_21 : BitVec 32 := 1#32
  let v62 : BitVec 32 := Scalar.subi v25 c1_i32_21
  let c0_i32_22 : BitVec 32 := 0#32
  let v63 : BitVec 32 := Scalar.maxsi v62 c0_i32_22
  let c128_i32_23 : BitVec 32 := 128#32
  let v64 : BitVec 32 := Scalar.muli v63 c128_i32_23
  v64
def k0_mult4 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c128_i32_24 : BitVec 32 := 128#32
  let v66 : BitVec 32 := Scalar.muli v25 c128_i32_24
  v66
def k0_off5 (i : grid0.Coords) : Fin 1 → Nat :=
  let c2_i32_33 : BitVec 32 := 2#32
  let arg0 : BitVec 32 := BitVec.ofNat 32 (i 0).val
  let v86 : BitVec 32 := Scalar.muli c2_i32_33 arg0
  let v87 : Index := Scalar.indexCast v86
  ![v87.toNat]
def k0_off6 (i : grid0.Coords) : Fin 1 → Nat :=
  let c2_i32_34 : BitVec 32 := 2#32
  let arg0 : BitVec 32 := BitVec.ofNat 32 (i 0).val
  let v89 : BitVec 32 := Scalar.muli c2_i32_34 arg0
  let c1_i32_35 : BitVec 32 := 1#32
  let v90 : BitVec 32 := Scalar.addi v89 c1_i32_35
  let v91 : Index := Scalar.indexCast v90
  ![v91.toNat]
def k0_mult5 (i : grid0.Coords) : BitVec 32 :=
  let arg1 : BitVec 32 := BitVec.ofNat 32 (i 1).val
  let c4_i32_54 : BitVec 32 := 4#32
  let v136 : BitVec 32 := Scalar.muli arg1 c4_i32_54
  let c1_i32_55 : BitVec 32 := 1#32
  let v137 : BitVec 32 := Scalar.addi v136 c1_i32_55
  let c1_i32_66 : BitVec 32 := 1#32
  let v161 : BitVec 32 := Scalar.subi v137 c1_i32_66
  let c0_i32_67 : BitVec 32 := 0#32
  let v162 : BitVec 32 := Scalar.maxsi v161 c0_i32_67
  let c128_i32_68 : BitVec 32 := 128#32
  let v163 : BitVec 32 := Scalar.muli v162 c128_i32_68
  v163
def k0_mult6 (i : grid0.Coords) : BitVec 32 :=
  let arg1 : BitVec 32 := BitVec.ofNat 32 (i 1).val
  let c4_i32_54 : BitVec 32 := 4#32
  let v136 : BitVec 32 := Scalar.muli arg1 c4_i32_54
  let c1_i32_55 : BitVec 32 := 1#32
  let v137 : BitVec 32 := Scalar.addi v136 c1_i32_55
  let c128_i32_69 : BitVec 32 := 128#32
  let v165 : BitVec 32 := Scalar.muli v137 c128_i32_69
  v165
def k0_mult7 (i : grid0.Coords) : BitVec 32 :=
  let arg1 : BitVec 32 := BitVec.ofNat 32 (i 1).val
  let c4_i32_54 : BitVec 32 := 4#32
  let v136 : BitVec 32 := Scalar.muli arg1 c4_i32_54
  let c1_i32_55 : BitVec 32 := 1#32
  let v137 : BitVec 32 := Scalar.addi v136 c1_i32_55
  let c1_i32_72 : BitVec 32 := 1#32
  let v174 : BitVec 32 := Scalar.subi v137 c1_i32_72
  let c0_i32_73 : BitVec 32 := 0#32
  let v175 : BitVec 32 := Scalar.maxsi v174 c0_i32_73
  let c128_i32_74 : BitVec 32 := 128#32
  let v176 : BitVec 32 := Scalar.muli v175 c128_i32_74
  v176
def k0_mult8 (i : grid0.Coords) : BitVec 32 :=
  let arg1 : BitVec 32 := BitVec.ofNat 32 (i 1).val
  let c4_i32_54 : BitVec 32 := 4#32
  let v136 : BitVec 32 := Scalar.muli arg1 c4_i32_54
  let c1_i32_55 : BitVec 32 := 1#32
  let v137 : BitVec 32 := Scalar.addi v136 c1_i32_55
  let c128_i32_75 : BitVec 32 := 128#32
  let v178 : BitVec 32 := Scalar.muli v137 c128_i32_75
  v178
def k0_mult9 (i : grid0.Coords) : BitVec 32 :=
  let arg1 : BitVec 32 := BitVec.ofNat 32 (i 1).val
  let c4_i32_105 : BitVec 32 := 4#32
  let v248 : BitVec 32 := Scalar.muli arg1 c4_i32_105
  let c2_i32_106 : BitVec 32 := 2#32
  let v249 : BitVec 32 := Scalar.addi v248 c2_i32_106
  let c1_i32_118 : BitVec 32 := 1#32
  let v273 : BitVec 32 := Scalar.subi v249 c1_i32_118
  let c0_i32_119 : BitVec 32 := 0#32
  let v274 : BitVec 32 := Scalar.maxsi v273 c0_i32_119
  let c128_i32_120 : BitVec 32 := 128#32
  let v275 : BitVec 32 := Scalar.muli v274 c128_i32_120
  v275
def k0_mult10 (i : grid0.Coords) : BitVec 32 :=
  let arg1 : BitVec 32 := BitVec.ofNat 32 (i 1).val
  let c4_i32_105 : BitVec 32 := 4#32
  let v248 : BitVec 32 := Scalar.muli arg1 c4_i32_105
  let c2_i32_106 : BitVec 32 := 2#32
  let v249 : BitVec 32 := Scalar.addi v248 c2_i32_106
  let c128_i32_121 : BitVec 32 := 128#32
  let v277 : BitVec 32 := Scalar.muli v249 c128_i32_121
  v277
def k0_mult11 (i : grid0.Coords) : BitVec 32 :=
  let arg1 : BitVec 32 := BitVec.ofNat 32 (i 1).val
  let c4_i32_105 : BitVec 32 := 4#32
  let v248 : BitVec 32 := Scalar.muli arg1 c4_i32_105
  let c2_i32_106 : BitVec 32 := 2#32
  let v249 : BitVec 32 := Scalar.addi v248 c2_i32_106
  let c1_i32_124 : BitVec 32 := 1#32
  let v286 : BitVec 32 := Scalar.subi v249 c1_i32_124
  let c0_i32_125 : BitVec 32 := 0#32
  let v287 : BitVec 32 := Scalar.maxsi v286 c0_i32_125
  let c128_i32_126 : BitVec 32 := 128#32
  let v288 : BitVec 32 := Scalar.muli v287 c128_i32_126
  v288
def k0_mult12 (i : grid0.Coords) : BitVec 32 :=
  let arg1 : BitVec 32 := BitVec.ofNat 32 (i 1).val
  let c4_i32_105 : BitVec 32 := 4#32
  let v248 : BitVec 32 := Scalar.muli arg1 c4_i32_105
  let c2_i32_106 : BitVec 32 := 2#32
  let v249 : BitVec 32 := Scalar.addi v248 c2_i32_106
  let c128_i32_127 : BitVec 32 := 128#32
  let v290 : BitVec 32 := Scalar.muli v249 c128_i32_127
  v290
def k0_mult13 (i : grid0.Coords) : BitVec 32 :=
  let arg1 : BitVec 32 := BitVec.ofNat 32 (i 1).val
  let c4_i32_157 : BitVec 32 := 4#32
  let v360 : BitVec 32 := Scalar.muli arg1 c4_i32_157
  let c3_i32 : BitVec 32 := 3#32
  let v361 : BitVec 32 := Scalar.addi v360 c3_i32
  let c1_i32_168 : BitVec 32 := 1#32
  let v385 : BitVec 32 := Scalar.subi v361 c1_i32_168
  let c0_i32_169 : BitVec 32 := 0#32
  let v386 : BitVec 32 := Scalar.maxsi v385 c0_i32_169
  let c128_i32_170 : BitVec 32 := 128#32
  let v387 : BitVec 32 := Scalar.muli v386 c128_i32_170
  v387
def k0_mult14 (i : grid0.Coords) : BitVec 32 :=
  let arg1 : BitVec 32 := BitVec.ofNat 32 (i 1).val
  let c4_i32_157 : BitVec 32 := 4#32
  let v360 : BitVec 32 := Scalar.muli arg1 c4_i32_157
  let c3_i32 : BitVec 32 := 3#32
  let v361 : BitVec 32 := Scalar.addi v360 c3_i32
  let c128_i32_171 : BitVec 32 := 128#32
  let v389 : BitVec 32 := Scalar.muli v361 c128_i32_171
  v389
def k0_mult15 (i : grid0.Coords) : BitVec 32 :=
  let arg1 : BitVec 32 := BitVec.ofNat 32 (i 1).val
  let c4_i32_157 : BitVec 32 := 4#32
  let v360 : BitVec 32 := Scalar.muli arg1 c4_i32_157
  let c3_i32 : BitVec 32 := 3#32
  let v361 : BitVec 32 := Scalar.addi v360 c3_i32
  let c1_i32_174 : BitVec 32 := 1#32
  let v398 : BitVec 32 := Scalar.subi v361 c1_i32_174
  let c0_i32_175 : BitVec 32 := 0#32
  let v399 : BitVec 32 := Scalar.maxsi v398 c0_i32_175
  let c128_i32_176 : BitVec 32 := 128#32
  let v400 : BitVec 32 := Scalar.muli v399 c128_i32_176
  v400
def k0_mult16 (i : grid0.Coords) : BitVec 32 :=
  let arg1 : BitVec 32 := BitVec.ofNat 32 (i 1).val
  let c4_i32_157 : BitVec 32 := 4#32
  let v360 : BitVec 32 := Scalar.muli arg1 c4_i32_157
  let c3_i32 : BitVec 32 := 3#32
  let v361 : BitVec 32 := Scalar.addi v360 c3_i32
  let c128_i32_177 : BitVec 32 := 128#32
  let v402 : BitVec 32 := Scalar.muli v361 c128_i32_177
  v402
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![c0_i32.toNat, c17_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S4096x2304 : Shape := ⟨2, ![4096, 2304]⟩
abbrev S8 : Shape := ⟨1, ![8]⟩
abbrev S32x8 : Shape := ⟨2, ![32, 8]⟩
abbrev S4096x512 : Shape := ⟨2, ![4096, 512]⟩
abbrev S4096x128 : Shape := ⟨2, ![4096, 128]⟩
abbrev S4096x2x64 : Shape := ⟨3, ![4096, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32x128x2x4x64 : Shape := ⟨5, ![32, 128, 2, 4, 64]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S1x2x4x128x256 : Shape := ⟨5, ![1, 2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x4x128x128 : Shape := ⟨5, ![32, 2, 4, 128, 128]⟩
abbrev S32x2x4x128x384 : Shape := ⟨5, ![32, 2, 4, 128, 384]⟩
abbrev S32x4x256x384 : Shape := ⟨4, ![32, 4, 256, 384]⟩
abbrev S4x32x256x384 : Shape := ⟨4, ![4, 32, 256, 384]⟩

abbrev nBuf : Space → Nat
  | .hbm => 154
  | .vmem => 0
  | .smem => 0
  | _ => 0

abbrev hbmTy0_0 (i : Nat) : BufTy := match i % 128 with
  | 0 => ⟨S4096x2304, .f32⟩
  | 1 => ⟨S8, .f32⟩
  | 2 => ⟨S32x8, .f32⟩
  | 3 => ⟨S4096x512, .f32⟩
  | 4 => ⟨S4096x128, .f32⟩
  | 5 => ⟨S4096x128, .f32⟩
  | 6 => ⟨S4096x2x64, .f32⟩
  | 7 => ⟨S128, .i32⟩
  | 8 => ⟨S128x1, .i32⟩
  | 9 => ⟨S256, .i32⟩
  | 10 => ⟨S1x256, .i32⟩
  | 11 => ⟨S_, .i32⟩
  | 12 => ⟨S128x1, .i32⟩
  | 13 => ⟨S128x1, .i32⟩
  | 14 => ⟨S128x256, .i32⟩
  | 15 => ⟨S128x256, .i32⟩
  | 16 => ⟨S128x256, .i32⟩
  | 17 => ⟨S_, .i32⟩
  | 18 => ⟨S128x256, .i32⟩
  | 19 => ⟨S128x256, .i32⟩
  | 20 => ⟨S_, .i32⟩
  | 21 => ⟨S128x256, .i32⟩
  | 22 => ⟨S128x256, .i32⟩
  | 23 => ⟨S128x256, .f32⟩
  | 24 => ⟨S_, .f32⟩
  | 25 => ⟨S128x256, .f32⟩
  | 26 => ⟨S128x256, .f32⟩
  | 27 => ⟨S128x256, .f32⟩
  | 28 => ⟨S_, .f32⟩
  | 29 => ⟨S128x256, .f32⟩
  | 30 => ⟨S128x256, .f32⟩
  | 31 => ⟨S_, .f32⟩
  | 32 => ⟨S128x256, .f32⟩
  | 33 => ⟨S128x256, .f32⟩
  | 34 => ⟨S128x256, .i32⟩
  | 35 => ⟨S_, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i32⟩
  | 51 => ⟨S128x256, .i32⟩
  | 52 => ⟨S128x256x1, .i32⟩
  | 53 => ⟨S128x256x8, .f32⟩
  | 54 => ⟨S8x128x256, .f32⟩
  | 55 => ⟨S2x4x128x256, .f32⟩
  | 56 => ⟨S32x128x2x4x64, .f32⟩
  | 57 => ⟨S_, .f32⟩
  | 58 => ⟨S128x2x64, .f32⟩
  | 59 => ⟨S4224x2x64, .f32⟩
  | 60 => ⟨S33x128x2x64, .f32⟩
  | 61 => ⟨S32x128x2x64, .f32⟩
  | 62 => ⟨S32x128x2x64, .f32⟩
  | 63 => ⟨S32x256x2x64, .f32⟩
  | 64 => ⟨S32x2x256x128x4, .f32⟩
  | 65 => ⟨S32x2x4x128x256, .f32⟩
  | 66 => ⟨S_, .f32⟩
  | 67 => ⟨S32x2x4x128x256, .f32⟩
  | 68 => ⟨S32x2x4x128x256, .f32⟩
  | 69 => ⟨S1x2x4x128x256, .f32⟩
  | 70 => ⟨S32x2x4x128x256, .f32⟩
  | 71 => ⟨S32x2x4x128x256, .f32⟩
  | 72 => ⟨S128, .i32⟩
  | 73 => ⟨S128x1, .i32⟩
  | 74 => ⟨S256, .i32⟩
  | 75 => ⟨S1x256, .i32⟩
  | 76 => ⟨S_, .i32⟩
  | 77 => ⟨S128x1, .i32⟩
  | 78 => ⟨S128x1, .i32⟩
  | 79 => ⟨S128x256, .i32⟩
  | 80 => ⟨S128x256, .i32⟩
  | 81 => ⟨S128x256, .i32⟩
  | 82 => ⟨S_, .i32⟩
  | 83 => ⟨S128x256, .i32⟩
  | 84 => ⟨S128x256, .i1⟩
  | 85 => ⟨S_, .i32⟩
  | 86 => ⟨S128x256, .i32⟩
  | 87 => ⟨S128x256, .i1⟩
  | 88 => ⟨S128x256, .i1⟩
  | 89 => ⟨S32, .i32⟩
  | 90 => ⟨S32x1x1, .i32⟩
  | 91 => ⟨S_, .i32⟩
  | 92 => ⟨S32x1x1, .i32⟩
  | 93 => ⟨S32x1x1, .i32⟩
  | 94 => ⟨S_, .i32⟩
  | 95 => ⟨S32x1x1, .i32⟩
  | 96 => ⟨S32x1x1, .i32⟩
  | 97 => ⟨S1x1x256, .i32⟩
  | 98 => ⟨S32x1x256, .i32⟩
  | 99 => ⟨S32x1x256, .i32⟩
  | 100 => ⟨S32x1x256, .i32⟩
  | 101 => ⟨S1x128x256, .i1⟩
  | 102 => ⟨S_, .i32⟩
  | 103 => ⟨S32x1x256, .i32⟩
  | 104 => ⟨S32x1x256, .i1⟩
  | 105 => ⟨S32x128x256, .i1⟩
  | 106 => ⟨S32x128x256, .i1⟩
  | 107 => ⟨S32x128x256, .i1⟩
  | 108 => ⟨S32x1x1x128x256, .i1⟩
  | 109 => ⟨S_, .f32⟩
  | 110 => ⟨S_, .f32⟩
  | 111 => ⟨S32x2x4x128x256, .i1⟩
  | 112 => ⟨S32x2x4x128x256, .f32⟩
  | 113 => ⟨S32x2x4x128x256, .f32⟩
  | 114 => ⟨S2x4, .f32⟩
  | 115 => ⟨S1x2x4x1x1, .f32⟩
  | 116 => ⟨S_, .f32⟩
  | 117 => ⟨S32x2x4x128, .f32⟩
  | 118 => ⟨S32x2x4x128x1, .f32⟩
  | 119 => ⟨S32x2x4x128x1, .f32⟩
  | 120 => ⟨S32x2x4x128x1, .f32⟩
  | 121 => ⟨S32x2x4x128x256, .f32⟩
  | 122 => ⟨S32x2x4x128x256, .f32⟩
  | 123 => ⟨S32x2x4x128x256, .f32⟩
  | 124 => ⟨S_, .f32⟩
  | 125 => ⟨S32x2x4x128, .f32⟩
  | 126 => ⟨S32x2x4x128x1, .f32⟩
  | 127 => ⟨S32x2x4x128x1, .f32⟩
  | _ => ⟨S4096x2304, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x256, .f32⟩
  | 4 => ⟨S32x2x4x128x256, .f32⟩
  | 5 => ⟨S32x2x4x128x1, .f32⟩
  | 6 => ⟨S32x2x4x128x1, .f32⟩
  | 7 => ⟨S32x2x4x128x1, .f32⟩
  | 8 => ⟨S32x2x4x128x1, .f32⟩
  | 9 => ⟨S4096x2x64, .f32⟩
  | 10 => ⟨S_, .f32⟩
  | 11 => ⟨S128x2x64, .f32⟩
  | 12 => ⟨S4224x2x64, .f32⟩
  | 13 => ⟨S33x128x2x64, .f32⟩
  | 14 => ⟨S32x128x2x64, .f32⟩
  | 15 => ⟨S32x128x2x64, .f32⟩
  | 16 => ⟨S32x256x2x64, .f32⟩
  | 17 => ⟨S32x2x64x4x128, .f32⟩
  | 18 => ⟨S32x128x2x4x64, .f32⟩
  | 19 => ⟨S4096x512, .f32⟩
  | 20 => ⟨S32x2x4x128x128, .f32⟩
  | 21 => ⟨S32x2x4x128x384, .f32⟩
  | 22 => ⟨S4096x512, .bf16⟩
  | 23 => ⟨S32x4x256x384, .f32⟩
  | 24 => ⟨S4x32x256x384, .f32⟩
  | 25 => ⟨S4x32x256x384, .bf16⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_12 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_14 : Ref sig .tc := ⟨.hbm, 91, rfl⟩
abbrev main_v72 : Ref sig .tc := ⟨.hbm, 92, rfl⟩
abbrev main_v73 : Ref sig .tc := ⟨.hbm, 93, rfl⟩
abbrev main_c_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_16 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_17 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_19 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_20 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩

abbrev nD : Nat := 1
abbrev τ : Topo := Topo.v7x

variable {F : FTy → Type} [FloatOps F]
-- ==== Kernel13.lean ====
abbrev S4096x1024 : Shape := ⟨2, ![4096, 1024]⟩
abbrev S4096x4096 : Shape := ⟨2, ![4096, 4096]⟩
abbrev S4x1024x1024 : Shape := ⟨3, ![4, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x512 : Shape := ⟨2, ![4096, 512]⟩
abbrev S4096x256 : Shape := ⟨2, ![4096, 256]⟩
abbrev S4096x2048 : Shape := ⟨2, ![4096, 2048]⟩
abbrev S4096x1024 : Shape := ⟨2, ![4096, 1024]⟩
abbrev S4352x1024 : Shape := ⟨2, ![4352, 1024]⟩
abbrev S256x1024 : Shape := ⟨2, ![256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S4096x2048, .f32⟩
  | .hbm, ⟨6, _⟩ => ⟨S4096x1024, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x256, .bf16⟩
  | .hbm, ⟨12, _⟩ => ⟨S4096x2048, .bf16⟩
  | .hbm, ⟨13, _⟩ => ⟨S4096x1024, .bf16⟩
  | .hbm, ⟨14, _⟩ => ⟨S4352x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x1024, .bf16⟩
  | .local _ .vmem, ⟨13, _⟩ => ⟨S256x1024, .f32⟩
  | .local _ .vmem, ⟨14, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c9_i32 : BitVec 32 := 9#32
  let v21 : BitVec 1 := Scalar.cmpi .slt arg1 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c9_i32_9 : BitVec 32 := 9#32
  let v25 : BitVec 1 := Scalar.cmpi .sge arg1 c9_i32_9
  let c17_i32 : BitVec 32 := 17#32
  let v26 : BitVec 1 := Scalar.cmpi .slt arg1 c17_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4096x512 : Shape := ⟨2, ![4096, 512]⟩
abbrev S4096x256 : Shape := ⟨2, ![4096, 256]⟩
abbrev S4096x2048 : Shape := ⟨2, ![4096, 2048]⟩
abbrev S4096x1024 : Shape := ⟨2, ![4096, 1024]⟩
abbrev S4096x4352 : Shape := ⟨2, ![4096, 4352]⟩
abbrev S4352x4096 : Shape := ⟨2, ![4352, 4096]⟩
abbrev S4352x1024 : Shape := ⟨2, ![4352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S4096x2048, .f32⟩
  | .hbm, ⟨6, _⟩ => ⟨S4096x1024, .f32⟩
  | .hbm, ⟨7, _⟩ => ⟨S4096x4352, .f32⟩
  | .hbm, ⟨8, _⟩ => ⟨S4352x4096, .f32⟩
  | .hbm, ⟨9, _⟩ => ⟨S4352x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]
-- ==== Kernel15.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S4096x2304 : Shape := ⟨2, ![4096, 2304]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S128x256 : Shape := ⟨2, ![128, 256]⟩
abbrev S4096x512 : Shape := ⟨2, ![4096, 512]⟩
abbrev S4x32x256x128 : Shape := ⟨4, ![4, 32, 256, 128]⟩
abbrev S4x32x8x128 : Shape := ⟨4, ![4, 32, 8, 128]⟩
abbrev S4x32x256x384 : Shape := ⟨4, ![4, 32, 256, 384]⟩
abbrev S256x128 : Shape := ⟨2, ![256, 128]⟩
abbrev S4096x128 : Shape := ⟨2, ![4096, 128]⟩
abbrev S1x2x256x128 : Shape := ⟨4, ![1, 2, 256, 128]⟩
abbrev S1x2x8x128 : Shape := ⟨4, ![1, 2, 8, 128]⟩
abbrev S1x2x256x384 : Shape := ⟨4, ![1, 2, 256, 384]⟩
abbrev S2x256x128 : Shape := ⟨3, ![2, 256, 128]⟩
abbrev S384x128 : Shape := ⟨2, ![384, 128]⟩
abbrev S256x384 : Shape := ⟨2, ![256, 384]⟩
abbrev S256x256 : Shape := ⟨2, ![256, 256]⟩
abbrev S1x256x128 : Shape := ⟨3, ![1, 256, 128]⟩
abbrev S1x1x256x384 : Shape := ⟨4, ![1, 1, 256, 384]⟩
abbrev S1 : Shape := ⟨1, ![1]⟩
abbrev S1x1x1 : Shape := ⟨3, ![1, 1, 1]⟩
abbrev S1x128x128 : Shape := ⟨3, ![1, 128, 128]⟩
abbrev S1x1x256x128 : Shape := ⟨4, ![1, 1, 256, 128]⟩
abbrev S8x128 : Shape := ⟨2, ![8, 128]⟩
abbrev S1x1x8x128 : Shape := ⟨4, ![1, 1, 8, 128]⟩

abbrev nBuf : Space → Nat
  | .hbm => 31
  | .vmem => 19
  | .smem => 0
  | _ => 0

abbrev bufTy : (tb : Table) → Fin (tcTables nBuf tb) → BufTy
  | .hbm, ⟨0, _⟩ => ⟨S4096x2304, .f32⟩
  | .hbm, ⟨1, _⟩ => ⟨S4096x2304, .bf16⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .f32⟩
  | .hbm, ⟨12, _⟩ => ⟨S128x256, .f32⟩
  | .hbm, ⟨13, _⟩ => ⟨S128x256, .bf16⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .f32⟩
  | .hbm, ⟨18, _⟩ => ⟨S128x256, .f32⟩
  | .hbm, ⟨19, _⟩ => ⟨S128x256, .bf16⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S128x128, .f32⟩
  | .hbm, ⟨24, _⟩ => ⟨S128x256, .f32⟩
  | .hbm, ⟨25, _⟩ => ⟨S128x256, .bf16⟩
  | .hbm, ⟨26, _⟩ => ⟨S4096x512, .bf16⟩
  | .hbm, ⟨27, _⟩ => ⟨S4x32x256x128, .f32⟩
  | .hbm, ⟨28, _⟩ => ⟨S4x32x8x128, .f32⟩
  | .hbm, ⟨29, _⟩ => ⟨S4x32x256x384, .bf16⟩
  | .hbm, ⟨30, _⟩ => ⟨S4x32x256x384, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x256, .bf16⟩
  | .local _ .vmem, ⟨7, _⟩ => ⟨S256x128, .bf16⟩
  | .local _ .vmem, ⟨8, _⟩ => ⟨S256x128, .bf16⟩
  | .local _ .vmem, ⟨9, _⟩ => ⟨S1x2x256x128, .f32⟩
  | .local _ .vmem, ⟨10, _⟩ => ⟨S1x2x256x128, .f32⟩
  | .local _ .vmem, ⟨11, _⟩ => ⟨S1x2x8x128, .f32⟩
  | .local _ .vmem, ⟨12, _⟩ => ⟨S1x2x8x128, .f32⟩
  | .local _ .vmem, ⟨13, _⟩ => ⟨S1x2x256x384, .bf16⟩
  | .local _ .vmem, ⟨14, _⟩ => ⟨S1x2x256x384, .bf16⟩
  | .local _ .vmem, ⟨15, _⟩ => ⟨S1x2x256x384, .bf16⟩
  | .local _ .vmem, ⟨16, _⟩ => ⟨S1x2x256x384, .bf16⟩
  | .local _ .vmem, ⟨17, _⟩ => ⟨S2x256x128, .f32⟩
  | .local _ .vmem, ⟨18, _⟩ => ⟨S2x256x128, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24_0 : Ref sig .tc := ⟨.hbm, 26, rfl⟩
abbrev main_v24_1 : Ref sig .tc := ⟨.hbm, 27, rfl⟩
abbrev main_v24_2 : Ref sig .tc := ⟨.hbm, 28, rfl⟩
abbrev main_v24_3 : Ref sig .tc := ⟨.hbm, 29, rfl⟩
abbrev main_v24_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c2_i32_10 : BitVec 32 := 2#32
  let v37 : BitVec 1 := Scalar.cmpi .sge v10 c2_i32_10
  let v38 : BitVec 32 := Scalar.extui v37
  let c0_i32_11 : BitVec 32 := 0#32
  let v39 : BitVec 1 := Scalar.cmpi .ne v38 c0_i32_11
  v39

def k0_mult1 (i : grid0.Coords) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let c2_i32_65 : BitVec 32 := 2#32
  let v99 : BitVec 32 := Scalar.subi v10 c2_i32_65
  let c128_i32_66 : BitVec 32 := 128#32
  let v100 : BitVec 32 := Scalar.muli v99 c128_i32_66
  v100
def k0_off1 (i : grid0.Coords) (c0_i32 : BitVec 32) : Fin 2 → Nat :=
  let arg1 : BitVec 32 := BitVec.ofNat 32 (i 1).val
  let c2_i32 : BitVec 32 := 2#32
  let v9 : BitVec 32 := Scalar.muli arg1 c2_i32
  let v10 : BitVec 32 := Scalar.addi v9 c0_i32
  let c2_i32_65 : BitVec 32 := 2#32
  let v99 : BitVec 32 := Scalar.subi v10 c2_i32_65
  let c128_i32_66 : BitVec 32 := 128#32
  let v100 : BitVec 32 := Scalar.muli v99 c128_i32_66
  let v101 : BitVec 32 := v100
  let v102 : Index := Scalar.indexCast v101
  let c0_67 : Index := 0#32
  ![v102.toNat, 0]
def k0_mult2 (i : grid0.Coords) : BitVec 32 :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let c2_i32_100 : BitVec 32 := 2#32
  let v192 : BitVec 32 := Scalar.subi v12 c2_i32_100
  let c128_i32_101 : BitVec 32 := 128#32
  let v193 : BitVec 32 := Scalar.muli v192 c128_i32_101
  v193
def k0_mult3 (i : grid0.Coords) (arg13 : BitVec 32) : BitVec 32 :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let v99 : BitVec 32 := Scalar.subi v10 arg13
  let c128_i32_65 : BitVec 32 := 128#32
  let v100 : BitVec 32 := Scalar.muli v99 c128_i32_65
  v100

def k0_off2 (i : grid0.Coords) (arg13 : BitVec 32) : Fin 2 → Nat :=
  let arg1 : BitVec 32 := BitVec.ofNat 32 (i 1).val
  let c2_i32 : BitVec 32 := 2#32
  let v9 : BitVec 32 := Scalar.muli arg1 c2_i32
  let c0_i32 : BitVec 32 := 0#32
  let v10 : BitVec 32 := Scalar.addi v9 c0_i32
  let v99 : BitVec 32 := Scalar.subi v10 arg13
  let c128_i32_65 : BitVec 32 := 128#32
  let v100 : BitVec 32 := Scalar.muli v99 c128_i32_65
  let v101 : BitVec 32 := v100
  let v102 : Index := Scalar.indexCast v101
  let c0_66 : Index := 0#32
  ![v102.toNat, 0]

def k0_chk1 (i : grid0.Coords) (arg13 : BitVec 32) : Prop :=
  (128 ∣ (k0_mult3 i arg13).toNat) ∧
  (∀ a, (k0_off2 i arg13) a + S128x128.size a ≤ S4096x128.size a)
theorem k0_mult3_dvd : ∀ (i : grid0.Coords) (arg13 : BitVec 32) (k0_hw1 : k0_chk1 i arg13), 128 ∣ (k0_mult3 i arg13).toNat := fun i arg13 k0_hw1 => k0_hw1.1
theorem k0_off2_inb : ∀ (i : grid0.Coords) (arg13 : BitVec 32) (k0_hw1 : k0_chk1 i arg13), ∀ a, (k0_off2 i arg13) a + S128x128.size a ≤ S4096x128.size a := fun i arg13 k0_hw1 => k0_hw1.2

def k0_mult4 (i : grid0.Coords) (arg13 : BitVec 32) : BitVec 32 :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let v99 : BitVec 32 := Scalar.subi v12 arg13
  let c128_i32_65 : BitVec 32 := 128#32
  let v100 : BitVec 32 := Scalar.muli v99 c128_i32_65
  v100

def k0_off3 (i : grid0.Coords) (arg13 : BitVec 32) : Fin 2 → Nat :=
  let arg1 : BitVec 32 := BitVec.ofNat 32 (i 1).val
  let c2_i32_1 : BitVec 32 := 2#32
  let v11 : BitVec 32 := Scalar.muli arg1 c2_i32_1
  let c1_i32 : BitVec 32 := 1#32
  let v12 : BitVec 32 := Scalar.addi v11 c1_i32
  let v99 : BitVec 32 := Scalar.subi v12 arg13
  let c128_i32_65 : BitVec 32 := 128#32
  let v100 : BitVec 32 := Scalar.muli v99 c128_i32_65
  let v101 : BitVec 32 := v100
  let v102 : Index := Scalar.indexCast v101
  let c0_66 : Index := 0#32
  ![v102.toNat, 0]

def k0_chk2 (i : grid0.Coords) (arg13 : BitVec 32) : Prop :=
  (128 ∣ (k0_mult4 i arg13).toNat) ∧
  (∀ a, (k0_off3 i arg13) a + S128x128.size a ≤ S4096x128.size a)
theorem k0_mult4_dvd : ∀ (i : grid0.Coords) (arg13 : BitVec 32) (k0_hw2 : k0_chk2 i arg13), 128 ∣ (k0_mult4 i arg13).toNat := fun i arg13 k0_hw2 => k0_hw2.1
theorem k0_off3_inb : ∀ (i : grid0.Coords) (arg13 : BitVec 32) (k0_hw2 : k0_chk2 i arg13), ∀ a, (k0_off3 i arg13) a + S128x128.size a ≤ S4096x128.size a := fun i arg13 k0_hw2 => k0_hw2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S4096x2304 : Shape := ⟨2, ![4096, 2304]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096 : Shape := ⟨2, ![8, 4096]⟩
abbrev S4x2x32x128 : Shape := ⟨4, ![4, 2, 32, 128]⟩
abbrev S4x32x2x128 : Shape := ⟨4, ![4, 32, 2, 128]⟩
abbrev S4x32x256x1 : Shape := ⟨4, ![4, 32, 256, 1]⟩
abbrev S4x32x256x128 : Shape := ⟨4, ![4, 32, 256, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4096x512, .f32⟩
  | .hbm, ⟨2, _⟩ => ⟨S4096x8x64, .f32⟩
  | .hbm, ⟨3, _⟩ => ⟨S4096x512, .f32⟩
  | .hbm, ⟨4, _⟩ => ⟨S4096x8x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S_, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S_, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S_, .f32⟩
  | .hbm, ⟨61, _⟩ => ⟨S8x4096x4096, .i1⟩
  | .hbm, ⟨62, _⟩ => ⟨S8x4096x4096, .f32⟩
  | .hbm, ⟨63, _⟩ => ⟨S8x4096x4096, .f32⟩
  | .hbm, ⟨64, _⟩ => ⟨S4096x512, .f32⟩
  | .hbm, ⟨65, _⟩ => ⟨S4096x8x64, .f32⟩
  | .hbm, ⟨66, _⟩ => ⟨S8x64x4096, .f32⟩
  | .hbm, ⟨67, _⟩ => ⟨S4096x8x64, .f32⟩
  | .hbm, ⟨68, _⟩ => ⟨S4096x512, .f32⟩
  | .hbm, ⟨69, _⟩ => ⟨S_, .f32⟩
  | .hbm, ⟨70, _⟩ => ⟨S8x4096, .f32⟩
  | .hbm, ⟨71, _⟩ => ⟨S4x2x32x128, .f32⟩
  | .hbm, ⟨72, _⟩ => ⟨S4x32x2x128, .f32⟩
  | .hbm, ⟨73, _⟩ => ⟨S4x32x256x1, .f32⟩
  | .hbm, ⟨74, _⟩ => ⟨S4096x512, .bf16⟩
  | .hbm, ⟨75, _⟩ => ⟨S4x32x256x128, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v15 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v16 : Ref sig .tc := ⟨.hbm, 52, rfl⟩
abbrev main_call3_cst : Ref sig .tc := ⟨.hbm, 53, rfl⟩
abbrev main_call3_v0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Kernel17.lean ====
abbrev S4x512x1024 : Shape := ⟨3, ![4, 512, 1024]⟩
abbrev S_ : Shape := ⟨0, ![]⟩
abbrev S2 : Shape := ⟨1, ![2]⟩
abbrev S2x512x1024 : Shape := ⟨3, ![2, 512, 1024]⟩
abbrev S1x512x1024 : Shape := ⟨3, ![1, 512, 1024]⟩
abbrev S1 : Shape := ⟨1, ![1]⟩
abbrev S512x1024 : Shape := ⟨2, ![512, 1024]⟩

abbrev nBuf : Space → Nat
  | .hbm => 5
  | .vmem => 2
  | .smem => 1
  | _ => 0

abbrev bufTy : (tb : Table) → Fin (tcTables nBuf tb) → BufTy
  | .hbm, ⟨0, _⟩ => ⟨S4x512x1024, .bf16⟩
  | .hbm, ⟨1, _⟩ => ⟨S_, .i32⟩
  | .hbm, ⟨2, _⟩ => ⟨S2x512x1024, .f32⟩
  | .hbm, ⟨3, _⟩ => ⟨S1x512x1024, .f32⟩
  | .hbm, ⟨4, _⟩ => ⟨S512x1024, .f32⟩
  | .local _ .vmem, ⟨0, _⟩ => ⟨S4x512x1024, .bf16⟩
  | .local _ .vmem, ⟨1, _⟩ => ⟨S1x512x1024, .f32⟩
  | .local _ .smem, ⟨0, _⟩ => ⟨S2, .i32⟩
  | _, _ => ⟨S4x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference17Ideal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mixer.lean ====
/- The values of the mixer's backward call. -/
module

public import proofs.«01_k».proof.Proof.Gen.KernelIdeal.Value
public import proofs.«01_k».proof.Proof.Gen.ReferenceIdeal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.KernelIdeal.Mixer

open Cert.KernelIdeal Cert.KernelIdeal.Gen Cert.ReferenceIdeal.Read

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0, 0] ∧ win0_6.index t = ![0, 0, 0] ∧ win0_7.index t = ![t.val, 0]
    ∧ win0_8.index t = ![t.val, 0] ∧ win0_9.index t = ![t.val, 0] ∧ win0_10.index t = ![t.val, 0]
    ∧ win0_11.index t = ![t.val, 0] :=
  (by decide +kernel : ∀ t : Fin grid0.N, _)

/-- A sum over 1024 indices in four runs of 256. -/
theorem sum4 (f : Fin 1024 → EReal) : ∑ x, f x = ∑ x : Fin 256, f ⟨x, by omega⟩ + ∑ x : Fin 256, f ⟨256 + x, by omega⟩
    + ∑ x : Fin 256, f ⟨512 + x, by omega⟩ + ∑ x : Fin 256, f ⟨768 + x, by omega⟩ := by
  have h := Fin.sum_univ_add (a := 512) (b := 512) f
  have h1 := Fin.sum_univ_add (a := 256) (b := 256) fun x => f (Fin.castAdd 512 x)
  have h2 := Fin.sum_univ_add (a := 256) (b := 256) fun x => f (Fin.natAdd 512 x)
  rw [h, h1, h2, ← add_assoc]
  rfl

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 1024) :
    iblk m c 0 t (ix2 i k) = m ((c : Thread nD τ).loc main_arg6) (ix2 (row t i) k) := by
  blk_ext! [iblk, V, idx t, row]

theorem rd1 (c : Dev nD) (t : Fin cfg0.N) (i : Fin 512) (k : Fin 2048) :
    iblk m c 1 t (ix2 i k) = m ((c : Thread nD τ).loc main_arg0) (ix2 (row t i) k) := by
  blk_ext! [iblk, V, idx t, row]

theorem rd2 (c : Dev nD) (t : Fin cfg0.N) (i : Fin 512) (k : Fin 512) :
    iblk m c 2 t (ix2 i k) = m ((c : Thread nD τ).loc main_arg1) (ix2 (row t i) k) := by
  blk_ext! [iblk, V, idx t, row]

theorem rd3 (c : Dev nD) (t : Fin cfg0.N) (i : Fin 512) (k : Fin 512) :
    iblk m c 3 t (ix2 i k) = m ((c : Thread nD τ).loc main_arg2) (ix2 (row t i) k) := by
  blk_ext! [iblk, V, idx t, row]

theorem rd4 (c : Dev nD) (t : Fin cfg0.N) (i k : Fin 1024) :
    iblk m c 4 t (ix2 i k) = m ((c : Thread nD τ).loc main_arg5) (ix2 i k) := by
  blk_ext! [iblk, V, idx t]

/-- Column `b` of the packed weight's block `a` is column `256 a + b` of the weight. -/
theorem rd5 (c : Dev nD) (t : Fin cfg0.N) (a : Fin 4) (k : Fin 512) (b : Fin 256) (j : Fin 1024) (h : j.val = 256 * a.val + b) :
    iblk m c 5 t (ix3 a k b) = m ((c : Thread nD τ).loc main_arg3) (ix2 k j) := by
  blk_ext! [iblk, V, idx t]

theorem rd6 (c : Dev nD) (t : Fin cfg0.N) (a : Fin 4) (k : Fin 512) (b : Fin 256) (j : Fin 1024) (h : j.val = 256 * a.val + b) :
    iblk m c 6 t (ix3 a k b) = m ((c : Thread nD τ).loc main_arg4) (ix2 k j) := by
  blk_ext! [iblk, V, idx t]

/-- A branch's output before the gate, column block by column block. -/
theorem col4 {G : EReal} (f : Fin 4 → Fin 256 → EReal) (j : Fin 1024)
    (h : ∀ a b, j.val = 256 * a.val + b.val → f a b = G) :
    (if h : j.val < 256 then f 0 ⟨j.val, h⟩ else if h : j.val - 256 < 256 then f 1 ⟨j.val - 256, h⟩
      else if h : j.val - 256 - 256 < 256 then f 2 ⟨j.val - 256 - 256, h⟩
      else f 3 ⟨j.val - 256 - 256 - 256, by omega⟩) = G := by
  split_ifs <;> refine h _ _ ?_ <;> simp <;> omega

theorem final7 (c : Dev nD) : (dats m 0 c).arrAt 7 (cfgs 0).N
    = val_main_v39 (F := Ideal) (m ((c : Thread nD τ).loc main_arg0)) (m ((c : Thread nD τ).loc main_arg5)) (m ((c : Thread nD τ).loc main_arg6)) := by
  refine (dats m 0 c).arrAt_eq_of_covers 7 _ (by decide +kernel) fun t hf y => ?_
  obtain ⟨i, j, rfl⟩ : ∃ (i : Fin 512) (j : Fin 1024), y = ix2 i j := ⟨y 0, y 1, by ext a; fin_cases a <;> rfl⟩
  blk_simp
  rw [after0_7]; frame_out
  have e : (((View.whole main_v10_0).slice (win0_7.rect t)).emb (ix2 i j)) = ix2 (row t i) j := by
    blk_ext [idx t, row] <;> simp <;> omega
  rw [e]
  pointwise! [k0_pay10, k0_pay18, k0_pay19, k0_pay2, k0_pay3, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
  simp only [zero_sub, rd0, rd1, rd4]
  exact mul_comm (G := EReal) _ _

theorem final8 (c : Dev nD) : (dats m 0 c).arrAt 8 (cfgs 0).N
    = val_main_v40 (F := Ideal) (m ((c : Thread nD τ).loc main_arg0)) (m ((c : Thread nD τ).loc main_arg5)) (m ((c : Thread nD τ).loc main_arg6)) := by
  refine (dats m 0 c).arrAt_eq_of_covers 8 _ (by decide +kernel) fun t hf y => ?_
  obtain ⟨i, j, rfl⟩ : ∃ (i : Fin 512) (j : Fin 1024), y = ix2 i j := ⟨y 0, y 1, by ext a; fin_cases a <;> rfl⟩
  blk_simp
  rw [after0_8]; frame_out
  have e : (((View.whole main_v10_1).slice (win0_8.rect t)).emb (ix2 i j)) = ix2 (row t i) j := by
    blk_ext [idx t, row] <;> simp <;> omega
  rw [e]
  pointwise! [k0_pay11, k0_pay18, k0_pay20, k0_pay2, k0_pay4, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
  simp only [zero_sub, rd0, rd1, rd4]
  exact mul_comm (G := EReal) _ _

theorem final10 (c : Dev nD) : (dats m 0 c).arrAt 10 (cfgs 0).N
    = val_main_v42 (F := Ideal) (m ((c : Thread nD τ).loc main_arg0)) (m ((c : Thread nD τ).loc main_arg3)) (m ((c : Thread nD τ).loc main_arg5)) (m ((c : Thread nD τ).loc main_arg6)) := by
  refine (dats m 0 c).arrAt_eq_of_covers 10 _ (by decide +kernel) fun t hf y => ?_
  obtain ⟨i, j, rfl⟩ : ∃ (i j : Fin 512), y = ix2 i j := ⟨y 0, y 1, by ext a; fin_cases a <;> rfl⟩
  blk_simp
  rw [after0_10]; frame_out
  have e : (((View.whole main_v10_3).slice (win0_10.rect t)).emb (ix2 i j)) = ix2 (row t i) j := by
    blk_ext [idx t, row] <;> simp <;> omega
  rw [e]
  pointwise! [k0_pay16, k0_pay10, k0_pay18, k0_pay19, k0_pay2, k0_pay3, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
  simp only [zero_sub, rd0, rd1, rd4, sum4, mul_comm (Ideal.div (1 : EReal) _)]
  refine congrArg₂ _ (congrArg₂ _ (congrArg₂ _ ?_ ?_) ?_) ?_ <;> refine Finset.sum_congr rfl fun x _ => congrArg₂ _ rfl ?_
  · exact rd5 m c t 0 j x _ (by simp)
  · exact rd5 m c t 1 j x _ (by simp)
  · exact rd5 m c t 2 j x _ (by simp)
  · exact rd5 m c t 3 j x _ (by simp)

theorem final11 (c : Dev nD) : (dats m 0 c).arrAt 11 (cfgs 0).N
    = val_main_v43 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 11 _ (by decide +kernel) fun t hf y => ?_
  obtain ⟨i, j, rfl⟩ : ∃ (i j : Fin 512), y = ix2 i j := ⟨y 0, y 1, by ext a; fin_cases a <;> rfl⟩
  blk_simp
  rw [after0_11]; frame_out
  have e : (((View.whole main_v10_4).slice (win0_11.rect t)).emb (ix2 i j)) = ix2 (row t i) j := by
    blk_ext [idx t, row] <;> simp <;> omega
  rw [e]
  pointwise! [k0_pay1, k0_pay17, k0_pay21, k0_pay11, k0_pay18, k0_pay20, k0_pay2, k0_pay4, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
  simp only [zero_sub, rd0, rd1, rd4, sum4, mul_comm (Ideal.div (1 : EReal) _)]
  refine congrArg₂ _ (congrArg₂ _ (congrArg₂ _ ?_ ?_) ?_) ?_ <;> refine Finset.sum_congr rfl fun x _ => congrArg₂ _ rfl ?_
  · exact rd6 m c t 0 j x _ (by simp)
  · exact rd6 m c t 1 j x _ (by simp)
  · exact rd6 m c t 2 j x _ (by simp)
  · exact rd6 m c t 3 j x _ (by simp)

theorem final9 (c : Dev nD) : (dats m 0 c).arrAt 9 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]; frame_out
  canon_tiles x hx
  · obtain ⟨i, j, rfl⟩ : ∃ i j, x = ix2 i j := ⟨x 0, x 1, by ext a; fin_cases a <;> rfl⟩
    have e : (((View.whole main_v10_2).slice (win0_9.rect t)).emb y) = ix2 (row t i) ⟨1024 + j.val, by omega⟩ := by
      blk_ext [idx t, row] <;> simp_all <;> omega
    rw [e]
    pointwise! [k0_pay15, k0_pay20, k0_pay18, k0_pay2, k0_pay4, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
    pointwise! [k0_pay9]
    simp only [zero_sub, mul_assoc, rd0, rd1, rd3, rd4]
    rw [col4 (fun a b => ∑ x, HMul.hMul (α := EReal) (β := EReal) (γ := EReal) (m ((c : Thread nD τ).loc main_arg2) (ix2 (row t i) x)) (iblk m c 6 t (ix3 a x b))) j
      (G := ∑ x, HMul.hMul (α := EReal) (β := EReal) (γ := EReal) (m ((c : Thread nD τ).loc main_arg2) (ix2 (row t i) x)) (m ((c : Thread nD τ).loc main_arg4) (ix2 x j)))
      fun a b h => Finset.sum_congr rfl fun x _ => by rw [rd6 m c t a x b j h]]
  · obtain ⟨i, j, rfl⟩ : ∃ i j, x = ix2 i j := ⟨x 0, x 1, by ext a; fin_cases a <;> rfl⟩
    have e : (((View.whole main_v10_2).slice (win0_9.rect t)).emb y) = ix2 (row t i) ⟨j.val, by omega⟩ := by
      blk_ext [idx t, row] <;> simp_all <;> omega
    rw [e]
    pointwise! [k0_pay14, k0_pay12, k0_pay13, k0_pay19, k0_pay18, k0_pay2, k0_pay3, val_main_cst, val_main_v0, val_main_v1, val_main_v2, val_main_v3, val_main_v4, val_main_v5, val_main_v6, val_main_v7, val_main_v8, val_main_cst_0, val_main_v9, val_main_v10, val_main_cst_1, val_main_v11, val_main_v12, val_main_cst_2, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43]
    pointwise! [k0_pay5, k0_pay6, k0_pay7, k0_pay8]
    simp only [zero_sub, mul_assoc, rd0, rd1, rd2, rd4]
    rw [col4 (fun a b => ∑ x, HMul.hMul (α := EReal) (β := EReal) (γ := EReal) (m ((c : Thread nD τ).loc main_arg1) (ix2 (row t i) x)) (iblk m c 5 t (ix3 a x b))) j
      (G := ∑ x, HMul.hMul (α := EReal) (β := EReal) (γ := EReal) (m ((c : Thread nD τ).loc main_arg1) (ix2 (row t i) x)) (m ((c : Thread nD τ).loc main_arg3) (ix2 x j)))
      fun a b h => Finset.sum_congr rfl fun x _ => by rw [rd5 m c t a x b j h]]

end Cert.KernelIdeal.Mixer
-- ==== Proof.MixerClaim.lean ====
/- The mixer's backward call: kernel and reference end with the same results. -/
module

public import proofs.«01_k».proof.Defs
public import proofs.«01_k».proof.Proof.Mixer
public import Idealize.ShloMosaic.Lib.Quiescent

@[expose] public section

noncomputable section

namespace Cert.Proof

open Idealize.ShloMosaic Idealize.SL.Sem

theorem mixer_reference : Cert.quiescent_ReferenceIdeal (hReferenceIdeal := Cert.ReferenceIdeal.Gen.facts) := by
  intro m g _
  exact (θ_run (Cert.ReferenceIdeal.defs (F := Ideal)) _ _).mono (fun r h => ⟨fun c => (h c).2.2.2.2.2, sem_eq_zero_of_no_sems rfl _⟩) (Cert.ReferenceIdeal.Value.run m g)

theorem mixer : Cert.algebraic_KernelIdeal_ReferenceIdeal (hKernelIdeal := Cert.KernelIdeal.Gen.facts) (hReferenceIdeal := Cert.ReferenceIdeal.Gen.facts) := by
  intro m g m' g' _ hag
  refine ⟨fun c => Cert.ReferenceIdeal.Read.val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    (θ_run (Cert.KernelIdeal.defs (F := Ideal)) _ _).mono (fun r h c => ?_) (Cert.KernelIdeal.Value.run_blocks m g),
    (θ_run (Cert.ReferenceIdeal.defs (F := Ideal)) _ _).mono (fun r h c => ?_) (Cert.ReferenceIdeal.Value.run m' g')⟩
  · have h := h c
    exact ⟨h.1.trans (Cert.KernelIdeal.Mixer.final7 m c), h.2.1.trans (Cert.KernelIdeal.Mixer.final8 m c), h.2.2.1.trans (Cert.KernelIdeal.Mixer.final9 m c), h.2.2.2.1.trans (Cert.KernelIdeal.Mixer.final10 m c), h.2.2.2.2.1.trans (Cert.KernelIdeal.Mixer.final11 m c), h.2.2.2.2.2⟩
  · have h := h c
    obtain ⟨e0, e1, e2, e3, e4, e5, e6⟩ := hag c
    exact ⟨h.1.trans ((Cert.ReferenceIdeal.Read.val_main_v39_eq _ _ _ ).trans (by rw [e0, e5, e6])),
      h.2.1.trans ((Cert.ReferenceIdeal.Read.val_main_v40_eq _ _ _ ).trans (by rw [e0, e5, e6])),
      h.2.2.1.trans ((Cert.ReferenceIdeal.Read.val_main_v41_eq _ _ _ _ _ _ _ ).trans (by rw [e0, e1, e2, e3, e4, e5, e6])),
      h.2.2.2.1.trans ((Cert.ReferenceIdeal.Read.val_main_v42_eq _ _ _ _ ).trans (by rw [e0, e3, e5, e6])),
      h.2.2.2.2.1.trans ((Cert.ReferenceIdeal.Read.val_main_v43_eq _ _ _ _ ).trans (by rw [e0, e4, e5, e6])), h.2.2.2.2.2⟩

end Cert.Proof

end
-- ==== Proof.Rms.lean ====
/- The derivative of the root mean square normalisation at finite numbers: the closed form that the backward calls
   compute, and the form that differentiating the normalisation step by step gives. -/
module

public import Idealize.ShloMosaic.Lib.Pipeline.ValueKit

@[expose] public section

noncomputable section

open Idealize.ShloMosaic
open scoped BigOperators

namespace Cert.Rms

/-- A finite number. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, by push_cast; rfl⟩

theorem Fin'.add {x y : EReal} (hx : Fin' x) (hy : Fin' y) : Fin' (x + y) := by
  obtain ⟨a, rfl⟩ := hx; obtain ⟨b, rfl⟩ := hy; exact ⟨a + b, by push_cast; rfl⟩

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem Fin'.sum {ι : Type*} (s : Finset ι) (f : ι → EReal) (h : ∀ k, Fin' (f k)) : Fin' (∑ k ∈ s, f k) := by
  choose g hg using h
  exact ⟨∑ k ∈ s, g k, by rw [coe_sum]; exact Finset.sum_congr rfl fun k _ => hg k⟩

/-- Magnitude below infinity is finiteness. -/
theorem fin_of_lt {x : EReal} (h1 : x ≠ ⊤) (h2 : x ≠ ⊥) : Fin' x := ⟨x.toReal, (EReal.coe_toReal h1 h2).symm⟩

theorem n_eq : Ideal.ofBits FTy.f32 1149239296#32 = ((1024 : ℝ) : EReal) := by
  simp [Ideal.ofBits, Ideal.ieee, -EReal.coe_mul]; norm_num

theorem half_eq : Ideal.ofBits FTy.f32 3204448256#32 = ((-(1 / 2) : ℝ) : EReal) := by
  simp [Ideal.ofBits, Ideal.ieee, -EReal.coe_mul]; norm_num

theorem eps_pos : ∃ e : ℝ, 0 < e ∧ Ideal.ofBits FTy.f32 897988541#32 = (e : EReal) := by
  refine ⟨_, ?_, by simp [Ideal.ofBits, Ideal.ieee, -EReal.coe_mul]; rfl⟩
  norm_num

/-- The mean square of a row, with the small constant. -/
def ms (x : Fin 1024 → EReal) : EReal :=
  Ideal.div (∑ k, x k * x k) (Ideal.ofBits FTy.f32 1149239296#32) + Ideal.ofBits FTy.f32 897988541#32

theorem ms_coe (x : Fin 1024 → ℝ) : ∃ v : ℝ, 0 < v ∧ ms (fun k => (x k : EReal)) = (v : EReal) := by
  obtain ⟨e, he, hee⟩ := eps_pos
  refine ⟨(∑ k, x k * x k) * (1 / 1024) + e, ?_, ?_⟩
  · have : 0 ≤ ∑ k, x k * x k := Finset.sum_nonneg fun k _ => mul_self_nonneg _
    positivity
  · rw [ms, n_eq, hee, Ideal.div_coe (by norm_num), EReal.coe_add, EReal.coe_mul, coe_sum]
    simp only [EReal.coe_mul]

theorem fin_rsqrt_ms (x : Fin 1024 → EReal) (hx : ∀ k, Fin' (x k)) : Fin' (Ideal.rsqrt (ms x)) := by
  choose X hX using hx
  obtain rfl : x = fun k => (X k : EReal) := funext hX
  obtain ⟨v, hv, hve⟩ := ms_coe X
  rw [hve, Ideal.rsqrt_coe, if_neg hv.not_gt, if_neg hv.ne']
  exact ⟨_, rfl⟩

theorem two_fin : Fin' (Ideal.ofBits FTy.f32 1073741824#32) := by
  refine ⟨2, ?_⟩
  simp [Ideal.ofBits, Ideal.ieee, -EReal.coe_mul]; norm_num

theorem Fin'.max_zero {x : EReal} (hx : Fin' x) : Fin' (max x 0) := by
  rcases le_total x 0 with h | h
  · rw [max_eq_right h]; exact ⟨0, rfl⟩
  · rw [max_eq_left h]; exact hx

theorem Fin'.sub {x y : EReal} (hx : Fin' x) (hy : Fin' y) : Fin' (x - y) := by
  obtain ⟨a, rfl⟩ := hx; obtain ⟨b, rfl⟩ := hy; exact ⟨a - b, by push_cast; rfl⟩

theorem one_fin : Fin' 1 := ⟨1, by simp⟩

/-- The sigmoid of a finite number. -/
theorem fin_sigmoid {x : EReal} (hx : Fin' x) : Fin' (Ideal.div 1 (1 + Ideal.exp (-x))) := by
  obtain ⟨a, rfl⟩ := hx
  rw [← EReal.coe_neg, Ideal.exp_coe, ← EReal.coe_one, ← EReal.coe_add, Ideal.div_coe (by positivity), ← EReal.coe_mul]
  exact ⟨_, rfl⟩

theorem small_fin : Fin' (Ideal.ofBits FTy.f32 981467136#32) := by
  refine ⟨1 / 1024, ?_⟩
  simp [Ideal.ofBits, Ideal.ieee, -EReal.coe_mul]; norm_num

theorem half_fin : Fin' (Ideal.ofBits FTy.f32 1056964608#32) := by
  refine ⟨1 / 2, ?_⟩
  simp [Ideal.ofBits, Ideal.ieee, -EReal.coe_mul]; norm_num

theorem Fin'.mean {x : EReal} (hx : Fin' x) : Fin' (Ideal.div x (Ideal.ofBits FTy.f32 1149239296#32)) := by
  rw [n_eq, Ideal.div_coe (by norm_num)]
  exact hx.mul ⟨_, rfl⟩

/-- A finite factor moves into a sum of finite terms. -/
theorem mul_sum_fin {ι : Type*} (s : Finset ι) (a : EReal) (f : ι → EReal) (ha : Fin' a) (hf : ∀ k, Fin' (f k)) :
    a * ∑ k ∈ s, f k = ∑ k ∈ s, a * f k := by
  obtain ⟨b, rfl⟩ := ha
  choose g hg using hf
  obtain rfl : f = fun k => (g k : EReal) := funext hg
  simp only [← EReal.coe_mul, ← coe_sum, Finset.mul_sum]

/-- Both forms of the derivative at one place of the row. -/
theorem back (x d : Fin 1024 → EReal) (c : EReal) (hx : ∀ k, Fin' (x k)) (hd : ∀ k, Fin' (d k)) (j : Fin 1024) :
    c + Ideal.rsqrt (ms x) * (d j - x j * Ideal.rsqrt (ms x)
        * Ideal.div (∑ k, d k * (x k * Ideal.rsqrt (ms x))) (Ideal.ofBits FTy.f32 1149239296#32))
      = c + d j * Ideal.rsqrt (ms x)
        + x j * Ideal.div ((∑ k, x k * d k) * (Ideal.ofBits FTy.f32 3204448256#32 * Ideal.div (Ideal.rsqrt (ms x)) (ms x)))
          (Ideal.ofBits FTy.f32 1149239296#32)
        + Ideal.div ((∑ k, x k * d k) * (Ideal.ofBits FTy.f32 3204448256#32 * Ideal.div (Ideal.rsqrt (ms x)) (ms x)))
          (Ideal.ofBits FTy.f32 1149239296#32) * x j := by
  choose X hX using hx
  choose D hD using hd
  obtain rfl : x = fun k => (X k : EReal) := funext hX
  obtain rfl : d = fun k => (D k : EReal) := funext hD
  obtain ⟨v, hv, hve⟩ := ms_coe X
  have hn : ((1024 : ℝ)) ≠ 0 := by norm_num
  have hs : Real.sqrt v * Real.sqrt v = v := Real.mul_self_sqrt hv.le
  have hs0 : Real.sqrt v ≠ 0 := (Real.sqrt_pos.mpr hv).ne'
  have hr : Ideal.rsqrt (v : EReal) = (((Real.sqrt v)⁻¹ : ℝ) : EReal) := by
    rw [Ideal.rsqrt_coe, if_neg hv.not_gt, if_neg hv.ne']
  rw [hve, hr, n_eq, half_eq]
  simp only [Ideal.div_coe hn, Ideal.div_coe hv.ne', ← EReal.coe_mul, ← coe_sum, ← EReal.coe_sub, add_assoc, ← EReal.coe_add]
  congr 2
  set r := (Real.sqrt v)⁻¹
  have hrv : r * (1 / v) = r * r * r := by
    rw [← hs]; simp only [r]; field_simp
  have h1 : ∑ k, D k * (X k * r) = (∑ k, X k * D k) * r := by
    rw [Finset.sum_mul]; exact Finset.sum_congr rfl fun k _ => by ring
  rw [h1, hrv]; ring

/-- An array whose magnitudes a precondition compares with infinity is finite everywhere. -/
theorem fin_of_pre {s : Shape} (b : (⟨0, ![]⟩ : Shape).BroadcastsInDim s (![] : Fin 0 → Fin s.rank)) (a : FVec Ideal s .f32)
    (h : cmpf .olt (Host.absf a) (broadcastInDim s ![] b (constant ⟨0, ![]⟩ .f32 0x7F800000#32)) = (fun _ => 1#1)) (i : s.Idx) :
    Fin' (a i) := by
  have h := congrFun h i
  pointwise at h
  have h : FloatOps.absf (F := Ideal) (φ := .f32) (a i) < Ideal.ofBits FTy.f32 2139095040#32 := by
    by_contra hn
    rw [decide_eq_false hn] at h
    exact absurd h (by decide)
  have ht : Ideal.ofBits FTy.f32 2139095040#32 = ⊤ := by simp [Ideal.ofBits, Ideal.ieee]
  rw [ht] at h
  refine fin_of_lt (fun he => ?_) (fun he => ?_) <;> rw [he] at h <;> simp [FloatOps.absf] at h

end Cert.Rms

end
-- ==== Proof.Ff.lean ====
/- The values of the feed-forward's backward call. -/
module

public import proofs.«01_k».proof.Proof.Gen.Kernel2Ideal.Value
public import proofs.«01_k».proof.Proof.Gen.Reference2Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel2Ideal.Ff

open Cert.Rms Cert.Kernel2Ideal Cert.Kernel2Ideal.Gen Cert.Reference2Ideal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

/-- Row `i` of block `t`. -/
def row (t : Fin cfg0.N) (i : Fin 256) : Fin 4096 := ⟨256 * t.val + i, by have := t.isLt; have h : cfg0.N = 16 := rfl; omega⟩

theorem rd0 (c : Dev nD) (t : Fin cfg0.N) (i : Fin 256) (k : Fin 1024) :
    iblk m c 0 t (ix2 i k) = m ((c : Thread nD τ).loc main_arg4) (ix2 (row t i) k) := by
  blk_ext! [iblk, V, idx t, row]

theorem rd2 (c : Dev nD) (t : Fin cfg0.N) (i : Fin 256) (k : Fin 1024) :
    iblk m c 2 t (ix2 i k) = m ((c : Thread nD τ).loc main_arg0) (ix2 (row t i) k) := by
  blk_ext! [iblk, V, idx t, row]

theorem stage3 (c : Dev nD) (k : Fin 1024) : V m c main_v16 (ix2 (0 : Fin 1) k) = m ((c : Thread nD τ).loc main_arg1) (ix1 k) := by
  simp only [V, hostOps0, hostOps0_1, hostOps0_2, List.flatten_cons, List.flatten_nil, List.append_nil, List.cons_append, List.nil_append]
  after_results
  pointwise!

theorem rd3 (c : Dev nD) (t : Fin cfg0.N) (z : Fin 1) (k : Fin 1024) :
    iblk m c 3 t (ix2 z k) = m ((c : Thread nD τ).loc main_arg1) (ix1 k) := by
  obtain rfl := Subsingleton.elim z 0
  refine Eq.trans ?_ (stage3 m c k)
  blk_ext! [iblk, idx t]

/-- The first weight is staged in four pieces of its columns. -/
theorem stage4 (c : Dev nD) (a : Fin 4) (k b : Fin 1024) (j : Fin 4096) (hj : j.val = 1024 * a.val + b.val) :
    V m c main_v19 (ix3 a k b) = m ((c : Thread nD τ).loc main_arg2) (ix2 k j) := by
  simp only [V, hostOps0, hostOps0_1, hostOps0_2, List.flatten_cons, List.flatten_nil, List.append_nil, List.cons_append, List.nil_append]
  after_results
  pointwise [transpose, shapeCast]
  exact congrArg (fun q => m ((c : Thread nD τ).loc main_arg2) (ix2 k q)) (Fin.ext (by simp; omega))

theorem rd4_0 (c : Dev nD) (t : Fin cfg0.N) (j k : Fin 1024) :
    iblk m c 4 t (ix3 (0 : Fin 4) j k) = m ((c : Thread nD τ).loc main_arg2) (ix2 j ⟨k.val, by omega⟩) := by
  refine Eq.trans ?_ (stage4 m c 0 j k _ (by simp))
  blk_ext! [iblk, idx t]

theorem rd4_1 (c : Dev nD) (t : Fin cfg0.N) (j k : Fin 1024) :
    iblk m c 4 t (ix3 (1 : Fin 4) j k) = m ((c : Thread nD τ).loc main_arg2) (ix2 j ⟨1024 + k.val, by omega⟩) := by
  refine Eq.trans ?_ (stage4 m c 1 j k _ (by simp))
  blk_ext! [iblk, idx t]

theorem rd4_2 (c : Dev nD) (t : Fin cfg0.N) (j k : Fin 1024) :
    iblk m c 4 t (ix3 (2 : Fin 4) j k) = m ((c : Thread nD τ).loc main_arg2) (ix2 j ⟨2048 + k.val, by omega⟩) := by
  refine Eq.trans ?_ (stage4 m c 2 j k _ (by simp))
  blk_ext! [iblk, idx t]

theorem rd4_3 (c : Dev nD) (t : Fin cfg0.N) (j k : Fin 1024) :
    iblk m c 4 t (ix3 (3 : Fin 4) j k) = m ((c : Thread nD τ).loc main_arg2) (ix2 j ⟨3072 + k.val, by omega⟩) := by
  refine Eq.trans ?_ (stage4 m c 3 j k _ (by simp))
  blk_ext! [iblk, idx t]

/-- The first weight applied to the normalised rows. -/
def up (c : Dev nD) (r k : Fin 4096) : EReal :=
  ∑ j : Fin 1024, HMul.hMul (α := EReal) (β := EReal) (γ := EReal) (HMul.hMul (α := EReal) (β := EReal) (γ := EReal) (HMul.hMul (α := EReal) (β := EReal) (γ := EReal) (m ((c : Thread nD τ).loc main_arg0) (ix2 r j))
    (Ideal.rsqrt (ms fun k => m ((c : Thread nD τ).loc main_arg0) (ix2 r k)))) (m ((c : Thread nD τ).loc main_arg1) (ix1 j))) (m ((c : Thread nD τ).loc main_arg2) (ix2 j k))

theorem stage1 (c : Dev nD) (a k : Fin 4096) : V m c main_v15 (ix2 a k) = max (up m c a k) 0 := by
  simp only [V, hostOps0, hostOps0_1, hostOps0_2, List.flatten_cons, List.flatten_nil, List.append_nil, List.cons_append, List.nil_append]
  after_results
  simp only [StableHlo.TRef.toBuf, StableHlo.TRef.ofBuf, cast_eq]
  pointwise! [up, ms]

/-- The staged activations: the positive part of the normalised rows times the first weight. -/
theorem rd1 (c : Dev nD) (t : Fin cfg0.N) (i : Fin 256) (k : Fin 4096) :
    iblk m c 1 t (ix2 i k) = max (up m c (row t i) k) 0 := by
  refine Eq.trans ?_ (stage1 m c (row t i) k)
  blk_ext! [iblk, idx t, row]

theorem rd5 (c : Dev nD) (t : Fin cfg0.N) (k : Fin 4096) (j : Fin 1024) :
    iblk m c 5 t (ix2 k j) = m ((c : Thread nD τ).loc main_arg3) (ix2 k j) := by
  blk_ext! [iblk, V, idx t]

/-- The gradient of the activations' input. -/
def du (c : Dev nD) (r k : Fin 4096) : EReal :=
  (∑ j : Fin 1024, HMul.hMul (α := EReal) (β := EReal) (γ := EReal) (m ((c : Thread nD τ).loc main_arg4) (ix2 r j)) (m ((c : Thread nD τ).loc main_arg3) (ix2 k j))) * (Ideal.ofBits FTy.f32 1073741824#32 * max (up m c r k) 0)

/-- Where the positive part is zero the gradient vanishes. -/
theorem du_eq (c : Dev nD) (r k : Fin 4096) : (if 0 < up m c r k then
    (∑ j : Fin 1024, HMul.hMul (α := EReal) (β := EReal) (γ := EReal) (m ((c : Thread nD τ).loc main_arg4) (ix2 r j)) (m ((c : Thread nD τ).loc main_arg3) (ix2 k j))) * (Ideal.ofBits FTy.f32 1073741824#32 * max (up m c r k) 0) else 0) = du m c r k := by
  split
  · rfl
  · rename_i h
    rw [du, max_eq_right (not_lt.mp h), mul_zero, mul_zero]

/-- A sum over the columns, piece by piece. -/
theorem cols (f : Fin 4096 → EReal) : (((∑ k : Fin 1024, f ⟨k.val, by omega⟩) + (∑ k : Fin 1024, f ⟨1024 + k.val, by omega⟩))
    + (∑ k : Fin 1024, f ⟨2048 + k.val, by omega⟩)) + (∑ k : Fin 1024, f ⟨3072 + k.val, by omega⟩) = ∑ k, f k := by
  have h := fun (a b : ℕ) (g : Fin (a + b) → EReal) => Fin.sum_univ_add g
  refine Eq.trans ?_ ((h 3072 1024 f).trans (congrArg (· + _) ((h 2048 1024 _).trans (congrArg (· + _) (h 1024 1024 _))))).symm
  rfl

/-- The gradient of the normalised rows. -/
def dh (c : Dev nD) (r : Fin 4096) (j : Fin 1024) : EReal :=
  ∑ k : Fin 4096, HMul.hMul (α := EReal) (β := EReal) (γ := EReal) (du m c r k) (m ((c : Thread nD τ).loc main_arg2) (ix2 j k))

theorem du_point (c : Dev nD) (t : Fin cfg0.N) (i : Fin 256) (k : Fin 4096) :
    k0_pay4 (iblk m c 0 t) (iblk m c 5 t) (iblk m c 1 t) (ix2 i k) = du m c (row t i) k := by
  pointwise! [k0_pay3, k0_pay4, du]
  simp only [zero_add, rd0, rd1, rd5]

theorem final6 (c : Dev nD) : (dats m 0 c).arrAt 6 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨i, j, rfl⟩ : ∃ (i : Fin 256) (j : Fin 4096), y = ix2 i j := ⟨y 0, y 1, by ext a; fin_cases a <;> rfl⟩
  blk_simp
  have e : (((View.whole main_v21_0).slice (win0_6.rect t)).emb (ix2 i j)) = ix2 (row t i) j := by
    blk_ext [idx t, row] <;> simp <;> omega
  have h : du m c (row t i) j = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) j) := by
    rw [← du_eq]
    pointwise! [up, ms, val_main_cst, val_main_v0, val_main_v1, val_main_cst_0, val_main_v2, val_main_v3, val_main_cst_1, val_main_v4, val_main_v5, val_main_cst_2, val_main_v6, val_main_v7, val_main_v8, val_main_v9, val_main_cst_3, val_main_v10, val_main_v11, val_main_v12, val_main_v13, val_main_v14, val_main_v15, val_main_v16, val_main_v17, val_main_v18, val_main_call0_cst, val_main_call0_v0, val_main_v19, val_main_cst_4, val_main_v20, val_main_v21, val_main_cst_5, val_main_v22, val_main_v23, val_main_cst_6, val_main_v24, val_main_v25, val_main_v26, val_main_v27, val_main_v28, val_main_v29, val_main_v30, val_main_cst_7, val_main_v31, val_main_v32, val_main_v33, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58]
  rw [e, after0_6, ← h, ← du_point m c t i j]
  by_cases h0 : t.val % 16 = 0
  · rw [outsAt0_A m c t h0]
    frame_out
  · rw [outsAt0_B m c t h0]
    frame_out

theorem final7 (c : Dev nD) : (dats m 0 c).arrAt 7 (cfgs 0).N = val_main_v56 (F := Ideal) (m ((c : Thread nD τ).loc main_arg4)) := by
  refine (dats m 0 c).arrAt_eq_of_covers 7 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v21_1).slice (win0_7.rect t)).emb (ix2 i j)) = ix2 (row t i) j := by
    blk_ext [idx t, row] <;> simp <;> omega
  rw [e, after0_7]
  by_cases h0 : t.val % 16 = 0
  · rw [outsAt0_A m c t h0]
    frame_out
    pointwise! [k0_pay3, val_main_v56]
    exact rd0 m c t i j
  · rw [outsAt0_B m c t h0]
    frame_out
    pointwise! [k0_pay3, val_main_v56]
    exact rd0 m c t i j

/-- The rows' gradient as the reference states it. -/
theorem dx_ref (c : Dev nD) (r : Fin 4096) (j : Fin 1024) (w : EReal)
    (hw : w = Ideal.div ((∑ k, HMul.hMul (α := EReal) (β := EReal) (γ := EReal) (m ((c : Thread nD τ).loc main_arg0) (ix2 r k)) (dh m c r k * m ((c : Thread nD τ).loc main_arg1) (ix1 k))) * (Ideal.ofBits FTy.f32 3204448256#32
      * Ideal.div (Ideal.rsqrt (ms fun k => m ((c : Thread nD τ).loc main_arg0) (ix2 r k))) (ms fun k => m ((c : Thread nD τ).loc main_arg0) (ix2 r k)))) (Ideal.ofBits FTy.f32 1149239296#32)) :
    val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r j)
      = HAdd.hAdd (α := EReal) (β := EReal) (γ := EReal) (m ((c : Thread nD τ).loc main_arg4) (ix2 r j)) (HMul.hMul (α := EReal) (β := EReal) (γ := EReal) (dh m c r j) (m ((c : Thread nD τ).loc main_arg1) (ix1 j)) * Ideal.rsqrt (ms fun k => m ((c : Thread nD τ).loc main_arg0) (ix2 r k))) + HMul.hMul (α := EReal) (β := EReal) (γ := EReal) (m ((c : Thread nD τ).loc main_arg0) (ix2 r j)) (w) + HMul.hMul (α := EReal) (β := EReal) (γ := EReal) (w) (m ((c : Thread nD τ).loc main_arg0) (ix2 r j)) := by
  have hu : ∀ k, _ = du m c r k := du_eq m c r
  rw [hw]
  pointwise! [val_main_cst, val_main_v0, val_main_v1, val_main_cst_0, val_main_v2, val_main_v3, val_main_cst_1, val_main_v4, val_main_v5, val_main_cst_2, val_main_v6, val_main_v7, val_main_v8, val_main_v9, val_main_cst_3, val_main_v10, val_main_v11, val_main_v12, val_main_v13, val_main_v14, val_main_v15, val_main_v16, val_main_v17, val_main_v18, val_main_call0_cst, val_main_call0_v0, val_main_v19, val_main_cst_4, val_main_v20, val_main_v21, val_main_cst_5, val_main_v22, val_main_v23, val_main_cst_6, val_main_v24, val_main_v25, val_main_v26, val_main_v27, val_main_v28, val_main_v29, val_main_v30, val_main_cst_7, val_main_v31, val_main_v32, val_main_v33, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58]
  simp only [up, ms] at hu
  simp only [hu, Finset.univ_unique, Finset.sum_singleton, dh, ms]

theorem fin_du (c : Dev nD) (r k : Fin 4096)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hv : ∀ a b, Fin' (m ((c : Thread nD τ).loc main_arg3) (ix2 a b))) (hc : ∀ a b, Fin' (m ((c : Thread nD τ).loc main_arg4) (ix2 a b))) :
    Fin' (du m c r k) :=
  (Fin'.sum _ _ fun j => (hc _ _).mul (hv _ _)).mul (two_fin.mul (Fin'.max_zero
    (Fin'.sum _ _ fun j => (((hx _ _).mul (fin_rsqrt_ms _ fun k => hx _ _)).mul (hg _)).mul (hw _ _))))

theorem dx_point (c : Dev nD) (t : Fin cfg0.N) (i : Fin 256) (j : Fin 1024)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hv : ∀ a b, Fin' (m ((c : Thread nD τ).loc main_arg3) (ix2 a b))) (hc : ∀ a b, Fin' (m ((c : Thread nD τ).loc main_arg4) (ix2 a b))) :
    k0_pay11 (iblk m c 0 t) (k0_pay4 (iblk m c 0 t) (iblk m c 5 t) (iblk m c 1 t))
      (k0_pay5 (iblk m c 0 t) (iblk m c 5 t) (iblk m c 1 t)
        (View.ld (iblk m c 4 t) (Rect.unit ![0, 0, 0] ![1, 1024, 1024] inb_S4x1024x1024_S1x1024x1024_0_0_0))
        (View.ld (iblk m c 4 t) (Rect.unit ![1, 0, 0] ![1, 1024, 1024] inb_S4x1024x1024_S1x1024x1024_1_0_0)))
      (k0_pay6 (iblk m c 0 t) (iblk m c 5 t) (iblk m c 1 t)
        (View.ld (iblk m c 4 t) (Rect.unit ![2, 0, 0] ![1, 1024, 1024] inb_S4x1024x1024_S1x1024x1024_2_0_0)))
      (View.ld (iblk m c 4 t) (Rect.unit ![3, 0, 0] ![1, 1024, 1024] inb_S4x1024x1024_S1x1024x1024_3_0_0))
      (iblk m c 2 t) (iblk m c 3 t) (ix2 i j) =
    val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) j) := by
  rw [dx_ref m c (row t i) j _ rfl]
  pointwise! [k0_pay5, k0_pay6, k0_pay7, k0_pay8, k0_pay9, k0_pay10, k0_pay11]
  have hs : ∀ j : Fin 1024, _ = dh m c (row t i) j := fun j => cols (fun k => HMul.hMul (α := EReal) (β := EReal) (γ := EReal) (du m c (row t i) k) (m ((c : Thread nD τ).loc main_arg2) (ix2 j k)))
  have hb := back (fun k => m ((c : Thread nD τ).loc main_arg0) (ix2 (row t i) k)) (fun k => dh m c (row t i) k * m ((c : Thread nD τ).loc main_arg1) (ix1 k))
    (m ((c : Thread nD τ).loc main_arg4) (ix2 (row t i) j)) (fun k => hx _ _) (fun k => (Fin'.sum _ _ fun k => (fin_du m c _ k hx hg hw hv hc).mul (hw _ _)).mul (hg _)) j
  simp only [zero_add, rd0, rd2, rd3, rd4_0, rd4_1, rd4_2, rd4_3, du_point, hs]
  exact hb

theorem final8 (c : Dev nD)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hv : ∀ a b, Fin' (m ((c : Thread nD τ).loc main_arg3) (ix2 a b))) (hc : ∀ a b, Fin' (m ((c : Thread nD τ).loc main_arg4) (ix2 a b))) :
    (dats m 0 c).arrAt 8 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v21_2).slice (win0_8.rect t)).emb (ix2 i j)) = ix2 (row t i) j := by
    blk_ext [idx t, row] <;> simp <;> omega
  rw [e, after0_8]
  by_cases h0 : t.val % 16 = 0
  · rw [outsAt0_A m c t h0]
    frame_out
    exact dx_point m c t i j hx hg hw hv hc
  · rw [outsAt0_B m c t h0]
    frame_out
    exact dx_point m c t i j hx hg hw hv hc

theorem final9 (c : Dev nD)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hv : ∀ a b, Fin' (m ((c : Thread nD τ).loc main_arg3) (ix2 a b))) (hc : ∀ a b, Fin' (m ((c : Thread nD τ).loc main_arg4) (ix2 a b))) :
    (dats m 0 c).arrAt 9 (cfgs 0).N = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v21_3).slice (win0_9.rect t)).emb (ix2 i j)) = ix2 (row t i) j := by
    blk_ext [idx t, row] <;> simp <;> omega
  rw [e, after0_9]
  by_cases h0 : t.val % 16 = 0
  · rw [outsAt0_A m c t h0]
    frame_out
    exact dx_point m c t i j hx hg hw hv hc
  · rw [outsAt0_B m c t h0]
    frame_out
    exact dx_point m c t i j hx hg hw hv hc

/-- What one block adds to the weight's gradient. -/
def term (c : Dev nD) (t : Fin cfg0.N) (q : S1x1024.Idx) : EReal :=
  ∑ i : Fin 256, dh m c (row t i) (q 1) * (HMul.hMul (α := EReal) (β := EReal) (γ := EReal) (m ((c : Thread nD τ).loc main_arg0) (ix2 (row t i) (q 1))) (Ideal.rsqrt (ms fun k => m ((c : Thread nD τ).loc main_arg0) (ix2 (row t i) k))))

theorem dg_point (c : Dev nD) (t : Fin cfg0.N) (z : Fin 1) (j : Fin 1024) (acc : FVec Ideal S1x1024 .f32) :
    k0_pay1
      (k0_pay10 (k0_pay4 (iblk m c 0 t) (iblk m c 5 t) (iblk m c 1 t))
        (k0_pay5 (iblk m c 0 t) (iblk m c 5 t) (iblk m c 1 t)
          (View.ld (iblk m c 4 t) (Rect.unit ![0, 0, 0] ![1, 1024, 1024] inb_S4x1024x1024_S1x1024x1024_0_0_0))
          (View.ld (iblk m c 4 t) (Rect.unit ![1, 0, 0] ![1, 1024, 1024] inb_S4x1024x1024_S1x1024x1024_1_0_0)))
        (k0_pay6 (iblk m c 0 t) (iblk m c 5 t) (iblk m c 1 t)
          (View.ld (iblk m c 4 t) (Rect.unit ![2, 0, 0] ![1, 1024, 1024] inb_S4x1024x1024_S1x1024x1024_2_0_0)))
        (View.ld (iblk m c 4 t) (Rect.unit ![3, 0, 0] ![1, 1024, 1024] inb_S4x1024x1024_S1x1024x1024_3_0_0))
        (iblk m c 2 t)) acc (ix2 z j) = acc (ix2 z j) + term m c t (ix2 z j) := by
  obtain rfl := Subsingleton.elim z 0
  pointwise [k0_pay1, k0_pay5, k0_pay6, k0_pay7, k0_pay8, k0_pay9, k0_pay10, term]
  have hs : ∀ (i : Fin 256) (j : Fin 1024), _ = dh m c (row t i) j := fun i j => cols (fun k => HMul.hMul (α := EReal) (β := EReal) (γ := EReal) (du m c (row t i) k) (m ((c : Thread nD τ).loc main_arg2) (ix2 j k)))
  simp only [zero_add, rd0, rd2, rd3, rd4_0, rd4_1, rd4_2, rd4_3, du_point, hs, ms]

/-- The last block. -/
def last : Fin cfg0.N := ⟨15, by decide⟩

theorem final10 (c : Dev nD) : (dats m 0 c).arrAt 10 (cfgs 0).N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 10 last (by decide +kernel) _ fun q => ?_
  refine Eq.trans (b := (dats m 0 c).after 10 last q) (by blk_simp) ?_
  rw [after0_10]
  refine (Pipeline.eq_sum_fin_of_reset_step_apply_last (fun n h => (outsAt0 m c n h).2.2.2.2) 16 (fun _ => (0 : EReal)) (term m c) ?_ ?_
    (by decide) last rfl q).trans ?_
  · intro t h q
    obtain ⟨z, j, rfl⟩ : ∃ (z : Fin 1) (j : Fin 1024), q = ix2 z j := ⟨q 0, q 1, by ext a; fin_cases a <;> rfl⟩
    rw [outsAt0_A m c t h]
    frame_out
    refine (dg_point m c t z j _).trans (congrArg (· + _) ?_)
    pointwise! [k0_pay2]
  · intro t h q
    obtain ⟨z, j, rfl⟩ : ∃ (z : Fin 1) (j : Fin 1024), q = ix2 z j := ⟨q 0, q 1, by ext a; fin_cases a <;> rfl⟩
    rw [outsAt0_B m c t h]
    frame_out
    exact dg_point m c t z j _
  · obtain ⟨z, j, rfl⟩ : ∃ (z : Fin 1) (j : Fin 1024), q = ix2 z j := ⟨q 0, q 1, by ext a; fin_cases a <;> rfl⟩
    obtain rfl := Subsingleton.elim z 0
    have e : (View.whole main_v21_4).emb (ix2 (0 : Fin 1) j) = ix2 (0 : Fin 1) j := by blk_ext []
    rw [e]
    have hu : ∀ r k, _ = du m c r k := du_eq m c
    pointwise! [term, val_main_cst, val_main_v0, val_main_v1, val_main_cst_0, val_main_v2, val_main_v3, val_main_cst_1, val_main_v4, val_main_v5, val_main_cst_2, val_main_v6, val_main_v7, val_main_v8, val_main_v9, val_main_cst_3, val_main_v10, val_main_v11, val_main_v12, val_main_v13, val_main_v14, val_main_v15, val_main_v16, val_main_v17, val_main_v18, val_main_call0_cst, val_main_call0_v0, val_main_v19, val_main_cst_4, val_main_v20, val_main_v21, val_main_cst_5, val_main_v22, val_main_v23, val_main_cst_6, val_main_v24, val_main_v25, val_main_v26, val_main_v27, val_main_v28, val_main_v29, val_main_v30, val_main_cst_7, val_main_v31, val_main_v32, val_main_v33, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58]
    simp only [up, ms] at hu
    simp only [hu, zero_add]
    refine Fin.sum_points_lanes_congr 16 fun t k ha hl => ?_
    have er : row t k = ⟨t.val % 16 * 256 + k.val, hl⟩ := Fin.ext (by have := t.isLt; have h : cfg0.N = 16 := rfl; simp only [row]; omega)
    rw [← er]
    exact mul_comm (G := EReal) _ _

end Cert.Kernel2Ideal.Ff
-- ==== Proof.FfClaim.lean ====
/- The feed-forward's backward call: kernel and reference end with the same results. -/
module

public import proofs.«01_k».proof.Defs
public import proofs.«01_k».proof.Proof.Ff
public import Idealize.ShloMosaic.Lib.Quiescent

@[expose] public section

noncomputable section

namespace Cert.Proof

open Idealize.ShloMosaic Idealize.SL.Sem

/-- The side conditions of the precondition's operations. -/
theorem ff_facts : Cert.Pre_finite_ff.Facts := by
  constructor <;> decide

theorem ff_reference : Cert.quiescent_Reference2Ideal (hReference2Ideal := Cert.Reference2Ideal.Gen.facts) := by
  intro m g _
  exact (θ_run (Cert.Reference2Ideal.defs (F := Ideal)) _ _).mono (fun r h => ⟨fun c => (h c).2.2.2.2.2, sem_eq_zero_of_no_sems rfl _⟩) (Cert.Reference2Ideal.Value.run m g)

theorem ff : Cert.algebraic_Kernel2Ideal_Reference2Ideal_pre_finite_ff (hKernel2Ideal := Cert.Kernel2Ideal.Gen.facts) (hReference2Ideal := Cert.Reference2Ideal.Gen.facts) (hPre_finite_ff := ff_facts) := by
  intro m g m' g' hp hag
  refine ⟨fun c => Cert.Reference2Ideal.Read.val_main_v55 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v56 (F := Ideal) (m ((c.tc : Thread Cert.Kernel2Ideal.nD Cert.Kernel2Ideal.τ).loc Cert.Kernel2Ideal.main_arg4)),
    fun c => Cert.Reference2Ideal.Read.val_main_v54 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v57 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v58 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run (Cert.Kernel2Ideal.defs (F := Ideal)) _ _).mono (fun r h c => ?_) (Cert.Kernel2Ideal.Value.run_blocks m g),
    (θ_run (Cert.Reference2Ideal.defs (F := Ideal)) _ _).mono (fun r h c => ?_) (Cert.Reference2Ideal.Value.run m' g')⟩
  · have h := h c
    obtain ⟨f0, f1, f2, f3, f4⟩ := hp c
    exact ⟨h.1.trans (Cert.Kernel2Ideal.Ff.final6 m c), h.2.1.trans (Cert.Kernel2Ideal.Ff.final7 m c), h.2.2.1.trans (Cert.Kernel2Ideal.Ff.final8 m c (fun a b => Cert.Rms.fin_of_pre _ _ f0 (ix2 a b)) (fun a => Cert.Rms.fin_of_pre _ _ f1 (ix1 a)) (fun a b => Cert.Rms.fin_of_pre _ _ f2 (ix2 a b)) (fun a b => Cert.Rms.fin_of_pre _ _ f3 (ix2 a b)) (fun a b => Cert.Rms.fin_of_pre _ _ f4 (ix2 a b))), h.2.2.2.1.trans (Cert.Kernel2Ideal.Ff.final9 m c (fun a b => Cert.Rms.fin_of_pre _ _ f0 (ix2 a b)) (fun a => Cert.Rms.fin_of_pre _ _ f1 (ix1 a)) (fun a b => Cert.Rms.fin_of_pre _ _ f2 (ix2 a b)) (fun a b => Cert.Rms.fin_of_pre _ _ f3 (ix2 a b)) (fun a b => Cert.Rms.fin_of_pre _ _ f4 (ix2 a b))), h.2.2.2.2.1.trans (Cert.Kernel2Ideal.Ff.final10 m c), h.2.2.2.2.2⟩
  · have h := h c
    obtain ⟨e0, e1, e2, e3, e4⟩ := hag c
    exact ⟨h.1.trans ((Cert.Reference2Ideal.Read.val_main_v55_eq _ _ _ _ _ ).trans (by rw [e0, e1, e2, e3, e4])),
      h.2.1.trans ((Cert.Reference2Ideal.Read.val_main_v56_eq _ ).trans (by rw [e4])),
      h.2.2.1.trans ((Cert.Reference2Ideal.Read.val_main_v54_eq m' c).trans (by rw [e0, e1, e2, e3, e4])),
      h.2.2.2.1.trans ((Cert.Reference2Ideal.Read.val_main_v57_eq m' c).trans (by rw [e0, e1, e2, e3, e4])),
      h.2.2.2.2.1.trans ((Cert.Reference2Ideal.Read.val_main_v58_eq _ _ _ _ _ ).trans (by rw [e0, e1, e2, e3, e4])), h.2.2.2.2.2⟩

end Cert.Proof

end
-- ==== Proof.Ple.lean ====
/- The values of the gated embedding's backward call. -/
module

public import proofs.«01_k».proof.Proof.Gen.Kernel3Ideal.Value
public import proofs.«01_k».proof.Proof.Gen.Reference3Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel3Ideal.Ple

open Cert.Rms Cert.Kernel3Ideal Cert.Kernel3Ideal.Gen Cert.Reference3Ideal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 1024) :
    iblk m c 0 t (ix2 i k) = m ((c : Thread nD τ).loc main_arg5) (ix2 (row t i) k) := by
  blk_ext! [iblk, V, idx t, row]

theorem rd3 (c : Dev nD) (t : Fin cfg0.N) (i : Fin 512) (k : Fin 1024) :
    iblk m c 3 t (ix2 i k) = m ((c : Thread nD τ).loc main_arg1) (ix2 (row t i) k) := by
  blk_ext! [iblk, V, idx t, row]

theorem stage4 (c : Dev nD) (k : Fin 1024) : V m c main_v15 (ix2 (0 : Fin 1) k) = m ((c : Thread nD τ).loc main_arg2) (ix1 k) := by
  simp only [V, hostOps0]
  after_results
  pointwise!

theorem rd4 (c : Dev nD) (t : Fin cfg0.N) (z : Fin 1) (k : Fin 1024) :
    iblk m c 4 t (ix2 z k) = m ((c : Thread nD τ).loc main_arg2) (ix1 k) := by
  obtain rfl := Subsingleton.elim z 0
  refine Eq.trans ?_ (stage4 m c k)
  blk_ext! [iblk, idx t]

theorem stage5 (c : Dev nD) (j k : Fin 1024) : V m c main_v16 (ix2 j k) = m ((c : Thread nD τ).loc main_arg4) (ix2 j k) := by
  simp only [V, hostOps0]
  after_results
  pointwise!

theorem rd5 (c : Dev nD) (t : Fin cfg0.N) (j k : Fin 1024) :
    iblk m c 5 t (ix2 j k) = m ((c : Thread nD τ).loc main_arg4) (ix2 j k) := by
  refine Eq.trans ?_ (stage5 m c j k)
  blk_ext! [iblk, idx t]

/-- The embedding. -/
def pe (c : Dev nD) (r : Fin 4096) (j : Fin 1024) : EReal := ∑ k : Fin 256, HMul.hMul (α := EReal) (β := EReal) (γ := EReal) (m ((c : Thread nD τ).loc main_arg0) (ix2 r k)) (m ((c : Thread nD τ).loc main_arg3) (ix2 k j))

/-- The gate before its sigmoid. -/
def gt (c : Dev nD) (r : Fin 4096) (j : Fin 1024) : EReal :=
  ∑ k : Fin 1024, HMul.hMul (α := EReal) (β := EReal) (γ := EReal) (HMul.hMul (α := EReal) (β := EReal) (γ := EReal) (HMul.hMul (α := EReal) (β := EReal) (γ := EReal) (m ((c : Thread nD τ).loc main_arg1) (ix2 r k)) (Ideal.rsqrt (ms fun k => m ((c : Thread nD τ).loc main_arg1) (ix2 r k)))) (m ((c : Thread nD τ).loc main_arg2) (ix1 k))) (m ((c : Thread nD τ).loc main_arg4) (ix2 k j))

/-- The gate. -/
def sg (c : Dev nD) (r : Fin 4096) (j : Fin 1024) : EReal := Ideal.div 1 (1 + Ideal.exp (-gt m c r j))

theorem stage1 (c : Dev nD) (r : Fin 4096) (j : Fin 1024) : V m c main_v0 (ix2 r j) = pe m c r j := by
  simp only [V, hostOps0]
  after_results
  pointwise! [pe]

theorem stage2 (c : Dev nD) (r : Fin 4096) (j : Fin 1024) : V m c main_v14 (ix2 r j) = gt m c r j := by
  simp only [V, hostOps0]
  after_results
  pointwise! [gt, ms]

theorem rd1 (c : Dev nD) (t : Fin cfg0.N) (i : Fin 512) (k : Fin 1024) : iblk m c 1 t (ix2 i k) = pe m c (row t i) k := by
  refine Eq.trans ?_ (stage1 m c (row t i) k)
  blk_ext! [iblk, idx t, row]

theorem rd2 (c : Dev nD) (t : Fin cfg0.N) (i : Fin 512) (k : Fin 1024) : iblk m c 2 t (ix2 i k) = gt m c (row t i) k := by
  refine Eq.trans ?_ (stage2 m c (row t i) k)
  blk_ext! [iblk, idx t, row]

/-- The gradient of the gate before its sigmoid. -/
def dgt (c : Dev nD) (r : Fin 4096) (j : Fin 1024) : EReal :=
  HMul.hMul (α := EReal) (β := EReal) (γ := EReal) (m ((c : Thread nD τ).loc main_arg5) (ix2 r j)) (pe m c r j) * sg m c r j * (1 - sg m c r j)

/-- The gradient of the normalised rows. -/
def dh (c : Dev nD) (r : Fin 4096) (j : Fin 1024) : EReal :=
  ∑ k : Fin 1024, HMul.hMul (α := EReal) (β := EReal) (γ := EReal) (dgt m c r k) (m ((c : Thread nD τ).loc main_arg4) (ix2 j k))

theorem dpe_point (c : Dev nD) (t : Fin cfg0.N) (i : Fin 512) (j : Fin 1024) :
    k0_pay7 (iblk m c 0 t) (iblk m c 2 t) (ix2 i j) = val_main_v58 (F := Ideal) (m ((c : Thread nD τ).loc main_arg1)) (m ((c : Thread nD τ).loc main_arg2)) (m ((c : Thread nD τ).loc main_arg4)) (m ((c : Thread nD τ).loc main_arg5)) (ix2 (row t i) j) := by
  pointwise! [k0_pay6, k0_pay7, val_main_cst, val_main_v0, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v19, val_main_v20, val_main_v21, val_main_v22, val_main_cst_4, val_main_v23, val_main_v24, val_main_cst_5, val_main_v25, val_main_v26, val_main_cst_6, val_main_v27, val_main_v28, val_main_v29, val_main_v30, val_main_v31, val_main_v32, val_main_v33, val_main_v34, val_main_v35, val_main_v36, val_main_v37, val_main_cst_7, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, val_main_cst_11, val_main_v52, val_main_v53, val_main_v54, val_main_v55, val_main_v56, val_main_v57, val_main_v58, val_main_v59, val_main_v60]
  simp only [rd0, rd2, zero_sub, sg, gt, ms]

theorem final6 (c : Dev nD) : (dats m 0 c).arrAt 6 (cfgs 0).N = val_main_v58 (F := Ideal) (m ((c : Thread nD τ).loc main_arg1)) (m ((c : Thread nD τ).loc main_arg2)) (m ((c : Thread nD τ).loc main_arg4)) (m ((c : Thread nD τ).loc main_arg5)) := by
  refine (dats m 0 c).arrAt_eq_of_covers 6 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v17_0).slice (win0_6.rect t)).emb (ix2 i j)) = ix2 (row t i) j := by
    blk_ext [idx t, row] <;> simp <;> omega
  rw [e, after0_6]
  by_cases h0 : t.val % 8 = 0
  · rw [outsAt0_A m c t h0]
    frame_out
    exact dpe_point m c t i j
  · rw [outsAt0_B m c t h0]
    frame_out
    exact dpe_point m c t i j

theorem dgt_point (c : Dev nD) (t : Fin cfg0.N) (i : Fin 512) (j : Fin 1024) :
    k0_pay8 (iblk m c 0 t) (iblk m c 2 t) (iblk m c 1 t) (ix2 i j) = dgt m c (row t i) j := by
  pointwise! [k0_pay6, k0_pay8]
  simp only [rd0, rd1, rd2, zero_sub, dgt, sg]

theorem dgt_eq (c : Dev nD) (r : Fin 4096) (k : Fin 1024) :
    HMul.hMul (α := EReal) (β := EReal) (γ := EReal) (pe m c r k) (m ((c : Thread nD τ).loc main_arg5) (ix2 r k)) * (sg m c r k * (1 - sg m c r k)) = dgt m c r k := by
  rw [dgt, mul_comm (G := EReal) (pe m c r k), mul_assoc (G := EReal) _ (sg m c r k)]

theorem dgt_ref (c : Dev nD) (r : Fin 4096) (j : Fin 1024) : val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r j) = dgt m c r j := by
  pointwise! [val_main_cst, val_main_v0, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v19, val_main_v20, val_main_v21, val_main_v22, val_main_cst_4, val_main_v23, val_main_v24, val_main_cst_5, val_main_v25, val_main_v26, val_main_cst_6, val_main_v27, val_main_v28, val_main_v29, val_main_v30, val_main_v31, val_main_v32, val_main_v33, val_main_v34, val_main_v35, val_main_v36, val_main_v37, val_main_cst_7, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, val_main_cst_11, val_main_v52, val_main_v53, val_main_v54, val_main_v55, val_main_v56, val_main_v57, val_main_v58, val_main_v59, val_main_v60]
  refine Eq.trans ?_ (dgt_eq m c r j)
  simp only [sg, gt, pe, ms]

theorem final7 (c : Dev nD) : (dats m 0 c).arrAt 7 (cfgs 0).N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v17_1).slice (win0_7.rect t)).emb (ix2 i j)) = ix2 (row t i) j := by
    blk_ext [idx t, row] <;> simp <;> omega
  rw [e, after0_7]
  rw [dgt_ref]
  by_cases h0 : t.val % 8 = 0
  · rw [outsAt0_A m c t h0]
    frame_out
    exact dgt_point m c t i j
  · rw [outsAt0_B m c t h0]
    frame_out
    exact dgt_point m c t i j

theorem dh_point (c : Dev nD) (t : Fin cfg0.N) (i : Fin 512) (j : Fin 1024) :
    (k0_pay9 (iblk m c 0 t) (iblk m c 2 t) (iblk m c 1 t) (iblk m c 5 t)) (ix2 i j) = dh m c (row t i) j := by
  pointwise [k0_pay9]
  simp only [zero_add, dgt_point, rd5, dh]

theorem dx_ref (c : Dev nD) (r : Fin 4096) (j : Fin 1024) (w : EReal)
    (hw : w = Ideal.div ((∑ k, HMul.hMul (α := EReal) (β := EReal) (γ := EReal) (m ((c : Thread nD τ).loc main_arg1) (ix2 r k)) (dh m c r k * m ((c : Thread nD τ).loc main_arg2) (ix1 k))) * (Ideal.ofBits FTy.f32 3204448256#32
      * Ideal.div (Ideal.rsqrt (ms fun k => m ((c : Thread nD τ).loc main_arg1) (ix2 r k))) (ms fun k => m ((c : Thread nD τ).loc main_arg1) (ix2 r k)))) (Ideal.ofBits FTy.f32 1149239296#32)) :
    val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r j)
      = HAdd.hAdd (α := EReal) (β := EReal) (γ := EReal) (m ((c : Thread nD τ).loc main_arg5) (ix2 r j)) (HMul.hMul (α := EReal) (β := EReal) (γ := EReal) (dh m c r j) (m ((c : Thread nD τ).loc main_arg2) (ix1 j)) * Ideal.rsqrt (ms fun k => m ((c : Thread nD τ).loc main_arg1) (ix2 r k)))
        + HMul.hMul (α := EReal) (β := EReal) (γ := EReal) (m ((c : Thread nD τ).loc main_arg1) (ix2 r j)) (w) + HMul.hMul (α := EReal) (β := EReal) (γ := EReal) (w) (m ((c : Thread nD τ).loc main_arg1) (ix2 r j)) := by
  have hd : ∀ k, _ = dgt m c r k := dgt_eq m c r
  simp only [pe, sg, gt, ms] at hd
  rw [hw]
  pointwise! [val_main_cst, val_main_v0, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v19, val_main_v20, val_main_v21, val_main_v22, val_main_cst_4, val_main_v23, val_main_v24, val_main_cst_5, val_main_v25, val_main_v26, val_main_cst_6, val_main_v27, val_main_v28, val_main_v29, val_main_v30, val_main_v31, val_main_v32, val_main_v33, val_main_v34, val_main_v35, val_main_v36, val_main_v37, val_main_cst_7, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, val_main_cst_11, val_main_v52, val_main_v53, val_main_v54, val_main_v55, val_main_v56, val_main_v57, val_main_v58, val_main_v59, val_main_v60]
  simp only [hd, Finset.univ_unique, Finset.sum_singleton, dh, ms]

theorem fin_dh (c : Dev nD) (r : Fin 4096) (j : Fin 1024)
    (hp : ∀ a b, Fin' (m ((c : Thread nD τ).loc main_arg0) (ix2 a b))) (hx : ∀ a b, Fin' (m ((c : Thread nD τ).loc main_arg1) (ix2 a b))) (hg : ∀ a, Fin' (m ((c : Thread nD τ).loc main_arg2) (ix1 a)))
    (he : ∀ a b, Fin' (m ((c : Thread nD τ).loc main_arg3) (ix2 a b))) (hw : ∀ a b, Fin' (m ((c : Thread nD τ).loc main_arg4) (ix2 a b))) (hc : ∀ a b, Fin' (m ((c : Thread nD τ).loc main_arg5) (ix2 a b))) :
    Fin' (dh m c r j) := by
  have hs : ∀ k, Fin' (sg m c r k) := fun k => fin_sigmoid
    (Fin'.sum _ _ fun j => (((hx _ _).mul (fin_rsqrt_ms _ fun k => hx _ _)).mul (hg _)).mul (hw _ _))
  exact Fin'.sum _ _ fun k => ((((hc _ _).mul (Fin'.sum _ _ fun k => (hp _ _).mul (he _ _))).mul (hs k)).mul (one_fin.sub (hs k))).mul (hw _ _)

theorem dx_point (c : Dev nD) (t : Fin cfg0.N) (i : Fin 512) (j : Fin 1024)
    (hp : ∀ a b, Fin' (m ((c : Thread nD τ).loc main_arg0) (ix2 a b))) (hx : ∀ a b, Fin' (m ((c : Thread nD τ).loc main_arg1) (ix2 a b))) (hg : ∀ a, Fin' (m ((c : Thread nD τ).loc main_arg2) (ix1 a)))
    (he : ∀ a b, Fin' (m ((c : Thread nD τ).loc main_arg3) (ix2 a b))) (hw : ∀ a b, Fin' (m ((c : Thread nD τ).loc main_arg4) (ix2 a b))) (hc : ∀ a b, Fin' (m ((c : Thread nD τ).loc main_arg5) (ix2 a b))) :
    k0_pay3 (iblk m c 0 t) (k0_pay9 (iblk m c 0 t) (iblk m c 2 t) (iblk m c 1 t) (iblk m c 5 t)) (iblk m c 3 t)
      (k0_pay10 (iblk m c 4 t)) (k0_pay11 (iblk m c 3 t)) (ix2 i j) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t i) j) := by
  rw [dx_ref m c (row t i) j _ rfl]
  pointwise [k0_pay1, k0_pay2, k0_pay3, k0_pay10, k0_pay11]
  have hb := back (fun k => m ((c : Thread nD τ).loc main_arg1) (ix2 (row t i) k)) (fun k => dh m c (row t i) k * m ((c : Thread nD τ).loc main_arg2) (ix1 k))
    (m ((c : Thread nD τ).loc main_arg5) (ix2 (row t i) j)) (fun k => hx _ _) (fun k => (fin_dh m c _ k hp hx hg he hw hc).mul (hg _)) j
  simp only [zero_add, rd0, rd3, rd4, dh_point]
  exact hb

theorem final8 (c : Dev nD) (hp : ∀ a b, Fin' (m ((c : Thread nD τ).loc main_arg0) (ix2 a b))) (hx : ∀ a b, Fin' (m ((c : Thread nD τ).loc main_arg1) (ix2 a b))) (hg : ∀ a, Fin' (m ((c : Thread nD τ).loc main_arg2) (ix1 a)))
    (he : ∀ a b, Fin' (m ((c : Thread nD τ).loc main_arg3) (ix2 a b))) (hw : ∀ a b, Fin' (m ((c : Thread nD τ).loc main_arg4) (ix2 a b))) (hc : ∀ a b, Fin' (m ((c : Thread nD τ).loc main_arg5) (ix2 a b))) :
    (dats m 0 c).arrAt 8 (cfgs 0).N = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v17_2).slice (win0_8.rect t)).emb (ix2 i j)) = ix2 (row t i) j := by
    blk_ext [idx t, row] <;> simp <;> omega
  rw [e, after0_8]
  by_cases h0 : t.val % 8 = 0
  · rw [outsAt0_A m c t h0]
    frame_out
    exact dx_point m c t i j hp hx hg he hw hc
  · rw [outsAt0_B m c t h0]
    frame_out
    exact dx_point m c t i j hp hx hg he hw hc

/-- What one block adds to the weight's gradient. -/
def term (c : Dev nD) (t : Fin cfg0.N) (q : S1x1024.Idx) : EReal :=
  ∑ i : Fin 512, dh m c (row t i) (q 1) * (HMul.hMul (α := EReal) (β := EReal) (γ := EReal) (m ((c : Thread nD τ).loc main_arg1) (ix2 (row t i) (q 1))) (Ideal.rsqrt (ms fun k => m ((c : Thread nD τ).loc main_arg1) (ix2 (row t i) k))))

theorem dg_point (c : Dev nD) (t : Fin cfg0.N) (z : Fin 1) (j : Fin 1024) (acc : FVec Ideal S1x1024 .f32) :
    k0_pay4 (k0_pay9 (iblk m c 0 t) (iblk m c 2 t) (iblk m c 1 t) (iblk m c 5 t)) (iblk m c 3 t) (k0_pay11 (iblk m c 3 t)) acc (ix2 z j) = acc (ix2 z j) + term m c t (ix2 z j) := by
  pointwise [k0_pay1, k0_pay2, k0_pay4, k0_pay11]
  simp only [zero_add, rd3, dh_point]
  rfl

/-- The last block. -/
def last : Fin cfg0.N := ⟨7, by decide⟩

theorem final9 (c : Dev nD) : (dats m 0 c).arrAt 9 (cfgs 0).N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 last (by decide +kernel) _ fun q => ?_
  refine Eq.trans (b := (dats m 0 c).after 9 last q) (by blk_simp) ?_
  rw [after0_9]
  refine (Pipeline.eq_sum_fin_of_reset_step_apply_last (fun n h => (outsAt0 m c n h).2.2.2) 8 (fun _ => (0 : EReal)) (term m c) ?_ ?_
    (by decide) last rfl q).trans ?_
  · intro t h q
    obtain ⟨z, j, rfl⟩ : ∃ (z : Fin 1) (j : Fin 1024), q = ix2 z j := ⟨q 0, q 1, by ext a; fin_cases a <;> rfl⟩
    rw [outsAt0_A m c t h]
    frame_out
    refine (dg_point m c t z j _).trans (congrArg (· + _) ?_)
    pointwise! [k0_pay5]
  · intro t h q
    obtain ⟨z, j, rfl⟩ : ∃ (z : Fin 1) (j : Fin 1024), q = ix2 z j := ⟨q 0, q 1, by ext a; fin_cases a <;> rfl⟩
    rw [outsAt0_B m c t h]
    frame_out
    exact dg_point m c t z j _
  · obtain ⟨z, j, rfl⟩ : ∃ (z : Fin 1) (j : Fin 1024), q = ix2 z j := ⟨q 0, q 1, by ext a; fin_cases a <;> rfl⟩
    obtain rfl := Subsingleton.elim z 0
    have e : (View.whole main_v17_3).emb (ix2 (0 : Fin 1) j) = ix2 (0 : Fin 1) j := by blk_ext []
    rw [e]
    have hd : ∀ r k, _ = dgt m c r k := dgt_eq m c
    simp only [pe, sg, gt, ms] at hd
    pointwise! [term, val_main_cst, val_main_v0, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v19, val_main_v20, val_main_v21, val_main_v22, val_main_cst_4, val_main_v23, val_main_v24, val_main_cst_5, val_main_v25, val_main_v26, val_main_cst_6, val_main_v27, val_main_v28, val_main_v29, val_main_v30, val_main_v31, val_main_v32, val_main_v33, val_main_v34, val_main_v35, val_main_v36, val_main_v37, val_main_cst_7, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, val_main_cst_11, val_main_v52, val_main_v53, val_main_v54, val_main_v55, val_main_v56, val_main_v57, val_main_v58, val_main_v59, val_main_v60]
    simp only [hd, zero_add]
    refine Fin.sum_points_lanes_congr 8 fun t k ha hl => ?_
    have er : row t k = ⟨t.val % 8 * 512 + k.val, hl⟩ := Fin.ext (by have := t.isLt; have h : cfg0.N = 8 := rfl; simp only [row]; omega)
    rw [← er]
    exact mul_comm (G := EReal) _ _

end Cert.Kernel3Ideal.Ple
-- ==== Proof.PleClaim.lean ====
/- The gated embedding's backward call: kernel and reference end with the same results. -/
module

public import proofs.«01_k».proof.Defs
public import proofs.«01_k».proof.Proof.Ple
public import Idealize.ShloMosaic.Lib.Quiescent

@[expose] public section

noncomputable section

namespace Cert.Proof

open Idealize.ShloMosaic Idealize.SL.Sem

/-- The side conditions of the precondition's operations. -/
theorem ple_facts : Cert.Pre_finite_ple.Facts := by
  constructor <;> decide

theorem ple_reference : Cert.quiescent_Reference3Ideal (hReference3Ideal := Cert.Reference3Ideal.Gen.facts) := by
  intro m g _
  exact (θ_run (Cert.Reference3Ideal.defs (F := Ideal)) _ _).mono (fun r h => ⟨fun c => (h c).2.2.2.2, sem_eq_zero_of_no_sems rfl _⟩) (Cert.Reference3Ideal.Value.run m g)

theorem ple : Cert.algebraic_Kernel3Ideal_Reference3Ideal_pre_finite_ple (hKernel3Ideal := Cert.Kernel3Ideal.Gen.facts) (hReference3Ideal := Cert.Reference3Ideal.Gen.facts) (hPre_finite_ple := ple_facts) := by
  intro m g m' g' hp hag
  refine ⟨fun c => Cert.Reference3Ideal.Read.val_main_v58 (F := Ideal) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => Cert.Reference3Ideal.Read.val_main_v59 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => Cert.Reference3Ideal.Read.val_main_v57 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => Cert.Reference3Ideal.Read.val_main_v60 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    (θ_run (Cert.Kernel3Ideal.defs (F := Ideal)) _ _).mono (fun r h c => ?_) (Cert.Kernel3Ideal.Value.run_blocks m g),
    (θ_run (Cert.Reference3Ideal.defs (F := Ideal)) _ _).mono (fun r h c => ?_) (Cert.Reference3Ideal.Value.run m' g')⟩
  · have h := h c
    obtain ⟨f0, f1, f2, f3, f4, f5⟩ := hp c
    exact ⟨h.1.trans (Cert.Kernel3Ideal.Ple.final6 m c), h.2.1.trans (Cert.Kernel3Ideal.Ple.final7 m c), h.2.2.1.trans (Cert.Kernel3Ideal.Ple.final8 m c (fun a b => Cert.Rms.fin_of_pre _ _ f0 (ix2 a b)) (fun a b => Cert.Rms.fin_of_pre _ _ f1 (ix2 a b)) (fun a => Cert.Rms.fin_of_pre _ _ f2 (ix1 a)) (fun a b => Cert.Rms.fin_of_pre _ _ f3 (ix2 a b)) (fun a b => Cert.Rms.fin_of_pre _ _ f4 (ix2 a b)) (fun a b => Cert.Rms.fin_of_pre _ _ f5 (ix2 a b))), h.2.2.2.1.trans (Cert.Kernel3Ideal.Ple.final9 m c), h.2.2.2.2⟩
  · have h := h c
    obtain ⟨e0, e1, e2, e3, e4, e5⟩ := hag c
    exact ⟨h.1.trans ((Cert.Reference3Ideal.Read.val_main_v58_eq _ _ _ _ ).trans (by rw [e1, e2, e4, e5])),
      h.2.1.trans ((Cert.Reference3Ideal.Read.val_main_v59_eq _ _ _ _ _ _ ).trans (by rw [e0, e1, e2, e3, e4, e5])),
      h.2.2.1.trans ((Cert.Reference3Ideal.Read.val_main_v57_eq m' c).trans (by rw [e0, e1, e2, e3, e4, e5])),
      h.2.2.2.1.trans ((Cert.Reference3Ideal.Read.val_main_v60_eq _ _ _ _ _ _ ).trans (by rw [e0, e1, e2, e3, e4, e5])), h.2.2.2.2⟩

end Cert.Proof

end
-- ==== Proof.Inproj.lean ====
/- The values of the input projection's backward call. -/
module

public import proofs.«01_k».proof.Proof.Gen.Kernel4Ideal.Value
public import proofs.«01_k».proof.Proof.Gen.Reference4Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel4Ideal.Inproj

open Cert.Rms Cert.Kernel4Ideal Cert.Kernel4Ideal.Gen Cert.Reference4Ideal.Read

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] ∧ win0_10.index t = ![t.val, 0]
    ∧ win0_11.index t = ![0, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 512) :
    iblk m c 0 t (ix2 i k) = m ((c : Thread nD τ).loc main_arg3) (ix2 (row t i) ⟨k.val, by omega⟩) := by
  blk_ext! [iblk, V, idx t, row]

theorem rd1 (c : Dev nD) (t : Fin cfg0.N) (i : Fin 512) (k : Fin 512) :
    iblk m c 1 t (ix2 i k) = m ((c : Thread nD τ).loc main_arg3) (ix2 (row t i) ⟨512 + k.val, by omega⟩) := by
  blk_ext! [iblk, V, idx t, row]

theorem rd2 (c : Dev nD) (t : Fin cfg0.N) (i : Fin 512) (k : Fin 512) :
    iblk m c 2 t (ix2 i k) = m ((c : Thread nD τ).loc main_arg3) (ix2 (row t i) ⟨1024 + k.val, by omega⟩) := by
  blk_ext! [iblk, V, idx t, row]

theorem rd3 (c : Dev nD) (t : Fin cfg0.N) (i : Fin 512) (k : Fin 512) :
    iblk m c 3 t (ix2 i k) = m ((c : Thread nD τ).loc main_arg3) (ix2 (row t i) ⟨1536 + k.val, by omega⟩) := by
  blk_ext! [iblk, V, idx t, row]

theorem rd4 (c : Dev nD) (t : Fin cfg0.N) (i : Fin 512) (k : Fin 256) :
    iblk m c 4 t (ix2 i k) = m ((c : Thread nD τ).loc main_arg3) (ix2 (row t i) ⟨2048 + k.val, by omega⟩) := by
  blk_ext! [iblk, V, idx t, row]

theorem rd5 (c : Dev nD) (t : Fin cfg0.N) (i : Fin 512) (k : Fin 2048) :
    iblk m c 5 t (ix2 i k) = m ((c : Thread nD τ).loc main_arg3) (ix2 (row t i) ⟨2304 + k.val, by omega⟩) := by
  blk_ext! [iblk, V, idx t, row]

theorem rd6 (c : Dev nD) (t : Fin cfg0.N) (i : Fin 512) (k : Fin 1024) :
    iblk m c 6 t (ix2 i k) = m ((c : Thread nD τ).loc main_arg4) (ix2 (row t i) k) := by
  blk_ext! [iblk, V, idx t, row]

theorem rd7 (c : Dev nD) (t : Fin cfg0.N) (i : Fin 512) (k : Fin 1024) :
    iblk m c 7 t (ix2 i k) = m ((c : Thread nD τ).loc main_arg0) (ix2 (row t i) k) := by
  blk_ext! [iblk, V, idx t, row]

theorem rd8 (c : Dev nD) (t : Fin cfg0.N) (z : Fin 1) (k : Fin 1024) :
    iblk m c 8 t (ix2 z k) = m ((c : Thread nD τ).loc main_arg1) (ix1 k) := by
  blk_ext! [iblk, V, idx t]

/-- The weight is staged transposed. -/
theorem rd9 (c : Dev nD) (t : Fin cfg0.N) (k : Fin 4352) (j : Fin 1024) :
    iblk m c 9 t (ix2 k j) = m ((c : Thread nD τ).loc main_arg2) (ix2 j k) := by
  blk_ext! [iblk, V, idx t]

/-- A sum over the columns, piece by piece. -/
theorem cols (f : Fin 4352 → EReal) : ((∑ k : Fin 512, f ⟨k.val, by omega⟩) + (∑ k : Fin 512, f ⟨512 + k.val, by omega⟩) + (∑ k : Fin 512, f ⟨1024 + k.val, by omega⟩) + (∑ k : Fin 512, f ⟨1536 + k.val, by omega⟩) + (∑ k : Fin 256, f ⟨2048 + k.val, by omega⟩) + (∑ k : Fin 2048, f ⟨2304 + k.val, by omega⟩)) = ∑ k, f k := by
  have h := fun (a b : ℕ) (g : Fin (a + b) → EReal) => Fin.sum_univ_add g
  refine Eq.trans ?_ ((h 2304 2048 f).trans (congrArg (· + _) ((h 2048 256 _).trans (congrArg (· + _) ((h 1536 512 _).trans
    (congrArg (· + _) ((h 1024 512 _).trans (congrArg (· + _) (h 512 512 _))))))))).symm
  rfl

/-- The gradient of the normalised rows: the cotangent times the transposed weight. -/
def dh (c : Dev nD) (r : Fin 4096) (j : Fin 1024) : EReal :=
  ∑ k : Fin 4352, HMul.hMul (α := EReal) (β := EReal) (γ := EReal) (m ((c : Thread nD τ).loc main_arg3) (ix2 r k)) (m ((c : Thread nD τ).loc main_arg2) (ix2 j k))

theorem dx_point (c : Dev nD) (t : Fin cfg0.N) (i : Fin 512) (j : Fin 1024)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hd : ∀ a b, Fin' (m ((c : Thread nD τ).loc main_arg3) (ix2 a b))) :
    k0_pay9
      (k0_pay3 (iblk m c 0 t) (View.ld (iblk m c 9 t) (Rect.unit ![0, 0] ![512, 1024] inb_S4352x1024_S512x1024_0_0))
        (iblk m c 1 t) (View.ld (iblk m c 9 t) (Rect.unit ![512, 0] ![512, 1024] inb_S4352x1024_S512x1024_512_0))
        (iblk m c 2 t) (View.ld (iblk m c 9 t) (Rect.unit ![1024, 0] ![512, 1024] inb_S4352x1024_S512x1024_1024_0))
        (iblk m c 3 t) (View.ld (iblk m c 9 t) (Rect.unit ![1536, 0] ![512, 1024] inb_S4352x1024_S512x1024_1536_0)))
      (k0_pay4 (iblk m c 4 t)
        (View.ld (iblk m c 9 t) (Rect.unit ![2048, 0] ![256, 1024] inb_S4352x1024_S256x1024_2048_0)))
      (iblk m c 5 t) (View.ld (iblk m c 9 t) (Rect.unit ![2304, 0] ![2048, 1024] inb_S4352x1024_S2048x1024_2304_0))
      (iblk m c 7 t) (iblk m c 8 t) (iblk m c 6 t) (ix2 i j) =
    val_main_v38 (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) j) := by
  pointwise! [k0_pay3, k0_pay4, k0_pay5, k0_pay6, k0_pay7, k0_pay9, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [zero_sub, rd0, rd1, rd2, rd3, rd4, rd5, rd6, rd7, rd8, rd9]
  have hs : ∀ j : Fin 1024, _ = dh m c (row t i) j := fun j => cols (fun k => HMul.hMul (α := EReal) (β := EReal) (γ := EReal) (m ((c : Thread nD τ).loc main_arg3) (ix2 (row t i) k)) (m ((c : Thread nD τ).loc main_arg2) (ix2 j k)))
  have hb := back (fun k => m ((c : Thread nD τ).loc main_arg0) (ix2 (row t i) k)) (fun k => dh m c (row t i) k * m ((c : Thread nD τ).loc main_arg1) (ix1 k))
    (m ((c : Thread nD τ).loc main_arg4) (ix2 (row t i) j)) (fun k => hx _ _) (fun k => (Fin'.sum _ _ fun k => (hd _ _).mul (hw _ _)).mul (hg _)) j
  simp only [ms] at hb
  simp only [hs, Finset.univ_unique, Finset.sum_singleton]
  exact hb

/-- What one block adds to the weight's gradient. -/
def term (c : Dev nD) (t : Fin cfg0.N) (q : S1x1024.Idx) : EReal :=
  ∑ i : Fin 512, dh m c (row t i) (q 1) * (HMul.hMul (α := EReal) (β := EReal) (γ := EReal) (m ((c : Thread nD τ).loc main_arg0) (ix2 (row t i) (q 1)))
    (Ideal.rsqrt (ms fun k => m ((c : Thread nD τ).loc main_arg0) (ix2 (row t i) k))))

theorem dg_point (c : Dev nD) (t : Fin cfg0.N) (z : Fin 1) (j : Fin 1024) (acc : FVec Ideal S1x1024 .f32) :
    k0_pay1
      (k0_pay8
        (k0_pay3 (iblk m c 0 t) (View.ld (iblk m c 9 t) (Rect.unit ![0, 0] ![512, 1024] inb_S4352x1024_S512x1024_0_0))
          (iblk m c 1 t) (View.ld (iblk m c 9 t) (Rect.unit ![512, 0] ![512, 1024] inb_S4352x1024_S512x1024_512_0))
          (iblk m c 2 t) (View.ld (iblk m c 9 t) (Rect.unit ![1024, 0] ![512, 1024] inb_S4352x1024_S512x1024_1024_0))
          (iblk m c 3 t) (View.ld (iblk m c 9 t) (Rect.unit ![1536, 0] ![512, 1024] inb_S4352x1024_S512x1024_1536_0)))
        (k0_pay4 (iblk m c 4 t)
          (View.ld (iblk m c 9 t) (Rect.unit ![2048, 0] ![256, 1024] inb_S4352x1024_S256x1024_2048_0)))
        (iblk m c 5 t) (View.ld (iblk m c 9 t) (Rect.unit ![2304, 0] ![2048, 1024] inb_S4352x1024_S2048x1024_2304_0))
        (iblk m c 7 t)) acc (ix2 z j) = acc (ix2 z j) + term m c t (ix2 z j) := by
  obtain rfl := Subsingleton.elim z 0
  pointwise [k0_pay1, k0_pay3, k0_pay4, k0_pay5, k0_pay6, k0_pay7, k0_pay8, term]
  simp only [zero_add, rd0, rd1, rd2, rd3, rd4, rd5, rd6, rd7, rd8, rd9]
  have hs : ∀ (i : Fin 512) (j : Fin 1024), _ = dh m c (row t i) j := fun i j => cols (fun k => HMul.hMul (α := EReal) (β := EReal) (γ := EReal) (m ((c : Thread nD τ).loc main_arg3) (ix2 (row t i) k)) (m ((c : Thread nD τ).loc main_arg2) (ix2 j k)))
  simp only [hs, ms]

theorem final10 (c : Dev nD)
    (hx : ∀ a b, Fin' (m ((c : Thread nD τ).loc main_arg0) (ix2 a b))) (hg : ∀ a, Fin' (m ((c : Thread nD τ).loc main_arg1) (ix1 a)))
    (hw : ∀ a b, Fin' (m ((c : Thread nD τ).loc main_arg2) (ix2 a b))) (hd : ∀ a b, Fin' (m ((c : Thread nD τ).loc main_arg3) (ix2 a b))) :
    (dats m 0 c).arrAt 10 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v15_0).slice (win0_10.rect t)).emb (ix2 i j)) = ix2 (row t i) j := by
    blk_ext [idx t, row] <;> simp <;> omega
  rw [e, after0_10]
  by_cases h0 : t.val % 8 = 0
  · rw [outsAt0_A m c t h0]
    frame_out
    exact dx_point m c t i j hx hg hw hd
  · rw [outsAt0_B m c t h0]
    frame_out
    exact dx_point m c t i j hx hg hw hd

/-- The last block. -/
def last : Fin cfg0.N := ⟨7, by decide⟩

theorem final11 (c : Dev nD) : (dats m 0 c).arrAt 11 (cfgs 0).N
    = val_main_v39 (F := Ideal) (m ((c : Thread nD τ).loc main_arg0)) (m ((c : Thread nD τ).loc main_arg2)) (m ((c : Thread nD τ).loc main_arg3)) := by
  refine (dats m 0 c).arrAt_eq_of_after_last 11 last (by decide +kernel) _ fun q => ?_
  refine Eq.trans (b := (dats m 0 c).after 11 last q) (by blk_simp) ?_
  rw [after0_11]
  refine (Pipeline.eq_sum_fin_of_reset_step_apply_last (fun n h => (outsAt0 m c n h).2) 8 (fun _ => (0 : EReal)) (term m c) ?_ ?_
    (by decide) last rfl q).trans ?_
  · intro t h q
    obtain ⟨z, j, rfl⟩ : ∃ (z : Fin 1) (j : Fin 1024), q = ix2 z j := ⟨q 0, q 1, by ext a; fin_cases a <;> rfl⟩
    rw [outsAt0_A m c t h]
    frame_out
    refine (dg_point m c t z j _).trans (congrArg (· + _) ?_)
    pointwise! [k0_pay2]
  · intro t h q
    obtain ⟨z, j, rfl⟩ : ∃ (z : Fin 1) (j : Fin 1024), q = ix2 z j := ⟨q 0, q 1, by ext a; fin_cases a <;> rfl⟩
    rw [outsAt0_B m c t h]
    frame_out
    exact dg_point m c t z j _
  · obtain ⟨z, j, rfl⟩ : ∃ (z : Fin 1) (j : Fin 1024), q = ix2 z j := ⟨q 0, q 1, by ext a; fin_cases a <;> rfl⟩
    obtain rfl := Subsingleton.elim z 0
    pointwise! [term, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
    have e : (View.whole main_v15_1).emb (ix2 (0 : Fin 1) j) = ix2 (0 : Fin 1) j := by blk_ext []
    simp only [e, zero_add]
    refine Fin.sum_points_lanes_congr 8 fun t k ha hl => ?_
    have er : row t k = ⟨t.val % 8 * 512 + k.val, hl⟩ := Fin.ext (by have := t.isLt; have h : cfg0.N = 8 := rfl; simp only [row]; omega)
    rw [← er]
    exact mul_comm (G := EReal) _ _

end Cert.Kernel4Ideal.Inproj
-- ==== Proof.InprojClaim.lean ====
/- The input projection's backward call: kernel and reference end with the same results. -/
module

public import proofs.«01_k».proof.Defs
public import proofs.«01_k».proof.Proof.Inproj
public import Idealize.ShloMosaic.Lib.Quiescent

@[expose] public section

noncomputable section

namespace Cert.Proof

open Idealize.ShloMosaic Idealize.SL.Sem

/-- The side conditions of the precondition's operations. -/
theorem inproj_facts : Cert.Pre_finite_inproj.Facts := by
  constructor <;> decide

theorem inproj_reference : Cert.quiescent_Reference4Ideal (hReference4Ideal := Cert.Reference4Ideal.Gen.facts) := by
  intro m g _
  exact (θ_run (Cert.Reference4Ideal.defs (F := Ideal)) _ _).mono (fun r h => ⟨fun c => (h c).2.2, sem_eq_zero_of_no_sems rfl _⟩) (Cert.Reference4Ideal.Value.run m g)

theorem inproj : Cert.algebraic_Kernel4Ideal_Reference4Ideal_pre_finite_inproj (hKernel4Ideal := Cert.Kernel4Ideal.Gen.facts) (hReference4Ideal := Cert.Reference4Ideal.Gen.facts) (hPre_finite_inproj := inproj_facts) := by
  intro m g m' g' hp hag
  refine ⟨fun c => Cert.Reference4Ideal.Read.val_main_v38 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run (Cert.Kernel4Ideal.defs (F := Ideal)) _ _).mono (fun r h c => ?_) (Cert.Kernel4Ideal.Value.run_blocks m g),
    (θ_run (Cert.Reference4Ideal.defs (F := Ideal)) _ _).mono (fun r h c => ?_) (Cert.Reference4Ideal.Value.run m' g')⟩
  · have h := h c
    obtain ⟨f0, f1, f2, f3⟩ := hp c
    exact ⟨h.1.trans (Cert.Kernel4Ideal.Inproj.final10 m c (fun a b => Cert.Rms.fin_of_pre _ _ f0 (ix2 a b)) (fun a => Cert.Rms.fin_of_pre _ _ f1 (ix1 a)) (fun a b => Cert.Rms.fin_of_pre _ _ f2 (ix2 a b)) (fun a b => Cert.Rms.fin_of_pre _ _ f3 (ix2 a b))), h.2.1.trans (Cert.Kernel4Ideal.Inproj.final11 m c), h.2.2⟩
  · have h := h c
    obtain ⟨e0, e1, e2, e3, e4⟩ := hag c
    exact ⟨h.1.trans ((Cert.Reference4Ideal.Read.val_main_v38_eq m' c).trans (by rw [e0, e1, e2, e3, e4])),
      h.2.1.trans ((Cert.Reference4Ideal.Read.val_main_v39_eq _ _ _ ).trans (by rw [e0, e2, e3])), h.2.2⟩

end Cert.Proof

end
-- ==== Proof.Loss.lean ====
/- The values of the loss head and its gradients. -/
module

public import proofs.«01_k».proof.Proof.Gen.Kernel5Ideal.Value
public import proofs.«01_k».proof.Proof.Gen.Reference5Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel5Ideal.Loss

open Cert.Rms Cert.Kernel5Ideal Cert.Kernel5Ideal.Gen Cert.Reference5Ideal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![0, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 256) :
    iblk m c 0 t (ix2 i k) = m ((c : Thread nD τ).loc main_arg0) (ix2 (row t i) k) := by
  blk_ext! [iblk, V, idx t, row]

theorem rd1 (c : Dev nD) (t : Fin cfg0.N) (i : Fin 512) (k : Fin 1024) :
    iblk m c 1 t (ix2 i k) = m ((c : Thread nD τ).loc main_arg1) (ix2 (row t i) k) := by
  blk_ext! [iblk, V, idx t, row]

theorem rd2 (c : Dev nD) (t : Fin cfg0.N) (i : Fin 512) (k : Fin 1024) :
    iblk m c 2 t (ix2 i k) = m ((c : Thread nD τ).loc main_arg2) (ix2 (row t i) k) := by
  blk_ext! [iblk, V, idx t, row]

theorem stage3 (c : Dev nD) (k : Fin 1024) : V m c main_v0 (ix2 (0 : Fin 1) k) = m ((c : Thread nD τ).loc main_arg3) (ix1 k) := by
  simp only [V, hostOps0]
  after_results
  pointwise!

theorem rd3 (c : Dev nD) (t : Fin cfg0.N) (z : Fin 1) (k : Fin 1024) :
    iblk m c 3 t (ix2 z k) = m ((c : Thread nD τ).loc main_arg3) (ix1 k) := by
  obtain rfl := Subsingleton.elim z 0
  refine Eq.trans ?_ (stage3 m c k)
  blk_ext! [iblk, idx t]

theorem stage6 (c : Dev nD) (k : Fin 1024) : V m c main_v5 (ix2 (0 : Fin 1) k) = m ((c : Thread nD τ).loc main_arg6) (ix1 k) := by
  simp only [V, hostOps0]
  after_results
  pointwise!

theorem rd6 (c : Dev nD) (t : Fin cfg0.N) (z : Fin 1) (k : Fin 1024) :
    iblk m c 6 t (ix2 z k) = m ((c : Thread nD τ).loc main_arg6) (ix1 k) := by
  obtain rfl := Subsingleton.elim z 0
  refine Eq.trans ?_ (stage6 m c k)
  blk_ext! [iblk, idx t]

theorem stage5 (c : Dev nD) (j k : Fin 1024) : V m c main_v4 (ix2 j k) = m ((c : Thread nD τ).loc main_arg5) (ix2 j k) := by
  simp only [V, hostOps0]
  after_results
  pointwise!

theorem rd5 (c : Dev nD) (t : Fin cfg0.N) (j k : Fin 1024) :
    iblk m c 5 t (ix2 j k) = m ((c : Thread nD τ).loc main_arg5) (ix2 j k) := by
  refine Eq.trans ?_ (stage5 m c j k)
  blk_ext! [iblk, idx t]

/-- The embedding's weight is staged in four pieces of its columns. -/
theorem stage4 (c : Dev nD) (a : Fin 4) (k b : Fin 256) (j : Fin 1024) (hj : j.val = 256 * a.val + b.val) :
    V m c main_v3 (ix3 a k b) = m ((c : Thread nD τ).loc main_arg4) (ix2 k j) := by
  simp only [V, hostOps0]
  after_results
  pointwise [transpose, shapeCast]
  exact congrArg (fun q => m ((c : Thread nD τ).loc main_arg4) (ix2 k q)) (Fin.ext (by simp; omega))

theorem rd4 (c : Dev nD) (t : Fin cfg0.N) (a : Fin 4) (k b : Fin 256) (j : Fin 1024) (hj : j.val = 256 * a.val + b.val) :
    iblk m c 4 t (ix3 a k b) = m ((c : Thread nD τ).loc main_arg4) (ix2 k j) := by
  refine Eq.trans ?_ (stage4 m c a k b j hj)
  blk_ext! [iblk, idx t]

/-- The embedding. -/
def pe (c : Dev nD) (r : Fin 4096) (j : Fin 1024) : EReal := ∑ k : Fin 256, HMul.hMul (α := EReal) (β := EReal) (γ := EReal) (m ((c : Thread nD τ).loc main_arg0) (ix2 r k)) (m ((c : Thread nD τ).loc main_arg4) (ix2 k j))

/-- The gate. -/
def sg (c : Dev nD) (r : Fin 4096) (j : Fin 1024) : EReal :=
  Ideal.div 1 (1 + Ideal.exp (-∑ k : Fin 1024, HMul.hMul (α := EReal) (β := EReal) (γ := EReal) (HMul.hMul (α := EReal) (β := EReal) (γ := EReal) (HMul.hMul (α := EReal) (β := EReal) (γ := EReal) (m ((c : Thread nD τ).loc main_arg1) (ix2 r k)) (Ideal.rsqrt (ms fun k => m ((c : Thread nD τ).loc main_arg1) (ix2 r k)))) (m ((c : Thread nD τ).loc main_arg3) (ix1 k))) (m ((c : Thread nD τ).loc main_arg5) (ix2 k j))))

/-- The gated row. -/
def x3 (c : Dev nD) (r : Fin 4096) (j : Fin 1024) : EReal :=
  HAdd.hAdd (α := EReal) (β := EReal) (γ := EReal) (m ((c : Thread nD τ).loc main_arg1) (ix2 r j)) (pe m c r j * sg m c r j)

/-- The normalised row less its target. -/
def diff (c : Dev nD) (r : Fin 4096) (j : Fin 1024) : EReal :=
  HSub.hSub (α := EReal) (β := EReal) (γ := EReal) (HMul.hMul (α := EReal) (β := EReal) (γ := EReal) (x3 m c r j * Ideal.rsqrt (ms fun k => x3 m c r k)) (m ((c : Thread nD τ).loc main_arg6) (ix1 j))) (m ((c : Thread nD τ).loc main_arg2) (ix2 r j))

/-- The gradient of the normalised row. -/
def d3 (c : Dev nD) (r : Fin 4096) (j : Fin 1024) : EReal := diff m c r j * Ideal.ofBits FTy.f32 981467136#32

/-- What both products of the norm's gradient share. -/
def w3 (c : Dev nD) (r : Fin 4096) : EReal :=
  Ideal.div ((∑ k, x3 m c r k * (HMul.hMul (α := EReal) (β := EReal) (γ := EReal) (d3 m c r k) (m ((c : Thread nD τ).loc main_arg6) (ix1 k)))) * (Ideal.ofBits FTy.f32 3204448256#32
      * Ideal.div (Ideal.rsqrt (ms fun k => x3 m c r k)) (ms fun k => x3 m c r k))) (Ideal.ofBits FTy.f32 1149239296#32)

/-- The gradient of the gated row. -/
def dx3 (c : Dev nD) (r : Fin 4096) (j : Fin 1024) : EReal :=
  HMul.hMul (α := EReal) (β := EReal) (γ := EReal) (d3 m c r j) (m ((c : Thread nD τ).loc main_arg6) (ix1 j)) * Ideal.rsqrt (ms fun k => x3 m c r k) + x3 m c r j * w3 m c r + w3 m c r * x3 m c r j

/-- The gradient of the gate before its sigmoid. -/
def dgt (c : Dev nD) (r : Fin 4096) (j : Fin 1024) : EReal := dx3 m c r j * pe m c r j * sg m c r j * (1 - sg m c r j)

/-- The gradient of the normalised rows in front of the gate. -/
def dh (c : Dev nD) (r : Fin 4096) (j : Fin 1024) : EReal := ∑ k : Fin 1024, HMul.hMul (α := EReal) (β := EReal) (γ := EReal) (dgt m c r k) (m ((c : Thread nD τ).loc main_arg5) (ix2 j k))

theorem ref_pe (c : Dev nD) (r : Fin 4096) (j : Fin 1024) : val_main_v2 (F := Ideal) (m ((c : Thread nD τ).loc main_arg0)) (m ((c : Thread nD τ).loc main_arg4)) (ix2 r j) = pe m c r j := by
  pointwise! [pe, val_main_cst, val_main_v0, val_main_v1, val_main_v2]

theorem ref_sg (c : Dev nD) (r : Fin 4096) (j : Fin 1024) : val_main_v26 (F := Ideal) (m ((c : Thread nD τ).loc main_arg1)) (m ((c : Thread nD τ).loc main_arg3)) (m ((c : Thread nD τ).loc main_arg5)) (ix2 r j) = sg m c r j := by
  pointwise! [sg, ms, val_main_cst, val_main_v0, val_main_v1, val_main_v2, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v19, val_main_v20, val_main_v21, val_main_v22, val_main_cst_4, val_main_v23, val_main_v24, val_main_cst_5, val_main_v25, val_main_v26]

theorem ref_x3 (c : Dev nD) (r : Fin 4096) (j : Fin 1024) : val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r j) = x3 m c r j := by
  pointwise! [val_main_v30, val_main_v31]
  rw [ref_pe, ref_sg, x3]

theorem ref_diff (c : Dev nD) (r : Fin 4096) (j : Fin 1024) : val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) = diff m c r j := by
  pointwise! [val_main_v32, val_main_cst_7, val_main_v33, val_main_v34, val_main_cst_8, val_main_v35, val_main_v36, val_main_cst_9, val_main_v37, val_main_v38, val_main_v39, val_main_v40, val_main_cst_10, val_main_v41, val_main_v42, val_main_v43, val_main_v44, val_main_v45, val_main_v46, val_main_v47, val_main_v48]
  simp only [ref_x3]
  rfl

theorem consts : Ideal.div (Ideal.ofBits FTy.f32 1056964608#32) (Ideal.ofBits FTy.f32 1149239296#32) * Ideal.ofBits FTy.f32 1073741824#32
    = Ideal.ofBits FTy.f32 981467136#32 := by
  have h : Ideal.ofBits FTy.f32 1056964608#32 = ((1 / 2 : ℝ) : EReal) := by simp [Ideal.ofBits, Ideal.ieee, -EReal.coe_mul]; norm_num
  have t : Ideal.ofBits FTy.f32 1073741824#32 = ((2 : ℝ) : EReal) := by simp [Ideal.ofBits, Ideal.ieee, -EReal.coe_mul]; norm_num
  have s : Ideal.ofBits FTy.f32 981467136#32 = ((1 / 1024 : ℝ) : EReal) := by simp [Ideal.ofBits, Ideal.ieee, -EReal.coe_mul]; norm_num
  rw [h, t, s, n_eq, Ideal.div_coe (by norm_num), ← EReal.coe_mul, ← EReal.coe_mul]
  norm_num

theorem ref_d3 (c : Dev nD) (r : Fin 4096) (j : Fin 1024) : val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) = d3 m c r j := by
  pointwise! [val_main_cst_11, val_main_v50, val_main_v51, val_main_cst_12, val_main_cst_13, val_main_v53, val_main_cst_14, val_main_cst_15, val_main_cst_16, val_main_cst_17, val_main_v57, val_main_v58, val_main_cst_18, val_main_v59, val_main_v60, val_main_v61, val_main_v62]
  simp only [ref_diff]
  rw [d3, ← consts, mul_comm (G := EReal) (diff m c r j), mul_assoc (G := EReal)]

theorem ref_dx3 (c : Dev nD) (r : Fin 4096) (j : Fin 1024) : val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) = dx3 m c r j := by
  pointwise! [val_main_v32, val_main_cst_7, val_main_v33, val_main_v34, val_main_cst_8, val_main_v35, val_main_v36, val_main_cst_9, val_main_v37, val_main_v38, val_main_v39, val_main_v40, val_main_cst_10, val_main_v41, val_main_v42, val_main_v43, val_main_v44, val_main_v45, val_main_v66, val_main_v67, val_main_cst_20, val_main_v68, val_main_v69, val_main_cst_21, val_main_v70, val_main_v71, val_main_v72, val_main_v73, val_main_v74, val_main_cst_22, val_main_v75, val_main_v76, val_main_cst_23, val_main_v77, val_main_v78, val_main_v79, val_main_v80, val_main_v81, val_main_v82]
  simp only [ref_x3, ref_d3, Finset.univ_unique, Finset.sum_singleton]
  rfl

theorem ref_dgt (c : Dev nD) (r : Fin 4096) (j : Fin 1024) : val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) = dgt m c r j := by
  pointwise! [val_main_cst_6, val_main_v27, val_main_v28, val_main_v29, val_main_v83, val_main_v85]
  simp only [ref_pe, ref_sg, ref_dx3]
  rw [dgt, mul_comm (G := EReal) (pe m c r j), mul_assoc (G := EReal) _ (sg m c r j)]

theorem ref_dh (c : Dev nD) (r : Fin 4096) (j : Fin 1024) : val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) = dh m c r j := by
  pointwise! [val_main_v86]
  simp only [ref_dgt]
  rfl

/-- The embedding of one block, as the kernel computes it. -/
abbrev vpe (c : Dev nD) (t : Fin cfg0.N) : FVec Ideal S512x1024 .f32 := k0_pay6 (iblk m c 0 t)
    (View.ld (iblk m c 4 t) (Rect.unit ![0, 0, 0] ![1, 256, 256] inb_S4x256x256_S1x256x256_0_0_0))
    (View.ld (iblk m c 4 t) (Rect.unit ![1, 0, 0] ![1, 256, 256] inb_S4x256x256_S1x256x256_1_0_0))
    (View.ld (iblk m c 4 t) (Rect.unit ![2, 0, 0] ![1, 256, 256] inb_S4x256x256_S1x256x256_2_0_0))
    (View.ld (iblk m c 4 t) (Rect.unit ![3, 0, 0] ![1, 256, 256] inb_S4x256x256_S1x256x256_3_0_0))

/-- The gate of one block. -/
abbrev vsg (c : Dev nD) (t : Fin cfg0.N) : FVec Ideal S512x1024 .f32 :=
  k0_pay11 (iblk m c 1 t) (k0_pay7 (iblk m c 3 t)) (k0_pay8 (iblk m c 1 t)) k0_pay9 (iblk m c 5 t)

/-- The gated rows of one block. -/
abbrev vx3 (c : Dev nD) (t : Fin cfg0.N) : FVec Ideal S512x1024 .f32 :=
  k0_pay12 (vpe m c t) (iblk m c 1 t) (k0_pay7 (iblk m c 3 t)) (k0_pay8 (iblk m c 1 t)) k0_pay9 (iblk m c 5 t)

/-- The differences of one block. -/
abbrev vdf (c : Dev nD) (t : Fin cfg0.N) : FVec Ideal S512x1024 .f32 :=
  k0_pay14 (vpe m c t) (iblk m c 1 t) (k0_pay7 (iblk m c 3 t)) (k0_pay8 (iblk m c 1 t)) k0_pay9 (iblk m c 5 t) (iblk m c 6 t) (iblk m c 2 t)

/-- The gradient of one block's gated rows. -/
abbrev vdx (c : Dev nD) (t : Fin cfg0.N) : FVec Ideal S512x1024 .f32 := k0_pay21 (vx3 m c t) (k0_pay13 (iblk m c 6 t)) (vdf m c t)

theorem pe_point (c : Dev nD) (t : Fin cfg0.N) (i : Fin 512) (j : Fin 1024) : vpe m c t (ix2 i j) = pe m c (row t i) j := by
  have h : ∀ (a : Fin 4) (b : Fin 256), j.val = 256 * a.val + b.val →
      (∑ k : Fin 256, HMul.hMul (α := EReal) (β := EReal) (γ := EReal) (iblk m c 0 t (ix2 i k)) (iblk m c 4 t (ix3 a k b))) = pe m c (row t i) j :=
    fun a b hj => Finset.sum_congr rfl fun k _ => by rw [rd0, rd4 m c t a k b j hj]
  pointwise [vpe, k0_pay5, k0_pay6]
  by_cases h1 : j.val < 256
  · rw [dif_pos h1]
    exact h 0 ⟨j.val, h1⟩ (by simp)
  rw [dif_neg h1]
  by_cases h2 : j.val - 256 < 256
  · rw [dif_pos h2]
    exact h 1 ⟨j.val - 256, h2⟩ (by simp; omega)
  rw [dif_neg h2]
  by_cases h3 : j.val - 256 - 256 < 256
  · rw [dif_pos h3]
    exact h 2 ⟨j.val - 256 - 256, h3⟩ (by simp; omega)
  rw [dif_neg h3]
  exact h 3 ⟨j.val - 256 - 256 - 256, by omega⟩ (by simp; omega)

theorem sg_point (c : Dev nD) (t : Fin cfg0.N) (i : Fin 512) (j : Fin 1024) : vsg m c t (ix2 i j) = sg m c (row t i) j := by
  pointwise! [vsg, k0_pay7, k0_pay8, k0_pay9, k0_pay10, k0_pay11]
  simp only [zero_add, zero_sub, rd1, rd3, rd5, sg, ms]

theorem x3_point (c : Dev nD) (t : Fin cfg0.N) (i : Fin 512) (j : Fin 1024) : vx3 m c t (ix2 i j) = x3 m c (row t i) j := by
  have hp := pe_point m c t i j
  have hs := sg_point m c t i j
  pointwise [k0_pay12]
  exact congrArg₂ (fun a b : EReal => a + b) (rd1 m c t i j) (congrArg₂ (fun a b : EReal => a * b) hp hs)

theorem df_point (c : Dev nD) (t : Fin cfg0.N) (i : Fin 512) (j : Fin 1024) : vdf m c t (ix2 i j) = diff m c (row t i) j := by
  have hx : ∀ j, _ = x3 m c (row t i) j := x3_point m c t i
  pointwise [k0_pay13, k0_pay14]
  simp only [zero_add, hx, rd6, rd2]
  rfl

/-- Everything is finite. -/
structure Fine (c : Dev nD) : Prop where
  p : ∀ a b, Fin' (m ((c : Thread nD τ).loc main_arg0) (ix2 a b))
  x : ∀ a b, Fin' (m ((c : Thread nD τ).loc main_arg1) (ix2 a b))
  y : ∀ a b, Fin' (m ((c : Thread nD τ).loc main_arg2) (ix2 a b))
  g : ∀ a, Fin' (m ((c : Thread nD τ).loc main_arg3) (ix1 a))
  e : ∀ a b, Fin' (m ((c : Thread nD τ).loc main_arg4) (ix2 a b))
  w : ∀ a b, Fin' (m ((c : Thread nD τ).loc main_arg5) (ix2 a b))
  f : ∀ a, Fin' (m ((c : Thread nD τ).loc main_arg6) (ix1 a))

theorem fin_pe (c : Dev nD) (h : Fine m c) (r : Fin 4096) (j : Fin 1024) : Fin' (pe m c r j) :=
  Fin'.sum _ _ fun k => (h.p _ _).mul (h.e _ _)

theorem fin_sg (c : Dev nD) (h : Fine m c) (r : Fin 4096) (j : Fin 1024) : Fin' (sg m c r j) := fin_sigmoid
  (Fin'.sum _ _ fun j => (((h.x _ _).mul (fin_rsqrt_ms _ fun k => h.x _ _)).mul (h.g _)).mul (h.w _ _))

theorem fin_x3 (c : Dev nD) (h : Fine m c) (r : Fin 4096) (j : Fin 1024) : Fin' (x3 m c r j) :=
  (h.x _ _).add ((fin_pe m c h r j).mul (fin_sg m c h r j))

theorem fin_diff (c : Dev nD) (h : Fine m c) (r : Fin 4096) (j : Fin 1024) : Fin' (diff m c r j) :=
  (((fin_x3 m c h r j).mul (fin_rsqrt_ms _ fun k => fin_x3 m c h r k)).mul (h.f _)).sub (h.y _ _)

theorem fin_d3 (c : Dev nD) (h : Fine m c) (r : Fin 4096) (j : Fin 1024) : Fin' (d3 m c r j) :=
  (fin_diff m c h r j).mul small_fin

/-- The norm's gradient as the kernel forms it is the reference's. -/
theorem dx3_back (c : Dev nD) (h : Fine m c) (r : Fin 4096) (j : Fin 1024) :
    Ideal.rsqrt (ms fun k => x3 m c r k) * (HMul.hMul (α := EReal) (β := EReal) (γ := EReal) (d3 m c r j) (m ((c : Thread nD τ).loc main_arg6) (ix1 j)) - x3 m c r j * Ideal.rsqrt (ms fun k => x3 m c r k)
      * Ideal.div (∑ k, HMul.hMul (α := EReal) (β := EReal) (γ := EReal) (d3 m c r k) (m ((c : Thread nD τ).loc main_arg6) (ix1 k)) * (x3 m c r k * Ideal.rsqrt (ms fun k => x3 m c r k))) (Ideal.ofBits FTy.f32 1149239296#32)) = dx3 m c r j :=
  ((zero_add (M := EReal) _).symm.trans (back (fun k => x3 m c r k) (fun k => HMul.hMul (α := EReal) (β := EReal) (γ := EReal) (d3 m c r k) (m ((c : Thread nD τ).loc main_arg6) (ix1 k))) 0 (fun k => fin_x3 m c h r k)
    (fun k => (fin_d3 m c h r k).mul (h.f _)) j)).trans (by rw [zero_add]; rfl)

theorem fin_dx3 (c : Dev nD) (h : Fine m c) (r : Fin 4096) (j : Fin 1024) : Fin' (dx3 m c r j) := by
  rw [← dx3_back m c h r j]
  have hr := fin_rsqrt_ms _ fun k => fin_x3 m c h r k
  exact hr.mul (((fin_d3 m c h r j).mul (h.f _)).sub (((fin_x3 m c h r j).mul hr).mul
    (Fin'.mean (Fin'.sum _ _ fun k => ((fin_d3 m c h r k).mul (h.f _)).mul ((fin_x3 m c h r k).mul hr)))))

theorem dx3_point (c : Dev nD) (h : Fine m c) (t : Fin cfg0.N) (i : Fin 512) (j : Fin 1024) : vdx m c t (ix2 i j) = dx3 m c (row t i) j := by
  have hx : ∀ j, _ = x3 m c (row t i) j := x3_point m c t i
  have hd : ∀ j, _ = diff m c (row t i) j := df_point m c t i
  rw [← dx3_back m c h (row t i) j]
  pointwise [k0_pay13, k0_pay18, k0_pay19, k0_pay20, k0_pay21]
  simp only [zero_add, hx, hd, rd6]
  rfl

theorem dgt_point (c : Dev nD) (h : Fine m c) (t : Fin cfg0.N) (i : Fin 512) (j : Fin 1024) :
    k0_pay24 (vpe m c t) (vsg m c t) (vdx m c t) (ix2 i j) = dgt m c (row t i) j := by
  have h1 := pe_point m c t i j
  have h2 := sg_point m c t i j
  have h3 := dx3_point m c h t i j
  pointwise! [k0_pay24]
  exact congrArg₂ (fun a b : EReal => a * b) (congrArg₂ (fun a b : EReal => a * b) (congrArg₂ (fun a b : EReal => a * b) h3 h1) h2)
    (congrArg (fun a : EReal => 1 - a) h2)

theorem dh_point (c : Dev nD) (h : Fine m c) (t : Fin cfg0.N) (i : Fin 512) (j : Fin 1024) :
    k0_pay25 (vpe m c t) (vsg m c t) (vdx m c t) (iblk m c 5 t) (ix2 i j) = dh m c (row t i) j := by
  have h1 : ∀ j, _ = dgt m c (row t i) j := dgt_point m c h t i
  pointwise [k0_pay25]
  simp only [zero_add, h1, rd5, dh]

theorem fin_dh (c : Dev nD) (h : Fine m c) (r : Fin 4096) (j : Fin 1024) : Fin' (dh m c r j) :=
  Fin'.sum _ _ fun k => ((((fin_dx3 m c h r k).mul (fin_pe m c h r k)).mul (fin_sg m c h r k)).mul (one_fin.sub (fin_sg m c h r k))).mul (h.w _ _)

theorem dx_ref (c : Dev nD) (r : Fin 4096) (j : Fin 1024) (w : EReal)
    (hw : w = Ideal.div ((∑ k, HMul.hMul (α := EReal) (β := EReal) (γ := EReal) (m ((c : Thread nD τ).loc main_arg1) (ix2 r k)) (dh m c r k * m ((c : Thread nD τ).loc main_arg3) (ix1 k))) * (Ideal.ofBits FTy.f32 3204448256#32
      * Ideal.div (Ideal.rsqrt (ms fun k => m ((c : Thread nD τ).loc main_arg1) (ix2 r k))) (ms fun k => m ((c : Thread nD τ).loc main_arg1) (ix2 r k)))) (Ideal.ofBits FTy.f32 1149239296#32)) :
    val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j)
      = dx3 m c r j + HMul.hMul (α := EReal) (β := EReal) (γ := EReal) (dh m c r j) (m ((c : Thread nD τ).loc main_arg3) (ix1 j)) * Ideal.rsqrt (ms fun k => m ((c : Thread nD τ).loc main_arg1) (ix2 r k))
        + HMul.hMul (α := EReal) (β := EReal) (γ := EReal) (m ((c : Thread nD τ).loc main_arg1) (ix2 r j)) (w) + HMul.hMul (α := EReal) (β := EReal) (γ := EReal) (w) (m ((c : Thread nD τ).loc main_arg1) (ix2 r j)) := by
  rw [hw]
  pointwise! [val_main_cst, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_v16, val_main_v17, val_main_v18, val_main_v90, val_main_v91, val_main_cst_25, val_main_v92, val_main_v93, val_main_cst_26, val_main_v94, val_main_v95, val_main_v96, val_main_v97, val_main_v98, val_main_v99, val_main_cst_27, val_main_v100, val_main_v101, val_main_cst_28, val_main_v102, val_main_v103, val_main_v104, val_main_v105, val_main_v106, val_main_v107]
  simp only [ref_dx3, ref_dh, Finset.univ_unique, Finset.sum_singleton, ms]

theorem dx_point (c : Dev nD) (h : Fine m c) (t : Fin cfg0.N) (i : Fin 512) (j : Fin 1024) :
    k0_pay29 (vpe m c t) (iblk m c 1 t) (k0_pay7 (iblk m c 3 t)) (vsg m c t) (vdx m c t) (iblk m c 5 t) (ix2 i j)
      = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t i) j) := by
  have h1 : ∀ j, _ = dh m c (row t i) j := dh_point m c h t i
  have h2 : ∀ j, _ = dx3 m c (row t i) j := dx3_point m c h t i
  rw [dx_ref m c (row t i) j _ rfl]
  pointwise [k0_pay7, k0_pay26, k0_pay27, k0_pay29]
  have hb := back (fun k => m ((c : Thread nD τ).loc main_arg1) (ix2 (row t i) k)) (fun k => dh m c (row t i) k * m ((c : Thread nD τ).loc main_arg3) (ix1 k))
    (dx3 m c (row t i) j) (fun k => h.x _ _) (fun k => (fin_dh m c h _ k).mul (h.g _)) j
  simp only [zero_add, h1, h2, rd1, rd3]
  exact hb

theorem dpe_point (c : Dev nD) (h : Fine m c) (t : Fin cfg0.N) (i : Fin 512) (j : Fin 1024) :
    k0_pay23 (vsg m c t) (vx3 m c t) (k0_pay13 (iblk m c 6 t)) (vdf m c t) (ix2 i j)
      = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t i) j) := by
  have h2 := sg_point m c t i j
  have h3 := dx3_point m c h t i j
  pointwise [k0_pay23, val_main_v108, val_main_v84]
  rw [ref_dx3, ref_sg]
  exact congrArg₂ (fun a b : EReal => a * b) h3 h2

theorem final9 (c : Dev nD) (h : Fine m c) : (dats m 0 c).arrAt 9 (cfgs 0).N = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v6_2).slice (win0_9.rect t)).emb (ix2 i j)) = ix2 (row t i) j := by
    blk_ext [idx t, row] <;> simp <;> omega
  rw [e, after0_9]
  by_cases h0 : t.val % 8 = 0
  · rw [outsAt0_A m c t h0]
    frame_out
    exact dpe_point m c h t i j
  · rw [outsAt0_B m c t h0]
    frame_out
    exact dpe_point m c h t i j

theorem final10 (c : Dev nD) (h : Fine m c) : (dats m 0 c).arrAt 10 (cfgs 0).N = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v6_3).slice (win0_10.rect t)).emb (ix2 i j)) = ix2 (row t i) j := by
    blk_ext [idx t, row] <;> simp <;> omega
  rw [e, after0_10]
  by_cases h0 : t.val % 8 = 0
  · rw [outsAt0_A m c t h0]
    frame_out
    exact (dgt_point m c h t i j).trans (ref_dgt m c (row t i) j).symm
  · rw [outsAt0_B m c t h0]
    frame_out
    exact (dgt_point m c h t i j).trans (ref_dgt m c (row t i) j).symm

theorem final11 (c : Dev nD) (h : Fine m c) : (dats m 0 c).arrAt 11 (cfgs 0).N = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v6_4).slice (win0_11.rect t)).emb (ix2 i j)) = ix2 (row t i) j := by
    blk_ext [idx t, row] <;> simp <;> omega
  rw [e, after0_11]
  by_cases h0 : t.val % 8 = 0
  · rw [outsAt0_A m c t h0]
    frame_out
    exact dx_point m c h t i j
  · rw [outsAt0_B m c t h0]
    frame_out
    exact dx_point m c h t i j

/-- What one block adds to the final weight's gradient. -/
def termf (c : Dev nD) (t : Fin cfg0.N) (q : S1x1024.Idx) : EReal :=
  ∑ i : Fin 512, d3 m c (row t i) (q 1) * (x3 m c (row t i) (q 1) * Ideal.rsqrt (ms fun k => x3 m c (row t i) k))

/-- What one block adds to the gate's weight's gradient. -/
def term (c : Dev nD) (t : Fin cfg0.N) (q : S1x1024.Idx) : EReal :=
  ∑ i : Fin 512, dh m c (row t i) (q 1) * (HMul.hMul (α := EReal) (β := EReal) (γ := EReal) (m ((c : Thread nD τ).loc main_arg1) (ix2 (row t i) (q 1))) (Ideal.rsqrt (ms fun k => m ((c : Thread nD τ).loc main_arg1) (ix2 (row t i) k))))

/-- The mean square of a row's differences. -/
def err (c : Dev nD) (r : Fin 4096) : EReal := Ideal.div (∑ k : Fin 1024, diff m c r k * diff m c r k) (Ideal.ofBits FTy.f32 1149239296#32)

/-- What one block adds to the loss. -/
def terml (c : Dev nD) (t : Fin cfg0.N) (q : S1x128.Idx) : EReal := Ideal.ofBits FTy.f32 1056964608#32 * ∑ i : Fin 512, err m c (row t i)

theorem dgf_point (c : Dev nD) (t : Fin cfg0.N) (z : Fin 1) (j : Fin 1024) (acc : FVec Ideal S1x1024 .f32) :
    k0_pay22 (vx3 m c t) (vdf m c t) acc (ix2 z j) = acc (ix2 z j) + termf m c t (ix2 z j) := by
  have hx : ∀ i j, _ = x3 m c (row t i) j := x3_point m c t
  have hd : ∀ i j, _ = diff m c (row t i) j := df_point m c t
  pointwise [k0_pay18, k0_pay19, k0_pay20, k0_pay22]
  simp only [zero_add, hx, hd]
  rfl

theorem dg_point (c : Dev nD) (h : Fine m c) (t : Fin cfg0.N) (z : Fin 1) (j : Fin 1024) (acc : FVec Ideal S1x1024 .f32) :
    k0_pay1 (k0_pay28 (vpe m c t) (iblk m c 1 t) (vsg m c t) (vdx m c t) (iblk m c 5 t)) acc (ix2 z j) = acc (ix2 z j) + term m c t (ix2 z j) := by
  have h1 : ∀ i j, _ = dh m c (row t i) j := dh_point m c h t
  pointwise [k0_pay1, k0_pay26, k0_pay27, k0_pay28]
  simp only [zero_add, h1, rd1]
  rfl

theorem loss_point (c : Dev nD) (t : Fin cfg0.N) (z : Fin 1) (j : Fin 128) (acc : FVec Ideal S1x128 .f32) :
    k0_pay17 (k0_pay15 acc) (k0_pay16 (vpe m c t) (iblk m c 1 t) (k0_pay7 (iblk m c 3 t)) (k0_pay8 (iblk m c 1 t)) k0_pay9 (iblk m c 5 t) (iblk m c 6 t) (iblk m c 2 t)) (ix2 z j)
      = acc (ix2 z j) + terml m c t (ix2 z j) := by
  have hd : ∀ i j, _ = diff m c (row t i) j := df_point m c t
  pointwise [k0_pay15, k0_pay16, k0_pay17]
  simp only [zero_add, hd]
  rfl

/-- The last block. -/
def last : Fin cfg0.N := ⟨7, by decide⟩

theorem final12 (c : Dev nD) (h : Fine m c) : (dats m 0 c).arrAt 12 (cfgs 0).N = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 12 last (by decide +kernel) _ fun q => ?_
  refine Eq.trans (b := (dats m 0 c).after 12 last q) (by blk_simp) ?_
  rw [after0_12]
  refine (Pipeline.eq_sum_fin_of_reset_step_apply_last (fun n h => (outsAt0 m c n h).2.2.2.2.2.1) 8 (fun _ => (0 : EReal)) (termf m c) ?_ ?_
    (by decide) last rfl q).trans ?_
  · intro t h0 q
    obtain ⟨z, j, rfl⟩ : ∃ (z : Fin 1) (j : Fin 1024), q = ix2 z j := ⟨q 0, q 1, by ext a; fin_cases a <;> rfl⟩
    rw [outsAt0_A m c t h0]
    frame_out
    refine (dgf_point m c t z j _).trans (congrArg (· + _) ?_)
    pointwise! [k0_pay2]
  · intro t h0 q
    obtain ⟨z, j, rfl⟩ : ∃ (z : Fin 1) (j : Fin 1024), q = ix2 z j := ⟨q 0, q 1, by ext a; fin_cases a <;> rfl⟩
    rw [outsAt0_B m c t h0]
    frame_out
    exact dgf_point m c t z j _
  · obtain ⟨z, j, rfl⟩ : ∃ (z : Fin 1) (j : Fin 1024), q = ix2 z j := ⟨q 0, q 1, by ext a; fin_cases a <;> rfl⟩
    obtain rfl := Subsingleton.elim z 0
    have e : (View.whole main_v6_5).emb (ix2 (0 : Fin 1) j) = ix2 (0 : Fin 1) j := by blk_ext []
    rw [e]
    pointwise! [termf, val_main_v32, val_main_cst_7, val_main_v33, val_main_v34, val_main_cst_8, val_main_v35, val_main_v36, val_main_cst_9, val_main_v37, val_main_v38, val_main_v39, val_main_v40, val_main_cst_10, val_main_v41, val_main_v42, val_main_v43, val_main_v44, val_main_cst_19, val_main_v63, val_main_v64, val_main_v65, val_main_cst_20, val_main_v68, val_main_v110]
    simp only [ref_x3, ref_d3, zero_add]
    refine Fin.sum_points_lanes_congr 8 fun t k ha hl => ?_
    have er : row t k = ⟨t.val % 8 * 512 + k.val, hl⟩ := Fin.ext (by have := t.isLt; have h : cfg0.N = 8 := rfl; simp only [row]; omega)
    rw [← er]
    exact mul_comm (G := EReal) _ _

theorem final13 (c : Dev nD) (h : Fine m c) : (dats m 0 c).arrAt 13 (cfgs 0).N = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 13 last (by decide +kernel) _ fun q => ?_
  refine Eq.trans (b := (dats m 0 c).after 13 last q) (by blk_simp) ?_
  rw [after0_13]
  refine (Pipeline.eq_sum_fin_of_reset_step_apply_last (fun n h => (outsAt0 m c n h).2.2.2.2.2.2.1) 8 (fun _ => (0 : EReal)) (terml m c) ?_ ?_
    (by decide) last rfl q).trans ?_
  · intro t h0 q
    obtain ⟨z, j, rfl⟩ : ∃ (z : Fin 1) (j : Fin 128), q = ix2 z j := ⟨q 0, q 1, by ext a; fin_cases a <;> rfl⟩
    rw [outsAt0_A m c t h0]
    frame_out
    refine (loss_point m c t z j _).trans (congrArg (· + _) ?_)
    pointwise! [k0_pay3]
  · intro t h0 q
    obtain ⟨z, j, rfl⟩ : ∃ (z : Fin 1) (j : Fin 128), q = ix2 z j := ⟨q 0, q 1, by ext a; fin_cases a <;> rfl⟩
    rw [outsAt0_B m c t h0]
    frame_out
    exact loss_point m c t z j _
  · obtain ⟨z, j, rfl⟩ : ∃ (z : Fin 1) (j : Fin 128), q = ix2 z j := ⟨q 0, q 1, by ext a; fin_cases a <;> rfl⟩
    obtain rfl := Subsingleton.elim z 0
    have e : (View.whole main_v6_6).emb (ix2 (0 : Fin 1) j) = ix2 (0 : Fin 1) j := by blk_ext []
    rw [e]
    pointwise! [val_main_cst_12, val_main_cst_13, val_main_cst_14, val_main_cst_15, val_main_v49, val_main_v52, val_main_v53, val_main_v54, val_main_v55, val_main_v56, val_main_v111]
    simp only [ref_diff]
    have hf : Fin' (Ideal.ofBits FTy.f32 1056964608#32) := half_fin
    have he : ∀ r, Fin' (err m c r) := fun r => Fin'.mean (Fin'.sum _ _ fun k => (fin_diff m c h r k).mul (fin_diff m c h r k))
    refine Eq.trans ?_ (mul_sum_fin Finset.univ (Ideal.ofBits FTy.f32 1056964608#32) (fun r => err m c r) hf he).symm
    refine Eq.trans (Finset.sum_congr rfl fun p _ => mul_sum_fin Finset.univ (Ideal.ofBits FTy.f32 1056964608#32) (fun i => err m c (row p i)) hf fun i => he _) ?_
    refine Eq.trans ?_ (Fin.sum_univ_one (fun _ : Fin 1 => ∑ r : Fin 4096, Ideal.ofBits FTy.f32 1056964608#32 * err m c r))
    refine Fin.sum_points_lanes_congr 8 fun t k ha hl => ?_
    have er : row t k = ⟨t.val % 8 * 512 + k.val, hl⟩ := Fin.ext (by have := t.isLt; have h : cfg0.N = 8 := rfl; simp only [row]; omega)
    rw [← er]

theorem final14 (c : Dev nD) (h : Fine m c) : (dats m 0 c).arrAt 14 (cfgs 0).N = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 14 last (by decide +kernel) _ fun q => ?_
  refine Eq.trans (b := (dats m 0 c).after 14 last q) (by blk_simp) ?_
  rw [after0_14]
  refine (Pipeline.eq_sum_fin_of_reset_step_apply_last (fun n h => (outsAt0 m c n h).2.2.2.2.2.2.2) 8 (fun _ => (0 : EReal)) (term m c) ?_ ?_
    (by decide) last rfl q).trans ?_
  · intro t h0 q
    obtain ⟨z, j, rfl⟩ : ∃ (z : Fin 1) (j : Fin 1024), q = ix2 z j := ⟨q 0, q 1, by ext a; fin_cases a <;> rfl⟩
    rw [outsAt0_A m c t h0]
    frame_out
    refine (dg_point m c h t z j _).trans (congrArg (· + _) ?_)
    pointwise! [k0_pay4]
  · intro t h0 q
    obtain ⟨z, j, rfl⟩ : ∃ (z : Fin 1) (j : Fin 1024), q = ix2 z j := ⟨q 0, q 1, by ext a; fin_cases a <;> rfl⟩
    rw [outsAt0_B m c t h0]
    frame_out
    exact dg_point m c h t z j _
  · obtain ⟨z, j, rfl⟩ : ∃ (z : Fin 1) (j : Fin 1024), q = ix2 z j := ⟨q 0, q 1, by ext a; fin_cases a <;> rfl⟩
    obtain rfl := Subsingleton.elim z 0
    have e : (View.whole main_v6_7).emb (ix2 (0 : Fin 1) j) = ix2 (0 : Fin 1) j := by blk_ext []
    rw [e]
    pointwise! [term, val_main_cst, val_main_v3, val_main_cst_0, val_main_v4, val_main_v5, val_main_cst_1, val_main_v6, val_main_v7, val_main_cst_2, val_main_v8, val_main_v9, val_main_v10, val_main_v11, val_main_cst_3, val_main_v12, val_main_v13, val_main_v14, val_main_v15, val_main_cst_24, val_main_v87, val_main_v88, val_main_v89, val_main_cst_25, val_main_v92, val_main_v112]
    simp only [ref_dh, zero_add]
    refine Fin.sum_points_lanes_congr 8 fun t k ha hl => ?_
    have er : row t k = ⟨t.val % 8 * 512 + k.val, hl⟩ := Fin.ext (by have := t.isLt; have h : cfg0.N = 8 := rfl; simp only [row]; omega)
    rw [← er]
    exact mul_comm (G := EReal) _ _

end Cert.Kernel5Ideal.Loss
-- ==== Proof.LossClaim.lean ====
/- The loss head and its gradients: kernel and reference end with the same results. -/
module

public import proofs.«01_k».proof.Defs
public import proofs.«01_k».proof.Proof.Loss
public import Idealize.ShloMosaic.Lib.Quiescent

@[expose] public section

noncomputable section

namespace Cert.Proof

open Idealize.ShloMosaic Idealize.SL.Sem

/-- The side conditions of the precondition's operations. -/
theorem loss_facts : Cert.Pre_finite_loss.Facts := by
  constructor <;> decide

theorem loss_reference : Cert.quiescent_Reference5Ideal (hReference5Ideal := Cert.Reference5Ideal.Gen.facts) := by
  intro m g _
  exact (θ_run (Cert.Reference5Ideal.defs (F := Ideal)) _ _).mono (fun r h => ⟨fun c => (h c).2.2.2.2.2.2, sem_eq_zero_of_no_sems rfl _⟩) (Cert.Reference5Ideal.Value.run m g)

theorem loss : Cert.algebraic_Kernel5Ideal_Reference5Ideal_pre_finite_loss (hKernel5Ideal := Cert.Kernel5Ideal.Gen.facts) (hReference5Ideal := Cert.Reference5Ideal.Gen.facts) (hPre_finite_loss := loss_facts) := by
  intro m g m' g' hp hag
  refine ⟨fun c => Cert.Reference5Ideal.Read.val_main_v108 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Reference5Ideal.Read.val_main_v109 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Reference5Ideal.Read.val_main_v107 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Reference5Ideal.Read.val_main_v110 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Reference5Ideal.Read.val_main_v111 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Reference5Ideal.Read.val_main_v112 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    (θ_run (Cert.Kernel5Ideal.defs (F := Ideal)) _ _).mono (fun r h c => ?_) (Cert.Kernel5Ideal.Value.run_blocks m g),
    (θ_run (Cert.Reference5Ideal.defs (F := Ideal)) _ _).mono (fun r h c => ?_) (Cert.Reference5Ideal.Value.run m' g')⟩
  · have h := h c
    obtain ⟨f0, f1, f2, f3, f4, f5, f6⟩ := hp c
    have hf : Cert.Kernel5Ideal.Loss.Fine m c := ⟨(fun a b => Cert.Rms.fin_of_pre _ _ f0 (ix2 a b)), (fun a b => Cert.Rms.fin_of_pre _ _ f1 (ix2 a b)), (fun a b => Cert.Rms.fin_of_pre _ _ f2 (ix2 a b)), (fun a => Cert.Rms.fin_of_pre _ _ f3 (ix1 a)), (fun a b => Cert.Rms.fin_of_pre _ _ f4 (ix2 a b)), (fun a b => Cert.Rms.fin_of_pre _ _ f5 (ix2 a b)), (fun a => Cert.Rms.fin_of_pre _ _ f6 (ix1 a))⟩
    exact ⟨h.2.2.1.trans (Cert.Kernel5Ideal.Loss.final9 m c hf), h.2.2.2.1.trans (Cert.Kernel5Ideal.Loss.final10 m c hf), h.2.2.2.2.1.trans (Cert.Kernel5Ideal.Loss.final11 m c hf), h.2.2.2.2.2.1.trans (Cert.Kernel5Ideal.Loss.final12 m c hf), h.2.2.2.2.2.2.1.trans (Cert.Kernel5Ideal.Loss.final13 m c hf), h.2.2.2.2.2.2.2.1.trans (Cert.Kernel5Ideal.Loss.final14 m c hf), h.2.2.2.2.2.2.2.2⟩
  · have h := h c
    obtain ⟨e0, e1, e2, e3, e4, e5, e6⟩ := hag c
    exact ⟨h.1.trans ((Cert.Reference5Ideal.Read.val_main_v108_eq _).trans (by
        change Cert.Reference5Ideal.Read.val_main_v108 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])),
      h.2.1.trans ((Cert.Reference5Ideal.Read.val_main_v109_eq _).trans (by
        change Cert.Reference5Ideal.Read.val_main_v109 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])),
      h.2.2.1.trans ((Cert.Reference5Ideal.Read.val_main_v107_eq _).trans (by
        change Cert.Reference5Ideal.Read.val_main_v107 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])),
      h.2.2.2.1.trans ((Cert.Reference5Ideal.Read.val_main_v110_eq _).trans (by
        change Cert.Reference5Ideal.Read.val_main_v110 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])),
      h.2.2.2.2.1.trans ((Cert.Reference5Ideal.Read.val_main_v111_eq _).trans (by
        change Cert.Reference5Ideal.Read.val_main_v111 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])),
      h.2.2.2.2.2.1.trans ((Cert.Reference5Ideal.Read.val_main_v112_eq _).trans (by
        change Cert.Reference5Ideal.Read.val_main_v112 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
        rw [e0, e1, e2, e3, e4, e5, e6])), h.2.2.2.2.2.2⟩

end Cert.Proof

end
-- ==== Proof.SbCheck.lean ====
module

public import proofs.«01_k».proof.Kernel6Ideal
public import Idealize.ShloMosaic.Lib.LoopRemainder

/-! # The stick-breaking gradient: its block counts keep every access in range

A grid point `(h, j)` of the stick-breaking gradient reads two words, one per row block of 128, and clips each to
between 1 and the number of blocks up to its own (`2 j + 1` or `2 j + 2`).  All the rows it addresses are blocks
`count - clipped … count - 1`, so they lie within the 4096 rows whatever the words are. -/

@[expose] public section

open Idealize Idealize.ShloMosaic

namespace Cert.Kernel6Ideal.Sb

/-- A word clipped between 1 and `2 j + b + 1` (`j < 16`, `b ≤ 1`) lies there. -/
theorem clip (j : ℕ) (hj : j < 16) (b v : BitVec 32) (hb : b.toNat ≤ 1) :
    ∃ w : BitVec 32, Scalar.minsi (Scalar.addi (Scalar.addi (Scalar.muli (BitVec.ofNat 32 j) 2#32) b) 1#32) (Scalar.maxsi 1#32 v) = w
      ∧ ∃ n : BitVec 32, Scalar.addi (Scalar.addi (Scalar.muli (BitVec.ofNat 32 j) 2#32) b) 1#32 = n
        ∧ 1 ≤ w.toNat ∧ w.toNat ≤ n.toNat ∧ n.toNat ≤ 32 := by
  refine ⟨_, rfl, _, rfl, ?_⟩
  have hn : (Scalar.addi (Scalar.addi (Scalar.muli (BitVec.ofNat 32 j) 2#32) b) 1#32).toNat = 2 * j + b.toNat + 1 := by
    simp only [Scalar.addi, Scalar.muli, IntOp.addi, IntOp.muli, BitVec.toNat_add, BitVec.toNat_mul, BitVec.toNat_ofNat]
    omega
  generalize Scalar.addi (Scalar.addi (Scalar.muli (BitVec.ofNat 32 j) 2#32) b) 1#32 = n at hn ⊢
  simp only [Scalar.minsi, Scalar.maxsi, IntOp.minsi, IntOp.maxsi, BitVec.slt_eq_decide, decide_eq_true_eq]
  have h1 : (1#32 : BitVec 32).toInt = 1 := by decide
  have e1 := BitVec.toInt_eq_toNat_cond v
  have e2 := BitVec.toInt_eq_toNat_cond n
  have e3 := v.isLt
  split_ifs with ha hb hb <;> first | omega | (simp; omega)

/-- `(n - w + k) * 128` as a row offset. -/
theorem toNat_off (n w k : BitVec 32) (h1 : w.toNat ≤ n.toNat) (h2 : n.toNat ≤ 32) (hk : k.toNat < w.toNat) :
    (Scalar.muli (Scalar.addi (Scalar.subi n w) k) 128#32).toNat = (n.toNat - w.toNat + k.toNat) * 128 := by
  simp only [Scalar.addi, Scalar.muli, Scalar.subi, IntOp.addi, IntOp.muli, IntOp.subi, BitVec.toNat_add, BitVec.toNat_mul, BitVec.toNat_sub, BitVec.toNat_ofNat]
  omega

/-- `(n - w) * 128` as a row offset. -/
theorem toNat_off₀ (n w : BitVec 32) (h1 : w.toNat ≤ n.toNat) (h2 : n.toNat ≤ 32) :
    (Scalar.muli (Scalar.subi n w) 128#32).toNat = (n.toNat - w.toNat) * 128 := by
  simp only [Scalar.muli, Scalar.subi, IntOp.muli, IntOp.subi, BitVec.toNat_mul, BitVec.toNat_sub, BitVec.toNat_ofNat]
  omega

/-- The counted loop `0 … w - 1`: its upper bound is `w`. -/
theorem ub_eq (w : BitVec 32) : Scalar.addi 0#32 (Scalar.muli (Scalar.divsi (Scalar.subi w 0#32) 1#32) 1#32) = w := by
  rw [Scalar.muli_divsi_one]
  simp [Scalar.addi, Scalar.subi, IntOp.addi, IntOp.subi]

theorem trips_ub (w : BitVec 32) (hw : w.toNat ≤ 32) : Scf.trips 0#32 w 1#32 = w.toNat := by
  have e := BitVec.toInt_eq_toNat_cond w
  have h1 : (1#32 : BitVec 32).toInt = 1 := by decide
  have h0 : (0#32 : BitVec 32).toInt = 0 := by decide
  unfold Scf.trips
  rw [h1, h0]
  omega

theorem ok_ub (w : BitVec 32) (hw : w.toNat ≤ 32) : Scf.OK 0#32 w 1#32 := by
  have h1 : (1#32 : BitVec 32).toInt = 1 := by decide
  have h0 : (0#32 : BitVec 32).toInt = 0 := by decide
  refine ⟨by decide, ?_⟩
  rw [trips_ub w hw, h1, h0]
  omega

theorem toNat_iv (k : ℕ) (hk : k < 32) : (Scf.iv 0#32 1#32 k).toNat = k := by
  simp only [Scf.iv, BitVec.toNat_add, BitVec.toNat_mul, BitVec.toNat_ofNat]
  omega

theorem dvd_mul128 (x : BitVec 32) : 128 ∣ (Scalar.muli x 128#32).toNat := by
  simp only [Scalar.muli, IntOp.muli, BitVec.toNat_mul, BitVec.toNat_ofNat]
  omega

theorem three_of_and (a b : BitVec 32) (h : Scalar.cmpi .ne (Scalar.extui (Scalar.andi (Scalar.cmpi .eq a 3#32) (Scalar.cmpi .eq b 3#32))) 0#32 = 1#1) :
    a = 3#32 ∧ b = 3#32 := by
  by_cases ha : a = 3#32
  · by_cases hb : b = 3#32
    · exact ⟨ha, hb⟩
    · exfalso; revert h
      have : (b == 3#32) = false := by simpa using hb
      subst ha
      simp [Scalar.cmpi, IntOp.cmpi, Scalar.andi, IntOp.andi, Scalar.extui, this]
  · exfalso; revert h
    have : (a == 3#32) = false := by simpa using ha
    simp [Scalar.cmpi, IntOp.cmpi, Scalar.andi, IntOp.andi, Scalar.extui, this]

/-- Every side condition of a grid point holds, whatever the two words read are. -/
theorem chk1_all (i : grid0.Coords) (v63 v73 : BitVec 32) : k0_chk1 i v63 v73 := by
  obtain ⟨w1, e1, n1, f1, h1⟩ := clip (i 1).val (i 1).isLt 0#32 v63 (by decide)
  obtain ⟨w2, e2, n2, f2, h2⟩ := clip (i 1).val (i 1).isLt 1#32 v73 (by decide)
  refine ⟨?_, ?_, ?_, ?_, ?_, ?_, ?_, ?_, ?_, ?_, ?_, ?_, ?_, ?_, ?_, ?_⟩
  · intro _; dsimp only [k0_mult1]; exact dvd_mul128 _
  · intro h
    have hw : w1 = 3#32 := by
      have h' := three_of_and _ _ h
      rw [e1, e2] at h'
      exact h'.1
    have h3 : w1.toNat = 3 := by rw [hw]; rfl
    have ho := toNat_off₀ n1 w1 (by omega) (by omega)
    intro a; dsimp only [k0_off1, Scalar.indexCast]; rw [e1, f1, ho]
    fin_cases a <;> simp [S384x128, S4096x128] <;> omega
  · intro _; dsimp only [k0_mult2]; exact dvd_mul128 _
  · intro h
    have hw : w2 = 3#32 := by
      have h' := three_of_and _ _ h
      rw [e1, e2] at h'
      exact h'.2
    have h3 : w2.toNat = 3 := by rw [hw]; rfl
    have ho := toNat_off₀ n2 w2 (by omega) (by omega)
    intro a; dsimp only [k0_off2, Scalar.indexCast]; rw [e2, f2, ho]
    fin_cases a <;> simp [S384x128, S4096x128] <;> omega
  · intro _; rw [Scf.Loop.OK]; dsimp only [k0_t1_loop]; rw [e1, ub_eq]; exact ok_ub _ (by omega)
  · rintro ⟨k, hk⟩ _; dsimp only [k0_mult3]; exact dvd_mul128 _
  · rintro ⟨k, hk⟩ _
    have hk' : k < w1.toNat := by
      rw [Scf.Loop.trips] at hk; dsimp only [k0_t1_loop] at hk; rwa [e1, ub_eq, trips_ub _ (by omega)] at hk
    have hi := toNat_iv k (by omega)
    have ho := toNat_off n1 w1 (Scf.iv 0#32 1#32 k) (by omega) (by omega) (by omega)
    intro a; dsimp only [k0_off3, Scalar.indexCast]; rw [e1, f1, ho, hi]
    fin_cases a <;> simp [S128x128, S4096x128] <;> omega
  · intro _; exact Scf.rem_ok _ _
  · rintro k _; exact (Scf.rem_no_trip _ _ k).elim
  · rintro k _; exact (Scf.rem_no_trip _ _ k).elim
  · intro _; rw [Scf.Loop.OK]; dsimp only [k0_t3_loop]; rw [e2, ub_eq]; exact ok_ub _ (by omega)
  · rintro ⟨k, hk⟩ _; dsimp only [k0_mult5]; exact dvd_mul128 _
  · rintro ⟨k, hk⟩ _
    have hk' : k < w2.toNat := by
      rw [Scf.Loop.trips] at hk; dsimp only [k0_t3_loop] at hk; rwa [e2, ub_eq, trips_ub _ (by omega)] at hk
    have hi := toNat_iv k (by omega)
    have ho := toNat_off n2 w2 (Scf.iv 0#32 1#32 k) (by omega) (by omega) (by omega)
    intro a; dsimp only [k0_off5, Scalar.indexCast]; rw [e2, f2, ho, hi]
    fin_cases a <;> simp [S128x128, S4096x128] <;> omega
  · intro _; exact Scf.rem_ok _ _
  · rintro k _; exact (Scf.rem_no_trip _ _ k).elim
  · rintro k _; exact (Scf.rem_no_trip _ _ k).elim

end Cert.Kernel6Ideal.Sb

end
-- ==== Proof.SbRun.lean ====
module

public import proofs.«01_k».proof.Proof.SbCheck
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Loops
public import Idealize.ShloMosaic.Lib.Pipeline.Frame
public import Idealize.ShloMosaic.Lib.Tactic
public import Idealize.ShloMosaic.Lib.LoopRemainder

/-! # The stick-breaking gradient: one grid point runs

From every block and scratch buffer at any contents the body of a grid point runs to its end and leaves them at some
contents: the side conditions of the two words it reads hold (`chk1_all`), and both branches of every conditional run. -/

@[expose] public section

noncomputable section

namespace Cert.Kernel6Ideal.Sb

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The blocks and scratch buffers of a grid point, each at some contents. -/
abbrev Res (c : Dev nD) (arg2 : Memref sig .tc .vmem S256x128 .bf16) (arg3 : Memref sig .tc .vmem S4096x128 .bf16) (arg4 : Memref sig .tc .vmem S4096x128 .bf16) (arg5 : Memref sig .tc .vmem S1x2x256x128 .f32) (arg6 : Memref sig .tc .vmem S1x2x8x128 .f32) (arg7 : Memref sig .tc .vmem S256x128 .bf16) (arg8 : Memref sig .tc .vmem S128x256 .bf16) (arg9 : Memref sig .tc .vmem S128x256 .bf16) (arg10 : Memref sig .tc .vmem S1x2x256x384 .bf16) (arg11 : Memref sig .tc .vmem S1x2x256x384 .bf16) (arg12 : Memref sig .tc .vmem S256x128 .bf16) (arg13 : Memref sig .tc .vmem S4096x128 .bf16) (arg14 : Memref sig .tc .vmem S4096x128 .bf16) (arg15 : Memref sig .tc .vmem S2x256x128 .f32) (arg16 : Memref sig .tc .vmem S2x256x128 .f32) (arg17 : Memref sig .tc .vmem S2x256x128 .f32) (arg18 : Memref sig .tc .vmem S4096x128 .f32) (arg19 : Memref sig .tc .vmem S4096x128 .f32) : sProp 𝕄 :=
  iprop((∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f))

set_option maxHeartbeats 8000000 in
/-- The body's triple, for any continuation. -/
theorem kernelRun (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x256x128 .f32) (harg5 : arg5.IsWhole) (arg6 : Memref sig .tc .vmem S1x2x8x128 .f32) (harg6 : arg6.IsWhole) (arg7 : Memref sig .tc .vmem S256x128 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S1x2x256x384 .bf16) (harg10 : arg10.IsWhole) (arg11 : Memref sig .tc .vmem S1x2x256x384 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x128 .f32) (harg15 : arg15.IsWhole) (arg16 : Memref sig .tc .vmem S2x256x128 .f32) (harg16 : arg16.IsWhole) (arg17 : Memref sig .tc .vmem S2x256x128 .f32) (harg17 : arg17.IsWhole) (arg18 : Memref sig .tc .vmem S4096x128 .f32) (harg18 : arg18.IsWhole) (arg19 : Memref sig .tc .vmem S4096x128 .f32) (harg19 : arg19.IsWhole) (K : PUnit → sProp 𝕄) :
    iprop(Res c arg2 arg3 arg4 arg5 arg6 arg7 arg8 arg9 arg10 arg11 arg12 arg13 arg14 arg15 arg16 arg17 arg18 arg19 ∗ (Res c arg2 arg3 arg4 arg5 arg6 arg7 arg8 arg9 arg10 arg11 arg12 arg13 arg14 arg15 arg16 arg17 arg18 arg19 -∗ K ⟨⟩))
      ⊢ wp frame (wpE (defs₀ (F := F)) Variants.none c none) Set.univ (cc0_sb_bwd_0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hchk := chk1_all i
  simp only [cc0_sb_bwd_0_eq_skeleton]; unfold cc0_sb_bwd_0_skel
  iintro ⟨⟨⟨%farg2, Harg2⟩, ⟨%farg3, Harg3⟩, ⟨%farg4, Harg4⟩, ⟨%farg5, Harg5⟩, ⟨%farg6, Harg6⟩, ⟨%farg7, Harg7⟩, ⟨%farg8, Harg8⟩, ⟨%farg9, Harg9⟩, ⟨%farg10, Harg10⟩, ⟨%farg11, Harg11⟩, ⟨%farg12, Harg12⟩, ⟨%farg13, Harg13⟩, ⟨%farg14, Harg14⟩, ⟨%farg15, Harg15⟩, ⟨%farg16, Harg16⟩, ⟨%farg17, Harg17⟩, ⟨%farg18, Harg18⟩, ⟨%farg19, Harg19⟩⟩, Hk⟩
  sl_exec_parts (disch := exact hchk _ _)
  by_cases hb : k0_cond3 i (kernelRun.sl.v63 c arg6 farg6) (kernelRun.sl.v73 c arg6 farg6) = 1#1
  · sl_exec_parts (disch := first | exact hb | exact hchk _ _)
    sl_step
    iapply Hk
    isplitl [Harg2]; · iexists _; iexact Harg2
    isplitl [Harg3]; · iexists _; iexact Harg3
    isplitl [Harg4]; · iexists _; iexact Harg4
    isplitl [Harg5]; · iexists _; iexact Harg5
    isplitl [Harg6]; · iexists _; iexact Harg6
    isplitl [Harg7]; · iexists _; iexact Harg7
    isplitl [Harg8]; · iexists _; iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    isplitl [Harg14]; · iexists _; iexact Harg14
    isplitl [Harg15]; · iexists _; iexact Harg15
    isplitl [Harg16]; · iexists _; iexact Harg16
    isplitl [Harg17]; · iexists _; iexact Harg17
    isplitl [Harg18]; · iexists _; iexact Harg18
    iexists _; iexact Harg19
  · sl_exec_parts (disch := first | exact hb | exact hchk _ _)
    sl_step
    iapply Hk
    isplitl [Harg2]; · iexists _; iexact Harg2
    isplitl [Harg3]; · iexists _; iexact Harg3
    isplitl [Harg4]; · iexists _; iexact Harg4
    isplitl [Harg5]; · iexists _; iexact Harg5
    isplitl [Harg6]; · iexists _; iexact Harg6
    isplitl [Harg7]; · iexists _; iexact Harg7
    isplitl [Harg8]; · iexists _; iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    isplitl [Harg14]; · iexists _; iexact Harg14
    isplitl [Harg15]; · iexists _; iexact Harg15
    isplitl [Harg16]; · iexists _; iexact Harg16
    isplitl [Harg17]; · iexists _; iexact Harg17
    isplitl [Harg18]; · iexists _; iexact Harg18
    iexists _; iexact Harg19

end Cert.Kernel6Ideal.Sb

end
-- ==== Proof.SbFrame.lean ====
module

public import proofs.«01_k».proof.Proof.SbRun
public import Idealize.ShloMosaic.Lib.Pipeline.Frame
public import Idealize.ShloMosaic.Lib.Pipeline.FrameBody
public import Idealize.ShloMosaic.Lib.Tactic
public import Idealize.ShloMosaic.Lib.LoopRemainder

/-! # The stick-breaking gradient: its frame

Every fair run of the program ends without a fault, its arguments unchanged and every semaphore at zero.  The windows are over
converted copies of the arguments, so nothing need be said of what the body leaves in them: all thirteen are forgotten. -/

@[expose] public section

noncomputable section

namespace Cert.Kernel6Ideal.Sb

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

open Idealize.ShloMosaic.Pipeline (Dat BodyObligation)

local notation "𝕄" => MT nD τ sig Unit (Elt F) ℕ (UR sig nD τ) ℕ

variable (m : (ℓ : Loc nD τ sig) → Buf (Elt F) ℓ) (ρ : Dev nD → PrngReg)

/-- The host operations before the call, in order. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s buffers when the call is entered. -/
abbrev V (c : Dev nD) (b : Ref sig .tc) : Buf (Elt F) ((c : Thread nD τ).loc b) := StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem opss_fresh : (opss (F := F)).Forall fun ops => ops.Forall fun op => op.fresh = ∅ := by
  simp only [opss, List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every window is forgotten. -/
def forgets0 : Fin 13 → Bool := fun _ => true

/-- The proof data: arrays as the call finds them, the scratch buffers and the generator register at anything, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- A block's buffer, from the block held at some value. -/
theorem owns_pt (c : Dev nD) {s : Shape} {e : EltTy} (M : Memref sig .tc .vmem s e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists _; iexact H

/-- The block held at some value, from its buffer. -/
theorem pt_owns (c : Dev nD) {s : Shape} {e : EltTy} (M : Memref sig .tc .vmem s e) :
    iprop(∃ f, M.view.loc (c : Thread nD τ) ↦[M.view.set]{fullShare} f) ⊢ (iprop(∃ d, owns (c : Thread nD τ) M fullShare d) : sProp 𝕄) := by
  unfold owns
  iintro ⟨%f, H⟩
  iexists _, _; isplitr; swap; · iexact H
  ipureintro; rfl

/-- What the body is called with at point `t`: every window's block at some value. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))
/-- What it returns. -/
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))

theorem scr_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scr_eq]
  iintro ⟨⟨⟨S0, S1, S2, S3, S4⟩, Hg⟩, HO, H0, H1, H2, H3, H4, H5, H6, H7, H8, H9, H10, H11, H12⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _)
  isplitl [H0 H1 H2 H3 H4 H5 H6 H7 H8 H9 H10 H11 H12 S0 S1 S2 S3 S4]
  · isplitl [H0]; · iapply (owns_pt c _); iexact H0
    isplitl [H1]; · iapply (owns_pt c _); iexact H1
    isplitl [H2]; · iapply (owns_pt c _); iexact H2
    isplitl [H3]; · iapply (owns_pt c _); iexact H3
    isplitl [H4]; · iapply (owns_pt c _); iexact H4
    isplitl [H5]; · iapply (owns_pt c _); iexact H5
    isplitl [H6]; · iapply (owns_pt c _); iexact H6
    isplitl [H7]; · iapply (owns_pt c _); iexact H7
    isplitl [H8]; · iapply (owns_pt c _); iexact H8
    isplitl [H9]; · iapply (owns_pt c _); iexact H9
    isplitl [H10]; · iapply (owns_pt c _); iexact H10
    isplitl [H11]; · iapply (owns_pt c _); iexact H11
    isplitl [H12]; · iapply (owns_pt c _); iexact H12
    isplitl [S0]; · iapply (owns_pt c _); iexact S0
    isplitl [S1]; · iapply (owns_pt c _); iexact S1
    isplitl [S2]; · iapply (owns_pt c _); iexact S2
    isplitl [S3]; · iapply (owns_pt c _); iexact S3
    iapply (owns_pt c _); iexact S4
  · iintro ⟨H0, H1, H2, H3, H4, H5, H6, H7, H8, H9, H10, H11, H12, S0, S1, S2, S3, S4⟩
    isplitl [S0 S1 S2 S3 S4 Hg]
    · isplitr [Hg]
      · isplitl [S0]; · iapply (pt_owns c _); iexact S0
        isplitl [S1]; · iapply (pt_owns c _); iexact S1
        isplitl [S2]; · iapply (pt_owns c _); iexact S2
        isplitl [S3]; · iapply (pt_owns c _); iexact S3
        iapply (pt_owns c _); iexact S4
      · iexact Hg
    isplitl [HO]; · iexact HO
    isplitl [H0]; · iapply (pt_owns c _); iexact H0
    isplitl [H1]; · iapply (pt_owns c _); iexact H1
    isplitl [H2]; · iapply (pt_owns c _); iexact H2
    isplitl [H3]; · iapply (pt_owns c _); iexact H3
    isplitl [H4]; · iapply (pt_owns c _); iexact H4
    isplitl [H5]; · iapply (pt_owns c _); iexact H5
    isplitl [H6]; · iapply (pt_owns c _); iexact H6
    isplitl [H7]; · iapply (pt_owns c _); iexact H7
    isplitl [H8]; · iapply (pt_owns c _); iexact H8
    isplitl [H9]; · iapply (pt_owns c _); iexact H9
    isplitl [H10]; · iapply (pt_owns c _); iexact H10
    isplitl [H11]; · iapply (pt_owns c _); iexact H11
    iapply (pt_owns c _); iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair run ends, nothing outside the windows' arrays changed and every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)
    (hQ' := fun r h => h)

variable {m ρ}

theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame of the program at any values. -/
theorem frame_all (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨final_arg0 h.1 c, final_arg1 h.1 c⟩, h.2⟩) (run_main m ρ)

end Cert.Kernel6Ideal.Sb

end
-- ==== Proof.SbClaim.lean ====
/- The stick-breaking backward call: the frames of kernel and reference. -/
module

public import proofs.«01_k».proof.Defs
public import proofs.«01_k».proof.Proof.Gen.Kernel6
public import proofs.«01_k».proof.Proof.Gen.Kernel6Ideal
public import proofs.«01_k».proof.Proof.Gen.Reference6Ideal.Run
public import proofs.«01_k».proof.Proof.SbFrame
public import Idealize.ShloMosaic.Lib.Quiescent
public import Idealize.ShloMosaic.Lib.Tactic

@[expose] public section

noncomputable section

namespace Cert.Proof

open Idealize.ShloMosaic Idealize.SL.Sem

theorem sb_ideal : Cert.quiescent_Kernel6Ideal (hKernel6Ideal := Cert.Kernel6Ideal.Gen.facts) :=
  fun m g _ => Cert.Kernel6Ideal.Sb.frame_all m g

/-- The printed program and its idealization have the same text, so the frame at machine values is the one proved at any. -/
theorem sb_kernel : Cert.quiescent_Kernel6 (hKernel6 := Cert.Kernel6.Gen.facts) := by
  have e : Cert.quiescent_Kernel6 (hKernel6 := Cert.Kernel6.Gen.facts)
      = ∀ (m : (ℓ : Loc Cert.Kernel6Ideal.nD Cert.Kernel6Ideal.τ Cert.Kernel6Ideal.sig) → Buf (Elt Bits) ℓ) (g : Dev Cert.Kernel6Ideal.nD → PrngReg), Cert.Pre_Kernel6 m →
        θ_run (Cert.Kernel6Ideal.defs (F := Bits)) (onTc (τ := Cert.Kernel6Ideal.τ) (Cert.Kernel6Ideal.main (F := Bits))) ⟨m, fun _ => 0, g⟩ (fun r =>
          (∀ c : Dev Cert.Kernel6Ideal.nD, r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
            ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
          ∧ r.2.sem = fun _ => 0) := by
    sl_kernel_rfl
  rw [e]
  exact fun m g _ => Cert.Kernel6Ideal.Sb.frame_all (F := Bits) m g

theorem sb_reference : Cert.quiescent_Reference6Ideal (hReference6Ideal := Cert.Reference6Ideal.Gen.facts) := by
  intro m g _
  exact (θ_run (Cert.Reference6Ideal.defs (F := Ideal)) _ _).mono (fun r h => ⟨fun c => (h c).2.2.2, sem_eq_zero_of_no_sems rfl _⟩) (Cert.Reference6Ideal.Value.run m g)

end Cert.Proof

end
-- ==== Proof.SwaRun.lean ====
module

public import proofs.«01_k».proof.Kernel7Ideal
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Loops
public import Idealize.ShloMosaic.Lib.Pipeline.Frame
public import Idealize.ShloMosaic.Lib.Tactic

/-! # The windowed attention's gradient: one grid point runs

From every block and scratch buffer at any contents the body of a grid point runs to its end and leaves them at some
contents.  Every offset depends on the grid point alone. -/

@[expose] public section

noncomputable section

namespace Cert.Kernel7Ideal.Swa

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- Rows of the block before block `4 s + r`, the first block standing before itself. -/
theorem off1_eq : ∀ (i : grid0.Coords) (r : Fin 4), k0_off1 i (BitVec.ofNat 32 r.val) = ![512 * (i 1).val + 128 * r.val - 128, 0] := by decide +kernel

/-- Rows of block `4 s + r`. -/
theorem off2_eq : ∀ (i : grid0.Coords) (r : Fin 4), k0_off2 i (BitVec.ofNat 32 r.val) = ![512 * (i 1).val + 128 * r.val, 0] := by decide +kernel

/-- The relative bias' gradient is formed at a pair's last step alone. -/
theorem not_last : ∀ i : grid0.Coords, (i 1).val ≠ 7 → ¬ k0_cond3 i = 1#1 := by decide +kernel

/-- The blocks and scratch buffers of a grid point, each at some contents. -/
abbrev Res (c : Dev nD) (arg2 : Memref sig .tc .vmem S512x128 .bf16) (arg3 : Memref sig .tc .vmem S4096x128 .bf16) (arg4 : Memref sig .tc .vmem S4096x128 .bf16) (arg5 : Memref sig .tc .vmem S512x128 .bf16) (arg6 : Memref sig .tc .vmem S512x128 .bf16) (arg7 : Memref sig .tc .vmem S128x256 .i32) (arg8 : Memref sig .tc .vmem S1x4x256x384 .bf16) (arg9 : Memref sig .tc .vmem S512x128 .bf16) (arg10 : Memref sig .tc .vmem S4096x256 .bf16) (arg11 : Memref sig .tc .vmem S8x128 .f32) (arg12 : Memref sig .tc .vmem S8x128 .f32) (arg13 : Memref sig .tc .vmem S256x256 .f32) (arg14 : Memref sig .tc .vmem S4096x128 .f32) (arg15 : Memref sig .tc .vmem S4096x128 .f32) : sProp 𝕄 :=
  iprop((∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))

/-! The closed forms of the offsets. -/

instance (i : grid0.Coords) : ClosedOff (k0_off1 i 1#32) := ⟨![512 * (i 1).val, 0], (off1_eq i 1).trans rfl⟩
instance (i : grid0.Coords) : ClosedOff (k0_off1 i 2#32) := ⟨![512 * (i 1).val + 128, 0], (off1_eq i 2).trans rfl⟩
instance (i : grid0.Coords) : ClosedOff (k0_off1 i 3#32) := ⟨![512 * (i 1).val + 256, 0], (off1_eq i 3).trans rfl⟩
instance (i : grid0.Coords) : ClosedOff (k0_off2 i 0#32) := ⟨![512 * (i 1).val, 0], (off2_eq i 0).trans rfl⟩
instance (i : grid0.Coords) : ClosedOff (k0_off2 i 1#32) := ⟨![512 * (i 1).val + 128, 0], (off2_eq i 1).trans rfl⟩
instance (i : grid0.Coords) : ClosedOff (k0_off2 i 2#32) := ⟨![512 * (i 1).val + 256, 0], (off2_eq i 2).trans rfl⟩
instance (i : grid0.Coords) : ClosedOff (k0_off2 i 3#32) := ⟨![512 * (i 1).val + 384, 0], (off2_eq i 3).trans rfl⟩
instance (i : grid0.Coords) [h : Fact ((i 1).val = 0)] : ClosedOff (k0_off1 i 0#32) := ⟨![512 * (i 1).val, 0], (off1_eq i 0).trans (by rw [h.out]; rfl)⟩
instance (i : grid0.Coords) [h : Fact (0 < (i 1).val)] : ClosedOff (k0_off1 i 0#32) := ⟨![512 * (i 1).val - 128, 0], (off1_eq i 0).trans rfl⟩

set_option maxHeartbeats 8000000 in
/-- The body's triple, for any continuation. -/
theorem kernelRun (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S128x256 .i32) (harg7 : arg7.IsWhole) (arg8 : Memref sig .tc .vmem S1x4x256x384 .bf16) (harg8 : arg8.IsWhole) (arg9 : Memref sig .tc .vmem S512x128 .bf16) (harg9 : arg9.IsWhole) (arg10 : Memref sig .tc .vmem S4096x256 .bf16) (harg10 : arg10.IsWhole) (arg11 : Memref sig .tc .vmem S8x128 .f32) (harg11 : arg11.IsWhole) (arg12 : Memref sig .tc .vmem S8x128 .f32) (harg12 : arg12.IsWhole) (arg13 : Memref sig .tc .vmem S256x256 .f32) (harg13 : arg13.IsWhole) (arg14 : Memref sig .tc .vmem S4096x128 .f32) (harg14 : arg14.IsWhole) (arg15 : Memref sig .tc .vmem S4096x128 .f32) (harg15 : arg15.IsWhole) (K : PUnit → sProp 𝕄) :
    iprop(Res c arg2 arg3 arg4 arg5 arg6 arg7 arg8 arg9 arg10 arg11 arg12 arg13 arg14 arg15 ∗ (Res c arg2 arg3 arg4 arg5 arg6 arg7 arg8 arg9 arg10 arg11 arg12 arg13 arg14 arg15 -∗ K ⟨⟩))
      ⊢ wp frame (wpE (defs₀ (F := F)) Variants.none c none) Set.univ (cc0_swa_bwd_0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_swa_bwd_0_eq_skeleton]; unfold cc0_swa_bwd_0_skel
  iintro ⟨⟨⟨%farg2, Harg2⟩, ⟨%farg3, Harg3⟩, ⟨%farg4, Harg4⟩, ⟨%farg5, Harg5⟩, ⟨%farg6, Harg6⟩, ⟨%farg7, Harg7⟩, ⟨%farg8, Harg8⟩, ⟨%farg9, Harg9⟩, ⟨%farg10, Harg10⟩, ⟨%farg11, Harg11⟩, ⟨%farg12, Harg12⟩, ⟨%farg13, Harg13⟩, ⟨%farg14, Harg14⟩, ⟨%farg15, Harg15⟩⟩, Hk⟩
  by_cases hs : (i 1).val = 0
  · have hb : ¬ k0_cond3 i = 1#1 := not_last i (by omega)
    haveI := Fact.mk hs
    sl_exec_parts (disch := exact hb)
    sl_step
    iapply Hk
    isplitl [Harg2]; · iexists _; iexact Harg2
    isplitl [Harg3]; · iexists _; iexact Harg3
    isplitl [Harg4]; · iexists _; iexact Harg4
    isplitl [Harg5]; · iexists _; iexact Harg5
    isplitl [Harg6]; · iexists _; iexact Harg6
    isplitl [Harg7]; · iexists _; iexact Harg7
    isplitl [Harg8]; · iexists _; iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    isplitl [Harg14]; · iexists _; iexact Harg14
    iexists _; iexact Harg15
  · have hp : 0 < (i 1).val := Nat.pos_of_ne_zero hs
    haveI := Fact.mk hp
    by_cases hb : k0_cond3 i = 1#1
    · sl_exec_parts (disch := exact hb)
      sl_step
      iapply Hk
      isplitl [Harg2]; · iexists _; iexact Harg2
      isplitl [Harg3]; · iexists _; iexact Harg3
      isplitl [Harg4]; · iexists _; iexact Harg4
      isplitl [Harg5]; · iexists _; iexact Harg5
      isplitl [Harg6]; · iexists _; iexact Harg6
      isplitl [Harg7]; · iexists _; iexact Harg7
      isplitl [Harg8]; · iexists _; iexact Harg8
      isplitl [Harg9]; · iexists _; iexact Harg9
      isplitl [Harg10]; · iexists _; iexact Harg10
      isplitl [Harg11]; · iexists _; iexact Harg11
      isplitl [Harg12]; · iexists _; iexact Harg12
      isplitl [Harg13]; · iexists _; iexact Harg13
      isplitl [Harg14]; · iexists _; iexact Harg14
      iexists _; iexact Harg15
    · sl_exec_parts (disch := exact hb)
      sl_step
      iapply Hk
      isplitl [Harg2]; · iexists _; iexact Harg2
      isplitl [Harg3]; · iexists _; iexact Harg3
      isplitl [Harg4]; · iexists _; iexact Harg4
      isplitl [Harg5]; · iexists _; iexact Harg5
      isplitl [Harg6]; · iexists _; iexact Harg6
      isplitl [Harg7]; · iexists _; iexact Harg7
      isplitl [Harg8]; · iexists _; iexact Harg8
      isplitl [Harg9]; · iexists _; iexact Harg9
      isplitl [Harg10]; · iexists _; iexact Harg10
      isplitl [Harg11]; · iexists _; iexact Harg11
      isplitl [Harg12]; · iexists _; iexact Harg12
      isplitl [Harg13]; · iexists _; iexact Harg13
      isplitl [Harg14]; · iexists _; iexact Harg14
      iexists _; iexact Harg15

end Cert.Kernel7Ideal.Swa

end
-- ==== Proof.SwaFrame.lean ====
module

public import proofs.«01_k».proof.Proof.SwaRun
public import Idealize.ShloMosaic.Lib.Pipeline.Frame
public import Idealize.ShloMosaic.Lib.Pipeline.FrameBody
public import Idealize.ShloMosaic.Lib.Tactic

/-! # The windowed attention's gradient: its frame

Every fair run of the program ends without a fault, its arguments unchanged and every semaphore at zero.  The windows are over
converted copies of the arguments, so nothing need be said of what the body leaves in them: all eleven are forgotten. -/

@[expose] public section

noncomputable section

namespace Cert.Kernel7Ideal.Swa

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

open Idealize.ShloMosaic.Pipeline (Dat BodyObligation)

local notation "𝕄" => MT nD τ sig Unit (Elt F) ℕ (UR sig nD τ) ℕ

variable (m : (ℓ : Loc nD τ sig) → Buf (Elt F) ℓ) (ρ : Dev nD → PrngReg)

/-- The host operations before the call, in order. -/
abbrev opss : List (List (HloOp τ sig (Elt F))) := [hostOps0, hostOps0_1, hostOps0_2, hostOps0_3, hostOps0_4]

/-- Core `c`'s buffers when the call is entered. -/
abbrev V (c : Dev nD) (b : Ref sig .tc) : Buf (Elt F) ((c : Thread nD τ).loc b) := StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

theorem opss_fresh : (opss (F := F)).Forall fun ops => ops.Forall fun op => op.fresh = ∅ := by
  simp only [opss, List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every window is forgotten. -/
def forgets0 : Fin 11 → Bool := fun _ => true

/-- The proof data: arrays as the call finds them, the scratch buffers and the generator register at anything, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- A block's buffer, from the block held at some value. -/
theorem owns_pt (c : Dev nD) {s : Shape} {e : EltTy} (M : Memref sig .tc .vmem s e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists _; iexact H

/-- The block held at some value, from its buffer. -/
theorem pt_owns (c : Dev nD) {s : Shape} {e : EltTy} (M : Memref sig .tc .vmem s e) :
    iprop(∃ f, M.view.loc (c : Thread nD τ) ↦[M.view.set]{fullShare} f) ⊢ (iprop(∃ d, owns (c : Thread nD τ) M fullShare d) : sProp 𝕄) := by
  unfold owns
  iintro ⟨%f, H⟩
  iexists _, _; isplitr; swap; · iexact H
  ipureintro; rfl

/-- What the body is called with at point `t`: every window's block at some value. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d))
/-- What it returns. -/
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d))

theorem scr_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scr_eq]
  iintro ⟨⟨⟨S0, S1, S2⟩, Hg⟩, HO, H0, H1, H2, H3, H4, H5, H6, H7, H8, H9, H10⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) _)
  isplitl [H0 H1 H2 H3 H4 H5 H6 H7 H8 H9 H10 S0 S1 S2]
  · isplitl [H0]; · iapply (owns_pt c _); iexact H0
    isplitl [H1]; · iapply (owns_pt c _); iexact H1
    isplitl [H2]; · iapply (owns_pt c _); iexact H2
    isplitl [H3]; · iapply (owns_pt c _); iexact H3
    isplitl [H4]; · iapply (owns_pt c _); iexact H4
    isplitl [H5]; · iapply (owns_pt c _); iexact H5
    isplitl [H6]; · iapply (owns_pt c _); iexact H6
    isplitl [H7]; · iapply (owns_pt c _); iexact H7
    isplitl [H8]; · iapply (owns_pt c _); iexact H8
    isplitl [H9]; · iapply (owns_pt c _); iexact H9
    isplitl [H10]; · iapply (owns_pt c _); iexact H10
    isplitl [S0]; · iapply (owns_pt c _); iexact S0
    isplitl [S1]; · iapply (owns_pt c _); iexact S1
    iapply (owns_pt c _); iexact S2
  · iintro ⟨H0, H1, H2, H3, H4, H5, H6, H7, H8, H9, H10, S0, S1, S2⟩
    isplitl [S0 S1 S2 Hg]
    · isplitr [Hg]
      · isplitl [S0]; · iapply (pt_owns c _); iexact S0
        isplitl [S1]; · iapply (pt_owns c _); iexact S1
        iapply (pt_owns c _); iexact S2
      · iexact Hg
    isplitl [HO]; · iexact HO
    isplitl [H0]; · iapply (pt_owns c _); iexact H0
    isplitl [H1]; · iapply (pt_owns c _); iexact H1
    isplitl [H2]; · iapply (pt_owns c _); iexact H2
    isplitl [H3]; · iapply (pt_owns c _); iexact H3
    isplitl [H4]; · iapply (pt_owns c _); iexact H4
    isplitl [H5]; · iapply (pt_owns c _); iexact H5
    isplitl [H6]; · iapply (pt_owns c _); iexact H6
    isplitl [H7]; · iapply (pt_owns c _); iexact H7
    isplitl [H8]; · iapply (pt_owns c _); iexact H8
    isplitl [H9]; · iapply (pt_owns c _); iexact H9
    iapply (pt_owns c _); iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair run ends, nothing outside the windows' arrays changed and every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)
    (hQ' := fun r h => h)

variable {m ρ}

theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem final_arg2 {r : PUnit × MemSt nD τ sig (Elt F)}
    (h : Pipeline.RDat.FramePost (cfgs 0) (fun c => (dats (F := F) m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem final_arg3 {r : PUnit × MemSt nD τ sig (Elt F)}
    (h : Pipeline.RDat.FramePost (cfgs 0) (fun c => (dats (F := F) m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame of the program at any values. -/
theorem frame_all (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun r h => ⟨fun c => ⟨final_arg0 h.1 c, final_arg1 h.1 c, final_arg2 h.1 c, final_arg3 h.1 c⟩, h.2⟩) (run_main m ρ)

end Cert.Kernel7Ideal.Swa

end
-- ==== Proof.SwaClaim.lean ====
/- The windowed attention's backward call: the frames of kernel and reference. -/
module

public import proofs.«01_k».proof.Defs
public import proofs.«01_k».proof.Proof.Gen.Kernel7
public import proofs.«01_k».proof.Proof.Gen.Kernel7Ideal
public import proofs.«01_k».proof.Proof.Gen.Reference7Ideal.Run
public import proofs.«01_k».proof.Proof.SwaFrame
public import Idealize.ShloMosaic.Lib.Quiescent
public import Idealize.ShloMosaic.Lib.Tactic

@[expose] public section

noncomputable section

namespace Cert.Proof

open Idealize.ShloMosaic Idealize.SL.Sem

theorem swa_ideal : Cert.quiescent_Kernel7Ideal (hKernel7Ideal := Cert.Kernel7Ideal.Gen.facts) :=
  fun m g _ => Cert.Kernel7Ideal.Swa.frame_all m g

/-- The printed program and its idealization have the same text, so the frame at machine values is the one proved at any. -/
theorem swa_kernel : Cert.quiescent_Kernel7 (hKernel7 := Cert.Kernel7.Gen.facts) := by
  have e : Cert.quiescent_Kernel7 (hKernel7 := Cert.Kernel7.Gen.facts)
      = ∀ (m : (ℓ : Loc Cert.Kernel7Ideal.nD Cert.Kernel7Ideal.τ Cert.Kernel7Ideal.sig) → Buf (Elt Bits) ℓ) (g : Dev Cert.Kernel7Ideal.nD → PrngReg), Cert.Pre_Kernel7 m →
        θ_run (Cert.Kernel7Ideal.defs (F := Bits)) (onTc (τ := Cert.Kernel7Ideal.τ) (Cert.Kernel7Ideal.main (F := Bits))) ⟨m, fun _ => 0, g⟩ (fun r =>
          (∀ c : Dev Cert.Kernel7Ideal.nD, r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
            ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
            ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
            ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
          ∧ r.2.sem = fun _ => 0) := by
    sl_kernel_rfl
  rw [e]
  exact fun m g _ => Cert.Kernel7Ideal.Swa.frame_all (F := Bits) m g

theorem swa_reference : Cert.quiescent_Reference7Ideal (hReference7Ideal := Cert.Reference7Ideal.Gen.facts) := by
  intro m g _
  exact (θ_run (Cert.Reference7Ideal.defs (F := Ideal)) _ _).mono (fun r h => ⟨fun c => (h c).2.2.2.2, sem_eq_zero_of_no_sems rfl _⟩) (Cert.Reference7Ideal.Value.run m g)

end Cert.Proof

end
-- ==== Proof.Inprojf.lean ====
/- The values of the input projection behind its norm. -/
module

public import proofs.«01_k».proof.Proof.Gen.Kernel8Ideal.Value
public import proofs.«01_k».proof.Proof.Gen.Reference8Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel8Ideal.Inprojf

open Cert.Rms Cert.Kernel8Ideal Cert.Kernel8Ideal.Gen Cert.Reference8Ideal.Read

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 1024) :
    iblk m c 0 t (ix2 i k) = m ((c : Thread nD τ).loc main_arg0) (ix2 (row t i) k) := by
  blk_ext! [iblk, V, idx t, row]

theorem stage1 (c : Dev nD) (k : Fin 1024) : V m c main_v0 (ix2 (0 : Fin 1) k) = m ((c : Thread nD τ).loc main_arg1) (ix1 k) := by
  simp only [V, hostOps0]
  after_results
  pointwise!

theorem rd1 (c : Dev nD) (t : Fin cfg0.N) (k : Fin 1024) :
    iblk m c 1 t (ix2 (0 : Fin 1) k) = m ((c : Thread nD τ).loc main_arg1) (ix1 k) := by
  refine Eq.trans ?_ (stage1 m c k)
  blk_ext! [iblk, idx t]

theorem stage2 (c : Dev nD) (j : Fin 4352) (k : Fin 1024) : V m c main_v2 (ix2 j k) = m ((c : Thread nD τ).loc main_arg2) (ix2 k j) := by
  simp only [V, hostOps0]
  after_results
  pointwise!

theorem rd2 (c : Dev nD) (t : Fin cfg0.N) (j : Fin 4352) (k : Fin 1024) :
    iblk m c 2 t (ix2 j k) = m ((c : Thread nD τ).loc main_arg2) (ix2 k j) := by
  refine Eq.trans ?_ (stage2 m c j k)
  blk_ext! [iblk, idx t]

/-- The normalised rows. -/
def h (c : Dev nD) (r : Fin 4096) (k : Fin 1024) : EReal :=
  HMul.hMul (α := EReal) (β := EReal) (γ := EReal) (HMul.hMul (α := EReal) (β := EReal) (γ := EReal) (m ((c : Thread nD τ).loc main_arg0) (ix2 r k)) (Ideal.rsqrt (ms fun k => m ((c : Thread nD τ).loc main_arg0) (ix2 r k)))) (m ((c : Thread nD τ).loc main_arg1) (ix1 k))

theorem h_point (c : Dev nD) (t : Fin cfg0.N) (i : Fin 512) (k : Fin 1024) :
    k0_pay1 (F := Ideal) (iblk m c 0 t) (iblk m c 1 t) (ix2 i k) = h m c (row t i) k := by
  pointwise! [k0_pay1]
  simp only [rd0, rd1, h, ms, zero_add]

theorem h_ref (c : Dev nD) (r : Fin 4096) (k : Fin 1024) : val_main_v12 (F := Ideal) (m ((c : Thread nD τ).loc main_arg0)) (m ((c : Thread nD τ).loc main_arg1)) (ix2 r k) = h m c r k := by
  pointwise! [h, ms, val_main_v0, val_main_cst, val_main_v1, val_main_v2, val_main_cst_0, val_main_v3, val_main_v4, val_main_cst_1, val_main_v5, val_main_v6, val_main_v7, val_main_v8, val_main_v9, val_main_v10, val_main_v11, val_main_v12]

theorem final3 (c : Dev nD) : (dats m 0 c).arrAt 3 (cfgs 0).N = val_main_v14 (F := Ideal) (m ((c : Thread nD τ).loc main_arg0)) (m ((c : Thread nD τ).loc main_arg1)) := by
  refine (dats m 0 c).arrAt_eq_of_covers 3 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v3_0).slice (win0_3.rect t)).emb (ix2 i j)) = ix2 (row t i) j := by
    blk_ext [idx t, row] <;> simp <;> omega
  rw [e, after0_3]
  frame_out
  exact (h_point m c t i j).trans (h_ref m c (row t i) j).symm

theorem final4 (c : Dev nD) : (dats m 0 c).arrAt 4 (cfgs 0).N = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨i, j, rfl⟩ : ∃ (i : Fin 512) (j : Fin 2304), y = ix2 i j := ⟨y 0, y 1, by ext a; fin_cases a <;> rfl⟩
  blk_simp
  have e : (((View.whole main_v3_1).slice (win0_4.rect t)).emb (ix2 i j)) = ix2 (row t i) j := by
    blk_ext [idx t, row] <;> simp <;> omega
  rw [e, after0_4]
  frame_out
  pointwise [k0_pay2, val_main_v16, val_main_v15, val_main_v13]
  simp only [h_point, h_ref, rd2]

theorem final5 (c : Dev nD) : (dats m 0 c).arrAt 5 (cfgs 0).N = val_main_v17 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨i, j, rfl⟩ : ∃ (i : Fin 512) (j : Fin 2048), y = ix2 i j := ⟨y 0, y 1, by ext a; fin_cases a <;> rfl⟩
  blk_simp
  have e : (((View.whole main_v3_2).slice (win0_5.rect t)).emb (ix2 i j)) = ix2 (row t i) j := by
    blk_ext [idx t, row] <;> simp <;> omega
  rw [e, after0_5]
  frame_out
  pointwise [k0_pay3, val_main_v17, val_main_v13]
  simp only [h_point, h_ref, rd2]

end Cert.Kernel8Ideal.Inprojf

end
-- ==== Proof.InprojfClaim.lean ====
/- The input projection's forward call: kernel and reference end with the same results. -/
module

public import proofs.«01_k».proof.Defs
public import proofs.«01_k».proof.Proof.Inprojf
public import Idealize.ShloMosaic.Lib.Quiescent

@[expose] public section

noncomputable section

namespace Cert.Proof

open Idealize.ShloMosaic Idealize.SL.Sem

theorem inprojf_reference : Cert.quiescent_Reference8Ideal (hReference8Ideal := Cert.Reference8Ideal.Gen.facts) := by
  intro m g _
  exact (θ_run (Cert.Reference8Ideal.defs (F := Ideal)) _ _).mono (fun r h => ⟨fun c => (h c).2.2.2, sem_eq_zero_of_no_sems rfl _⟩) (Cert.Reference8Ideal.Value.run m g)

theorem inprojf : Cert.algebraic_Kernel8Ideal_Reference8Ideal (hKernel8Ideal := Cert.Kernel8Ideal.Gen.facts) (hReference8Ideal := Cert.Reference8Ideal.Gen.facts) := by
  intro m g m' g' _ hag
  refine ⟨fun c => Cert.Reference8Ideal.Read.val_main_v14 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    fun c => Cert.Reference8Ideal.Read.val_main_v16 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => Cert.Reference8Ideal.Read.val_main_v17 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    (θ_run (Cert.Kernel8Ideal.defs (F := Ideal)) _ _).mono (fun r h c => ?_) (Cert.Kernel8Ideal.Value.run_blocks m g),
    (θ_run (Cert.Reference8Ideal.defs (F := Ideal)) _ _).mono (fun r h c => ?_) (Cert.Reference8Ideal.Value.run m' g')⟩
  · have h := h c
    exact ⟨h.1.trans (Cert.Kernel8Ideal.Inprojf.final3 m c), h.2.1.trans (Cert.Kernel8Ideal.Inprojf.final4 m c), h.2.2.1.trans (Cert.Kernel8Ideal.Inprojf.final5 m c), h.2.2.2⟩
  · have h := h c
    obtain ⟨e0, e1, e2⟩ := hag c
    exact ⟨h.1.trans ((Cert.Reference8Ideal.Read.val_main_v14_eq _ _ ).trans (by rw [e0, e1])),
      h.2.1.trans ((Cert.Reference8Ideal.Read.val_main_v16_eq _ _ _ ).trans (by rw [e0, e1, e2])),
      h.2.2.1.trans ((Cert.Reference8Ideal.Read.val_main_v17_eq _ _ _ ).trans (by rw [e0, e1, e2])), h.2.2.2⟩

end Cert.Proof

end
-- ==== Proof.Mixerf.lean ====
/- The values of the gated sum of the two branches. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel9Ideal.Mixerf

open Cert.Kernel9Ideal Cert.Kernel9Ideal.Gen Cert.Reference9Ideal.Read

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![0, 0, 0]
    ∧ win0_6.index t = ![0, 0]
    ∧ win0_7.index t = ![t.val, 0]
    ∧ win0_8.index t = ![t.val, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem stage0 (c : Dev nD) (r : Fin 4096) (k : Fin 512) : V m c main_v0 (ix2 r k) = m ((c : Thread nD τ).loc main_arg0) (ix2 r k) := by
  simp only [V, hostOps0]
  after_results
  pointwise!

theorem rd0 (c : Dev nD) (t : Fin cfg0.N) (i : Fin 512) (k : Fin 512) :
    iblk m c 0 t (ix2 i k) = m ((c : Thread nD τ).loc main_arg0) (ix2 (row t i) k) := by
  refine Eq.trans ?_ (stage0 m c (row t i) k)
  blk_ext! [iblk, idx t, row]

theorem stage1 (c : Dev nD) (r : Fin 4096) (k : Fin 512) : V m c main_v1 (ix2 r k) = m ((c : Thread nD τ).loc main_arg1) (ix2 r k) := by
  simp only [V, hostOps0]
  after_results
  pointwise!

theorem rd1 (c : Dev nD) (t : Fin cfg0.N) (i : Fin 512) (k : Fin 512) :
    iblk m c 1 t (ix2 i k) = m ((c : Thread nD τ).loc main_arg1) (ix2 (row t i) k) := by
  refine Eq.trans ?_ (stage1 m c (row t i) k)
  blk_ext! [iblk, idx t, row]

theorem rd2 (c : Dev nD) (t : Fin cfg0.N) (i : Fin 512) (k : Fin 2048) :
    iblk m c 2 t (ix2 i k) = m ((c : Thread nD τ).loc main_arg2) (ix2 (row t i) k) := by
  blk_ext! [iblk, V, idx t, row]

theorem rd3 (c : Dev nD) (t : Fin cfg0.N) (i : Fin 512) (k : Fin 1024) :
    iblk m c 3 t (ix2 i k) = m ((c : Thread nD τ).loc main_arg3) (ix2 (row t i) k) := by
  blk_ext! [iblk, V, idx t, row]

theorem stage4 (c : Dev nD) (a : Fin 4) (k : Fin 512) (b : Fin 256) (j : Fin 1024) (h : j.val = 256 * a.val + b) :
    V m c main_v4 (ix3 a k b) = m ((c : Thread nD τ).loc main_arg4) (ix2 k j) := by
  simp only [V, hostOps0]
  after_results
  pointwise!
  refine congrArg _ (funext fun d => Fin.ext ?_)
  fin_cases d <;> simp <;> omega

theorem rd4 (c : Dev nD) (t : Fin cfg0.N) (a : Fin 4) (k : Fin 512) (b : Fin 256) (j : Fin 1024) (h : j.val = 256 * a.val + b) :
    iblk m c 4 t (ix3 a k b) = m ((c : Thread nD τ).loc main_arg4) (ix2 k j) := by
  refine Eq.trans ?_ (stage4 m c a k b j h)
  blk_ext! [iblk, idx t]

theorem stage5 (c : Dev nD) (a : Fin 4) (k : Fin 512) (b : Fin 256) (j : Fin 1024) (h : j.val = 256 * a.val + b) :
    V m c main_v7 (ix3 a k b) = m ((c : Thread nD τ).loc main_arg5) (ix2 k j) := by
  simp only [V, hostOps0]
  after_results
  pointwise!
  refine congrArg _ (funext fun d => Fin.ext ?_)
  fin_cases d <;> simp <;> omega

theorem rd5 (c : Dev nD) (t : Fin cfg0.N) (a : Fin 4) (k : Fin 512) (b : Fin 256) (j : Fin 1024) (h : j.val = 256 * a.val + b) :
    iblk m c 5 t (ix3 a k b) = m ((c : Thread nD τ).loc main_arg5) (ix2 k j) := by
  refine Eq.trans ?_ (stage5 m c a k b j h)
  blk_ext! [iblk, idx t]

theorem stage6 (c : Dev nD) (k : Fin 1024) (j : Fin 1024) : V m c main_v8 (ix2 k j) = m ((c : Thread nD τ).loc main_arg6) (ix2 k j) := by
  simp only [V, hostOps0]
  after_results
  pointwise!

theorem rd6 (c : Dev nD) (t : Fin cfg0.N) (k : Fin 1024) (j : Fin 1024) :
    iblk m c 6 t (ix2 k j) = m ((c : Thread nD τ).loc main_arg6) (ix2 k j) := by
  refine Eq.trans ?_ (stage6 m c k j)
  blk_ext! [iblk, idx t]

/-- The first branch, back at full width. -/
def ya (c : Dev nD) (r : Fin 4096) (j : Fin 1024) : EReal := ∑ k : Fin 512, (HMul.hMul (α := EReal) (β := EReal) (γ := EReal) (m ((c : Thread nD τ).loc main_arg0) (ix2 r k)) (m ((c : Thread nD τ).loc main_arg4) (ix2 k j)))

/-- The second branch. -/
def yb (c : Dev nD) (r : Fin 4096) (j : Fin 1024) : EReal := ∑ k : Fin 512, (HMul.hMul (α := EReal) (β := EReal) (γ := EReal) (m ((c : Thread nD τ).loc main_arg1) (ix2 r k)) (m ((c : Thread nD τ).loc main_arg5) (ix2 k j)))

/-- A gate. -/
def sg (c : Dev nD) (r : Fin 4096) (j : Fin 2048) : EReal := Ideal.div 1 (1 + Ideal.exp (Neg.neg (α := EReal) (m ((c : Thread nD τ).loc main_arg2) (ix2 r j))))

/-- The gated sum. -/
def mg (c : Dev nD) (r : Fin 4096) (j : Fin 1024) : EReal := sg m c r ⟨j.val, by omega⟩ * ya m c r j + sg m c r ⟨1024 + j.val, by omega⟩ * yb m c r j

/-- The first branch of one block. -/
abbrev vya (c : Dev nD) (t : Fin cfg0.N) : FVec Ideal S512x1024 .f32 :=
  k0_pay8 (iblk m c 0 t) (iblk m c 1 t) (iblk m c 2 t) (iblk m c 3 t) (iblk m c 4 t) (iblk m c 5 t) (iblk m c 6 t)

theorem ya_point (c : Dev nD) (t : Fin cfg0.N) (i : Fin 512) (j : Fin 1024) : vya m c t (ix2 i j) = ya m c (row t i) j := by
  have h : ∀ (a : Fin 4) (b : Fin 256), j.val = 256 * a.val + b.val →
      (∑ k : Fin 512, HMul.hMul (α := EReal) (β := EReal) (γ := EReal) (iblk m c 0 t (ix2 i k)) (iblk m c 4 t (ix3 a k b))) = ya m c (row t i) j :=
    fun a b hj => Finset.sum_congr rfl fun k _ => by rw [rd0, rd4 m c t a k b j hj]
  pointwise [vya, k0_pay3, k0_pay8]
  by_cases h1 : j.val < 256
  · rw [dif_pos h1]
    exact h 0 ⟨j.val, h1⟩ (by simp)
  rw [dif_neg h1]
  by_cases h2 : j.val - 256 < 256
  · rw [dif_pos h2]
    exact h 1 ⟨j.val - 256, h2⟩ (by simp; omega)
  rw [dif_neg h2]
  by_cases h3 : j.val - 256 - 256 < 256
  · rw [dif_pos h3]
    exact h 2 ⟨j.val - 256 - 256, h3⟩ (by simp; omega)
  rw [dif_neg h3]
  exact h 3 ⟨j.val - 256 - 256 - 256, by omega⟩ (by simp; omega)

/-- The gated sum of one block. -/
abbrev vmg (c : Dev nD) (t : Fin cfg0.N) : FVec Ideal S512x1024 .bf16 :=
  k0_pay1 (vya m c t)
    (k0_pay9 (iblk m c 0 t) (iblk m c 1 t) (iblk m c 2 t) (iblk m c 3 t) (iblk m c 4 t) (iblk m c 5 t) (iblk m c 6 t))
    (k0_pay10 (iblk m c 0 t) (iblk m c 1 t) (iblk m c 2 t) (iblk m c 3 t) (iblk m c 4 t) (iblk m c 5 t) (iblk m c 6 t))
    (k0_pay11 (iblk m c 0 t) (iblk m c 1 t) (iblk m c 2 t) (iblk m c 3 t) (iblk m c 4 t) (iblk m c 5 t) (iblk m c 6 t))
    (k0_pay12 (iblk m c 0 t) (iblk m c 1 t) (iblk m c 2 t) (iblk m c 3 t) (iblk m c 4 t) (iblk m c 5 t) (iblk m c 6 t))
    (View.ld (iblk m c 5 t) r0_4) (View.ld (iblk m c 2 t) r0_5) (View.ld (iblk m c 2 t) r0_6)

theorem mg_point (c : Dev nD) (t : Fin cfg0.N) (i : Fin 512) (j : Fin 1024) : vmg m c t (ix2 i j) = mg m c (row t i) j := by
  have h : ∀ (a : Fin 4) (b : Fin 256), j.val = 256 * a.val + b.val →
      (∑ k : Fin 512, HMul.hMul (α := EReal) (β := EReal) (γ := EReal) (iblk m c 1 t (ix2 i k)) (iblk m c 5 t (ix3 a k b))) = yb m c (row t i) j :=
    fun a b hj => Finset.sum_congr rfl fun k _ => by rw [rd1, rd5 m c t a k b j hj]
  have hy := ya_point m c t i j
  pointwise [vmg, k0_pay1, k0_pay4, k0_pay5, k0_pay6, k0_pay7, k0_pay9, k0_pay10, k0_pay11, k0_pay12]
  simp only [zero_sub, rd2]
  refine congrArg₂ (fun a b : EReal => a + b) (congrArg₂ (fun a b : EReal => a * b) rfl hy) (congrArg₂ (fun a b : EReal => a * b) rfl ?_)
  by_cases h1 : j.val < 256
  · rw [dif_pos h1]
    exact h 0 ⟨j.val, h1⟩ (by simp)
  rw [dif_neg h1]
  by_cases h2 : j.val - 256 < 256
  · rw [dif_pos h2]
    exact h 1 ⟨j.val - 256, h2⟩ (by simp; omega)
  rw [dif_neg h2]
  by_cases h3 : j.val - 256 - 256 < 256
  · rw [dif_pos h3]
    exact h 2 ⟨j.val - 256 - 256, h3⟩ (by simp; omega)
  rw [dif_neg h3]
  exact h 3 ⟨j.val - 256 - 256 - 256, by omega⟩ (by simp; omega)

theorem ya_ref (c : Dev nD) (r : Fin 4096) (j : Fin 1024) : val_main_v0 (F := Ideal) (m ((c : Thread nD τ).loc main_arg0)) (m ((c : Thread nD τ).loc main_arg4)) (ix2 r j) = ya m c r j := by
  pointwise! [ya, val_main_v0]

theorem yb_ref (c : Dev nD) (r : Fin 4096) (j : Fin 1024) : val_main_v1 (F := Ideal) (m ((c : Thread nD τ).loc main_arg1)) (m ((c : Thread nD τ).loc main_arg5)) (ix2 r j) = yb m c r j := by
  pointwise! [yb, val_main_v1]

theorem mg_ref (c : Dev nD) (r : Fin 4096) (j : Fin 1024) : val_main_v18 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 r j) = mg m c r j := by
  pointwise [val_main_v2, val_main_v3, val_main_v4, val_main_cst, val_main_v5, val_main_v6, val_main_cst_0, val_main_v7, val_main_v8, val_main_v9, val_main_v10, val_main_v11, val_main_v12, val_main_cst_1, val_main_v13, val_main_v14, val_main_cst_2, val_main_v15, val_main_v16, val_main_v17, val_main_v18]
  simp only [ya_ref, yb_ref]
  rfl

theorem final7 (c : Dev nD) : (dats m 0 c).arrAt 7 (cfgs 0).N = val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 7 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v9_0).slice (win0_7.rect t)).emb (ix2 i j)) = ix2 (row t i) j := by
    blk_ext [idx t, row] <;> simp <;> omega
  rw [e, after0_7]
  frame_out
  exact (mg_point m c t i j).trans (mg_ref m c (row t i) j).symm

theorem final8 (c : Dev nD) : (dats m 0 c).arrAt 8 (cfgs 0).N = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v9_1).slice (win0_8.rect t)).emb (ix2 i j)) = ix2 (row t i) j := by
    blk_ext [idx t, row] <;> simp <;> omega
  rw [e, after0_8]
  frame_out
  have hm : ∀ j, _ = mg m c (row t i) j := mg_point m c t i
  pointwise [k0_pay2, val_main_v21, val_main_v20]
  simp only [mg_ref, rd3, rd6]
  exact congrArg₂ (fun a b : EReal => a + b) rfl (Finset.sum_congr rfl fun k _ => congrArg₂ (fun a b : EReal => a * b) (hm k) rfl)

end Cert.Kernel9Ideal.Mixerf

end
-- ==== Proof.MixerfClaim.lean ====
/- The branch merge's forward call: kernel and reference end with the same results. -/
module

public import proofs.«01_k».proof.Defs
public import proofs.«01_k».proof.Proof.Mixerf
public import Idealize.ShloMosaic.Lib.Quiescent

@[expose] public section

noncomputable section

namespace Cert.Proof

open Idealize.ShloMosaic Idealize.SL.Sem

theorem mixerf_reference : Cert.quiescent_Reference9Ideal (hReference9Ideal := Cert.Reference9Ideal.Gen.facts) := by
  intro m g _
  exact (θ_run (Cert.Reference9Ideal.defs (F := Ideal)) _ _).mono (fun r h => ⟨fun c => (h c).2.2, sem_eq_zero_of_no_sems rfl _⟩) (Cert.Reference9Ideal.Value.run m g)

theorem mixerf : Cert.algebraic_Kernel9Ideal_Reference9Ideal (hKernel9Ideal := Cert.Kernel9Ideal.Gen.facts) (hReference9Ideal := Cert.Reference9Ideal.Gen.facts) := by
  intro m g m' g' _ hag
  refine ⟨fun c => Cert.Reference9Ideal.Read.val_main_v19 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)),
    fun c => Cert.Reference9Ideal.Read.val_main_v21 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)),
    (θ_run (Cert.Kernel9Ideal.defs (F := Ideal)) _ _).mono (fun r h c => ?_) (Cert.Kernel9Ideal.Value.run_blocks m g),
    (θ_run (Cert.Reference9Ideal.defs (F := Ideal)) _ _).mono (fun r h c => ?_) (Cert.Reference9Ideal.Value.run m' g')⟩
  · have h := h c
    exact ⟨h.1.trans (Cert.Kernel9Ideal.Mixerf.final7 m c), h.2.1.trans (Cert.Kernel9Ideal.Mixerf.final8 m c), h.2.2⟩
  · have h := h c
    obtain ⟨e0, e1, e2, e3, e4, e5, e6⟩ := hag c
    exact ⟨h.1.trans ((Cert.Reference9Ideal.Read.val_main_v19_eq _ _ _ _ _ ).trans (by rw [e0, e1, e2, e4, e5])),
      h.2.1.trans ((Cert.Reference9Ideal.Read.val_main_v21_eq _ _ _ _ _ _ _ ).trans (by rw [e0, e1, e2, e3, e4, e5, e6])), h.2.2⟩

end Cert.Proof

end
-- ==== Proof.Fff.lean ====
/- The values of the squared feed-forward behind its norm. -/
module

public import proofs.«01_k».proof.Proof.Gen.Kernel10Ideal.Value
public import proofs.«01_k».proof.Proof.Gen.Reference10Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel10Ideal.Fff

open Cert.Rms Cert.Kernel10Ideal Cert.Kernel10Ideal.Gen Cert.Reference10Ideal.Read

variable (m : (ℓ : Loc nD τ sig) → Buf (Elt Ideal) ℓ)

theorem idx : ∀ t : Fin cfg0.N, win0_0.index t = ![t.val, 0]
    ∧ win0_1.index t = ![0, 0]
    ∧ win0_2.index t = ![0, 0, 0]
    ∧ win0_3.index t = ![0, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `i` of block `t`. -/
def row (t : Fin cfg0.N) (i : Fin 256) : Fin 4096 := ⟨256 * t.val + i, by have := t.isLt; have h : cfg0.N = 16 := rfl; omega⟩

theorem rd0 (c : Dev nD) (t : Fin cfg0.N) (i : Fin 256) (k : Fin 1024) :
    iblk m c 0 t (ix2 i k) = m ((c : Thread nD τ).loc main_arg0) (ix2 (row t i) k) := by
  blk_ext! [iblk, V, idx t, row]

theorem stage1 (c : Dev nD) (k : Fin 1024) : V m c main_v0 (ix2 (0 : Fin 1) k) = m ((c : Thread nD τ).loc main_arg1) (ix1 k) := by
  simp only [V, hostOps0]
  after_results
  pointwise!

theorem rd1 (c : Dev nD) (t : Fin cfg0.N) (k : Fin 1024) :
    iblk m c 1 t (ix2 (0 : Fin 1) k) = m ((c : Thread nD τ).loc main_arg1) (ix1 k) := by
  refine Eq.trans ?_ (stage1 m c k)
  blk_ext! [iblk, idx t]

theorem stage2 (c : Dev nD) (a : Fin 4) (k : Fin 1024) (b : Fin 1024) (j : Fin 4096) (h : j.val = 1024 * a.val + b) :
    V m c main_v3 (ix3 a k b) = m ((c : Thread nD τ).loc main_arg2) (ix2 k j) := by
  simp only [V, hostOps0]
  after_results
  pointwise!
  refine congrArg _ (funext fun d => Fin.ext ?_)
  fin_cases d <;> simp <;> omega

theorem rd2 (c : Dev nD) (t : Fin cfg0.N) (a : Fin 4) (k : Fin 1024) (b : Fin 1024) (j : Fin 4096) (h : j.val = 1024 * a.val + b) :
    iblk m c 2 t (ix3 a k b) = m ((c : Thread nD τ).loc main_arg2) (ix2 k j) := by
  refine Eq.trans ?_ (stage2 m c a k b j h)
  blk_ext! [iblk, idx t]

theorem stage3 (c : Dev nD) (k : Fin 4096) (j : Fin 1024) : V m c main_v4 (ix2 k j) = m ((c : Thread nD τ).loc main_arg3) (ix2 k j) := by
  simp only [V, hostOps0]
  after_results
  pointwise!

theorem rd3 (c : Dev nD) (t : Fin cfg0.N) (k : Fin 4096) (j : Fin 1024) :
    iblk m c 3 t (ix2 k j) = m ((c : Thread nD τ).loc main_arg3) (ix2 k j) := by
  refine Eq.trans ?_ (stage3 m c k j)
  blk_ext! [iblk, idx t]

/-- The normalised rows. -/
def h (c : Dev nD) (r : Fin 4096) (k : Fin 1024) : EReal :=
  (HMul.hMul (α := EReal) (β := EReal) (γ := EReal) (HMul.hMul (α := EReal) (β := EReal) (γ := EReal) (m ((c : Thread nD τ).loc main_arg0) (ix2 r k)) (Ideal.rsqrt (ms fun k => m ((c : Thread nD τ).loc main_arg0) (ix2 r k)))) (m ((c : Thread nD τ).loc main_arg1) (ix1 k)))

/-- The rectified inner product. -/
def r (c : Dev nD) (a : Fin 4096) (j : Fin 4096) : EReal := max (∑ k : Fin 1024, (HMul.hMul (α := EReal) (β := EReal) (γ := EReal) (h m c a k) (m ((c : Thread nD τ).loc main_arg2) (ix2 k j)))) 0

/-- The rectified rows of one block. -/
abbrev vr (c : Dev nD) (t : Fin cfg0.N) : FVec Ideal S256x4096 .f32 :=
  k0_pay6 (iblk m c 0 t) (iblk m c 1 t) (iblk m c 2 t) (iblk m c 3 t)

theorem h_point (c : Dev nD) (t : Fin cfg0.N) (i : Fin 256) (k : Fin 1024) :
    k0_pay4 (F := Ideal) (iblk m c 0 t) (iblk m c 1 t) (ix2 i k) = h m c (row t i) k := by
  pointwise! [k0_pay4]
  simp only [rd0, rd1, h, ms, zero_add]

theorem h_whole (c : Dev nD) (t : Fin cfg0.N) (i : Fin 256) (k : Fin 1024) :
    k0_pay4 (F := Ideal) (View.ld (iblk m c 0 t) r0_0) (View.ld (iblk m c 1 t) r0_1) (ix2 i k) = h m c (row t i) k := by
  pointwise! [k0_pay4]
  simp only [rd0, rd1, h, ms, zero_add]

theorem r_point (c : Dev nD) (t : Fin cfg0.N) (i : Fin 256) (j : Fin 4096) : vr m c t (ix2 i j) = r m c (row t i) j := by
  have h : ∀ (a : Fin 4) (b : Fin 1024), j.val = 1024 * a.val + b.val →
      (∑ k : Fin 1024, HMul.hMul (α := EReal) (β := EReal) (γ := EReal) (k0_pay4 (F := Ideal) (View.ld (iblk m c 0 t) r0_0) (View.ld (iblk m c 1 t) r0_1) (ix2 i k)) (iblk m c 2 t (ix3 a k b)))
        = ∑ k : Fin 1024, (HMul.hMul (α := EReal) (β := EReal) (γ := EReal) (h m c (row t i) k) (m ((c : Thread nD τ).loc main_arg2) (ix2 k j))) :=
    fun a b hj => Finset.sum_congr rfl fun k _ => by rw [h_whole, rd2 m c t a k b j hj]
  pointwise [vr, k0_pay5, k0_pay6]
  refine congrArg (fun x : EReal => max x 0) ?_
  by_cases h1 : j.val < 1024
  · rw [dif_pos h1]
    exact h 0 ⟨j.val, h1⟩ (by simp)
  rw [dif_neg h1]
  by_cases h2 : j.val - 1024 < 1024
  · rw [dif_pos h2]
    exact h 1 ⟨j.val - 1024, h2⟩ (by simp; omega)
  rw [dif_neg h2]
  by_cases h3 : j.val - 1024 - 1024 < 1024
  · rw [dif_pos h3]
    exact h 2 ⟨j.val - 1024 - 1024, h3⟩ (by simp; omega)
  rw [dif_neg h3]
  exact h 3 ⟨j.val - 1024 - 1024 - 1024, by omega⟩ (by simp; omega)

theorem h_ref (c : Dev nD) (a : Fin 4096) (k : Fin 1024) : val_main_v12 (F := Ideal) (m ((c : Thread nD τ).loc main_arg0)) (m ((c : Thread nD τ).loc main_arg1)) (ix2 a k) = h m c a k := by
  pointwise! [h, ms, val_main_v0, val_main_cst, val_main_v1, val_main_v2, val_main_cst_0, val_main_v3, val_main_v4, val_main_cst_1, val_main_v5, val_main_v6, val_main_v7, val_main_v8, val_main_v9, val_main_v10, val_main_v11, val_main_v12]

theorem r_ref (c : Dev nD) (a : Fin 4096) (j : Fin 4096) : val_main_v14 (F := Ideal) (m ((c : Thread nD τ).loc main_arg0)) (m ((c : Thread nD τ).loc main_arg1)) (m ((c : Thread nD τ).loc main_arg2)) (ix2 a j) = r m c a j := by
  pointwise [val_main_v13, val_main_call0_cst, val_main_call0_v0, val_main_v14]
  simp only [h_ref, r]

theorem final4 (c : Dev nD) : (dats m 0 c).arrAt 4 (cfgs 0).N = val_main_v16 (F := Ideal) (m ((c : Thread nD τ).loc main_arg0)) (m ((c : Thread nD τ).loc main_arg1)) := by
  refine (dats m 0 c).arrAt_eq_of_covers 4 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v5_0).slice (win0_4.rect t)).emb (ix2 i j)) = ix2 (row t i) j := by
    blk_ext [idx t, row] <;> simp <;> omega
  rw [e, after0_4]
  frame_out
  exact (h_point m c t i j).trans (h_ref m c (row t i) j).symm

theorem final5 (c : Dev nD) : (dats m 0 c).arrAt 5 (cfgs 0).N = val_main_v17 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨i, j, rfl⟩ : ∃ (i : Fin 256) (j : Fin 4096), y = ix2 i j := ⟨y 0, y 1, by ext a; fin_cases a <;> rfl⟩
  blk_simp
  have e : (((View.whole main_v5_1).slice (win0_5.rect t)).emb (ix2 i j)) = ix2 (row t i) j := by
    blk_ext [idx t, row] <;> simp <;> omega
  rw [e, after0_5]
  frame_out
  exact (r_point m c t i j).trans (r_ref m c (row t i) j).symm

theorem final6 (c : Dev nD) : (dats m 0 c).arrAt 6 (cfgs 0).N = val_main_v18 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨i, j, rfl⟩ : ∃ (i : Fin 256) (j : Fin 4096), y = ix2 i j := ⟨y 0, y 1, by ext a; fin_cases a <;> rfl⟩
  blk_simp
  have e : (((View.whole main_v5_2).slice (win0_6.rect t)).emb (ix2 i j)) = ix2 (row t i) j := by
    blk_ext [idx t, row] <;> simp <;> omega
  rw [e, after0_6]
  frame_out
  have hr := r_point m c t i j
  pointwise [k0_pay2, val_main_v18, val_main_v15]
  simp only [hr, r_ref]

theorem final7 (c : Dev nD) : (dats m 0 c).arrAt 7 (cfgs 0).N = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v5_3).slice (win0_7.rect t)).emb (ix2 i j)) = ix2 (row t i) j := by
    blk_ext [idx t, row] <;> simp <;> omega
  rw [e, after0_7]
  frame_out
  have hr : ∀ j, _ = r m c (row t i) j := r_point m c t i
  pointwise [k0_pay2, k0_pay3, val_main_v20, val_main_v19, val_main_v15]
  simp only [hr, r_ref, rd0, rd3]

end Cert.Kernel10Ideal.Fff

end
-- ==== Proof.FffClaim.lean ====
/- The feed-forward's forward call: kernel and reference end with the same results. -/
module

public import proofs.«01_k».proof.Defs
public import proofs.«01_k».proof.Proof.Fff
public import Idealize.ShloMosaic.Lib.Quiescent

@[expose] public section

noncomputable section

namespace Cert.Proof

open Idealize.ShloMosaic Idealize.SL.Sem

theorem fff_reference : Cert.quiescent_Reference10Ideal (hReference10Ideal := Cert.Reference10Ideal.Gen.facts) := by
  intro m g _
  exact (θ_run (Cert.Reference10Ideal.defs (F := Ideal)) _ _).mono (fun r h => ⟨fun c => (h c).2.2.2.2, sem_eq_zero_of_no_sems rfl _⟩) (Cert.Reference10Ideal.Value.run m g)

theorem fff : Cert.algebraic_Kernel10Ideal_Reference10Ideal (hKernel10Ideal := Cert.Kernel10Ideal.Gen.facts) (hReference10Ideal := Cert.Reference10Ideal.Gen.facts) := by
  intro m g m' g' _ hag
  refine ⟨fun c => Cert.Reference10Ideal.Read.val_main_v16 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    fun c => Cert.Reference10Ideal.Read.val_main_v17 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Reference10Ideal.Read.val_main_v18 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Reference10Ideal.Read.val_main_v20 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    (θ_run (Cert.Kernel10Ideal.defs (F := Ideal)) _ _).mono (fun r h c => ?_) (Cert.Kernel10Ideal.Value.run_blocks m g),
    (θ_run (Cert.Reference10Ideal.defs (F := Ideal)) _ _).mono (fun r h c => ?_) (Cert.Reference10Ideal.Value.run m' g')⟩
  · have h := h c
    exact ⟨h.1.trans (Cert.Kernel10Ideal.Fff.final4 m c), h.2.1.trans (Cert.Kernel10Ideal.Fff.final5 m c), h.2.2.1.trans (Cert.Kernel10Ideal.Fff.final6 m c), h.2.2.2.1.trans (Cert.Kernel10Ideal.Fff.final7 m c), h.2.2.2.2⟩
  · have h := h c
    obtain ⟨e0, e1, e2, e3⟩ := hag c
    exact ⟨h.1.trans ((Cert.Reference10Ideal.Read.val_main_v16_eq _ _ ).trans (by rw [e0, e1])),
      h.2.1.trans ((Cert.Reference10Ideal.Read.val_main_v17_eq _ _ _ ).trans (by rw [e0, e1, e2])),
      h.2.2.1.trans ((Cert.Reference10Ideal.Read.val_main_v18_eq _ _ _ ).trans (by rw [e0, e1, e2])),
      h.2.2.2.1.trans ((Cert.Reference10Ideal.Read.val_main_v20_eq _ _ _ _ ).trans (by rw [e0, e1, e2, e3])), h.2.2.2.2⟩

end Cert.Proof

end
-- ==== Proof.Plef.lean ====
/- The values of the gated embedding behind its norm. -/
module

public import proofs.«01_k».proof.Proof.Gen.Kernel11Ideal.Value
public import proofs.«01_k».proof.Proof.Gen.Reference11Ideal.Read
public import proofs.«01_k».proof.Proof.Rms
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel11Ideal.Plef

open Cert.Rms Cert.Kernel11Ideal Cert.Kernel11Ideal.Gen Cert.Reference11Ideal.Read

variable (m : (ℓ : Loc nD τ sig) → Buf (Elt Ideal) ℓ)

theorem idx : ∀ t : Fin cfg0.N, win0_0.index t = ![t.val, 0]
    ∧ win0_1.index t = ![t.val, 0]
    ∧ win0_2.index t = ![0, 0]
    ∧ win0_3.index t = ![0, 0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- Row `i` of block `t`. -/
def row (t : Fin cfg0.N) (i : Fin 512) : Fin 4096 := ⟨512 * t.val + i, by have := t.isLt; have h : cfg0.N = 8 := rfl; omega⟩

theorem rd0 (c : Dev nD) (t : Fin cfg0.N) (i : Fin 512) (k : Fin 256) :
    iblk m c 0 t (ix2 i k) = m ((c : Thread nD τ).loc main_arg0) (ix2 (row t i) k) := by
  blk_ext! [iblk, V, idx t, row]

theorem rd1 (c : Dev nD) (t : Fin cfg0.N) (i : Fin 512) (k : Fin 1024) :
    iblk m c 1 t (ix2 i k) = m ((c : Thread nD τ).loc main_arg1) (ix2 (row t i) k) := by
  blk_ext! [iblk, V, idx t, row]

theorem stage2 (c : Dev nD) (k : Fin 1024) : V m c main_v0 (ix2 (0 : Fin 1) k) = m ((c : Thread nD τ).loc main_arg2) (ix1 k) := by
  simp only [V, hostOps0]
  after_results
  pointwise!

theorem rd2 (c : Dev nD) (t : Fin cfg0.N) (k : Fin 1024) :
    iblk m c 2 t (ix2 (0 : Fin 1) k) = m ((c : Thread nD τ).loc main_arg2) (ix1 k) := by
  refine Eq.trans ?_ (stage2 m c k)
  blk_ext! [iblk, idx t]

theorem stage3 (c : Dev nD) (a : Fin 4) (k : Fin 256) (b : Fin 256) (j : Fin 1024) (h : j.val = 256 * a.val + b) :
    V m c main_v3 (ix3 a k b) = m ((c : Thread nD τ).loc main_arg3) (ix2 k j) := by
  simp only [V, hostOps0]
  after_results
  pointwise!
  refine congrArg _ (funext fun d => Fin.ext ?_)
  fin_cases d <;> simp <;> omega

theorem rd3 (c : Dev nD) (t : Fin cfg0.N) (a : Fin 4) (k : Fin 256) (b : Fin 256) (j : Fin 1024) (h : j.val = 256 * a.val + b) :
    iblk m c 3 t (ix3 a k b) = m ((c : Thread nD τ).loc main_arg3) (ix2 k j) := by
  refine Eq.trans ?_ (stage3 m c a k b j h)
  blk_ext! [iblk, idx t]

theorem stage4 (c : Dev nD) (k : Fin 1024) (j : Fin 1024) : V m c main_v4 (ix2 k j) = m ((c : Thread nD τ).loc main_arg4) (ix2 k j) := by
  simp only [V, hostOps0]
  after_results
  pointwise!

theorem rd4 (c : Dev nD) (t : Fin cfg0.N) (k : Fin 1024) (j : Fin 1024) :
    iblk m c 4 t (ix2 k j) = m ((c : Thread nD τ).loc main_arg4) (ix2 k j) := by
  refine Eq.trans ?_ (stage4 m c k j)
  blk_ext! [iblk, idx t]

/-- The normalised rows. -/
def h (c : Dev nD) (r : Fin 4096) (k : Fin 1024) : EReal :=
  (HMul.hMul (α := EReal) (β := EReal) (γ := EReal) (HMul.hMul (α := EReal) (β := EReal) (γ := EReal) (m ((c : Thread nD τ).loc main_arg1) (ix2 r k)) (Ideal.rsqrt (ms fun k => m ((c : Thread nD τ).loc main_arg1) (ix2 r k)))) (m ((c : Thread nD τ).loc main_arg2) (ix1 k)))

/-- The embedding. -/
def pe (c : Dev nD) (r : Fin 4096) (j : Fin 1024) : EReal := ∑ k : Fin 256, (HMul.hMul (α := EReal) (β := EReal) (γ := EReal) (m ((c : Thread nD τ).loc main_arg0) (ix2 r k)) (m ((c : Thread nD τ).loc main_arg3) (ix2 k j)))

/-- The gate before its sigmoid. -/
def gt (c : Dev nD) (r : Fin 4096) (j : Fin 1024) : EReal := ∑ k : Fin 1024, (HMul.hMul (α := EReal) (β := EReal) (γ := EReal) (h m c r k) (m ((c : Thread nD τ).loc main_arg4) (ix2 k j)))

/-- The embedding of one block. -/
abbrev vpe (c : Dev nD) (t : Fin cfg0.N) : FVec Ideal S512x1024 .f32 :=
  k0_pay7 (iblk m c 0 t) (iblk m c 1 t) (iblk m c 2 t) (iblk m c 3 t) (iblk m c 4 t)

/-- The normalised rows of one block. -/
abbrev vh (c : Dev nD) (t : Fin cfg0.N) : FVec Ideal S512x1024 .f32 :=
  k0_pay8 (iblk m c 0 t) (iblk m c 1 t) (iblk m c 2 t) (iblk m c 3 t) (iblk m c 4 t)

theorem pe_point (c : Dev nD) (t : Fin cfg0.N) (i : Fin 512) (j : Fin 1024) : vpe m c t (ix2 i j) = pe m c (row t i) j := by
  have h : ∀ (a : Fin 4) (b : Fin 256), j.val = 256 * a.val + b.val →
      (∑ k : Fin 256, HMul.hMul (α := EReal) (β := EReal) (γ := EReal) (iblk m c 0 t (ix2 i k)) (iblk m c 3 t (ix3 a k b))) = pe m c (row t i) j :=
    fun a b hj => Finset.sum_congr rfl fun k _ => by rw [rd0, rd3 m c t a k b j hj]
  pointwise [vpe, k0_pay4, k0_pay5, k0_pay7]
  by_cases h1 : j.val < 256
  · rw [dif_pos h1]
    exact h 0 ⟨j.val, h1⟩ (by simp)
  rw [dif_neg h1]
  by_cases h2 : j.val - 256 < 256
  · rw [dif_pos h2]
    exact h 1 ⟨j.val - 256, h2⟩ (by simp; omega)
  rw [dif_neg h2]
  by_cases h3 : j.val - 256 - 256 < 256
  · rw [dif_pos h3]
    exact h 2 ⟨j.val - 256 - 256, h3⟩ (by simp; omega)
  rw [dif_neg h3]
  exact h 3 ⟨j.val - 256 - 256 - 256, by omega⟩ (by simp; omega)

theorem h_point (c : Dev nD) (t : Fin cfg0.N) (i : Fin 512) (k : Fin 1024) : vh m c t (ix2 i k) = h m c (row t i) k := by
  pointwise! [vh, k0_pay6, k0_pay8]
  simp only [rd1, rd2, h, ms, zero_add]

theorem gt_point (c : Dev nD) (t : Fin cfg0.N) (i : Fin 512) (j : Fin 1024) : k0_pay2 (vh m c t) (iblk m c 4 t) (ix2 i j) = gt m c (row t i) j := by
  have hh : ∀ k, _ = h m c (row t i) k := h_point m c t i
  pointwise [k0_pay1, k0_pay2]
  simp only [hh, rd4, gt]

theorem h_ref (c : Dev nD) (r : Fin 4096) (k : Fin 1024) : val_main_v13 (F := Ideal) (m ((c : Thread nD τ).loc main_arg1)) (m ((c : Thread nD τ).loc main_arg2)) (ix2 r k) = h m c r k := by
  pointwise! [h, ms, val_main_v1, val_main_cst, val_main_v2, val_main_v3, val_main_cst_0, val_main_v4, val_main_v5, val_main_cst_1, val_main_v6, val_main_v7, val_main_v8, val_main_v9, val_main_v10, val_main_v11, val_main_v12, val_main_v13]

theorem gt_ref (c : Dev nD) (r : Fin 4096) (j : Fin 1024) : val_main_v14 (F := Ideal) (m ((c : Thread nD τ).loc main_arg1)) (m ((c : Thread nD τ).loc main_arg2)) (m ((c : Thread nD τ).loc main_arg4)) (ix2 r j) = gt m c r j := by
  pointwise [val_main_v14]
  simp only [h_ref, gt]

theorem pe_ref (c : Dev nD) (r : Fin 4096) (j : Fin 1024) : val_main_v0 (F := Ideal) (m ((c : Thread nD τ).loc main_arg0)) (m ((c : Thread nD τ).loc main_arg3)) (ix2 r j) = pe m c r j := by
  pointwise! [pe, val_main_v0]

theorem final5 (c : Dev nD) : (dats m 0 c).arrAt 5 (cfgs 0).N = val_main_v15 (F := Ideal) (m ((c : Thread nD τ).loc main_arg0)) := by
  refine (dats m 0 c).arrAt_eq_of_covers 5 _ (by decide +kernel) fun t hf y => ?_
  obtain ⟨i, j, rfl⟩ : ∃ (i : Fin 512) (j : Fin 256), y = ix2 i j := ⟨y 0, y 1, by ext a; fin_cases a <;> rfl⟩
  blk_simp
  have e : (((View.whole main_v5_0).slice (win0_5.rect t)).emb (ix2 i j)) = ix2 (row t i) j := by
    blk_ext [idx t, row] <;> simp <;> omega
  rw [e, after0_5]
  frame_out
  exact rd0 m c t i j

theorem final6 (c : Dev nD) : (dats m 0 c).arrAt 6 (cfgs 0).N = val_main_v16 (F := Ideal) (m ((c : Thread nD τ).loc main_arg1)) (m ((c : Thread nD τ).loc main_arg2)) := by
  refine (dats m 0 c).arrAt_eq_of_covers 6 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v5_1).slice (win0_6.rect t)).emb (ix2 i j)) = ix2 (row t i) j := by
    blk_ext [idx t, row] <;> simp <;> omega
  rw [e, after0_6]
  frame_out
  exact (h_point m c t i j).trans (h_ref m c (row t i) j).symm

theorem final7 (c : Dev nD) : (dats m 0 c).arrAt 7 (cfgs 0).N = val_main_v0 (F := Ideal) (m ((c : Thread nD τ).loc main_arg0)) (m ((c : Thread nD τ).loc main_arg3)) := by
  refine (dats m 0 c).arrAt_eq_of_covers 7 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v5_2).slice (win0_7.rect t)).emb (ix2 i j)) = ix2 (row t i) j := by
    blk_ext [idx t, row] <;> simp <;> omega
  rw [e, after0_7]
  frame_out
  exact (pe_point m c t i j).trans (pe_ref m c (row t i) j).symm

theorem final8 (c : Dev nD) : (dats m 0 c).arrAt 8 (cfgs 0).N = val_main_v14 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v5_3).slice (win0_8.rect t)).emb (ix2 i j)) = ix2 (row t i) j := by
    blk_ext [idx t, row] <;> simp <;> omega
  rw [e, after0_8]
  frame_out
  exact (gt_point m c t i j).trans (gt_ref m c (row t i) j).symm

theorem final9 (c : Dev nD) : (dats m 0 c).arrAt 9 (cfgs 0).N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  obtain ⟨i, j, rfl⟩ : ∃ (i : Fin 512) (j : Fin 1024), y = ix2 i j := ⟨y 0, y 1, by ext a; fin_cases a <;> rfl⟩
  blk_simp
  have e : (((View.whole main_v5_4).slice (win0_9.rect t)).emb (ix2 i j)) = ix2 (row t i) j := by
    blk_ext [idx t, row] <;> simp <;> omega
  rw [e, after0_9]
  frame_out
  have hp := pe_point m c t i j
  have hg := gt_point m c t i j
  pointwise [k0_pay3, val_main_v17, val_main_v18, val_main_cst_2, val_main_v19, val_main_v20, val_main_cst_3, val_main_v21, val_main_v22, val_main_v23, val_main_v24]
  simp only [zero_sub, hp, hg, pe_ref, gt_ref, rd1]

end Cert.Kernel11Ideal.Plef

end
-- ==== Proof.PlefClaim.lean ====
/- The gated embedding's forward call: kernel and reference end with the same results. -/
module

public import proofs.«01_k».proof.Defs
public import proofs.«01_k».proof.Proof.Plef
public import Idealize.ShloMosaic.Lib.Quiescent

@[expose] public section

noncomputable section

namespace Cert.Proof

open Idealize.ShloMosaic Idealize.SL.Sem

theorem plef_reference : Cert.quiescent_Reference11Ideal (hReference11Ideal := Cert.Reference11Ideal.Gen.facts) := by
  intro m g _
  exact (θ_run (Cert.Reference11Ideal.defs (F := Ideal)) _ _).mono (fun r h => ⟨fun c => (h c).2.2.2.2.2, sem_eq_zero_of_no_sems rfl _⟩) (Cert.Reference11Ideal.Value.run m g)

theorem plef : Cert.algebraic_Kernel11Ideal_Reference11Ideal (hKernel11Ideal := Cert.Kernel11Ideal.Gen.facts) (hReference11Ideal := Cert.Reference11Ideal.Gen.facts) := by
  intro m g m' g' _ hag
  refine ⟨fun c => Cert.Reference11Ideal.Read.val_main_v15 (F := Ideal) (m ((c.tc : Thread Cert.Kernel11Ideal.nD Cert.Kernel11Ideal.τ).loc Cert.Kernel11Ideal.main_arg0)),
    fun c => Cert.Reference11Ideal.Read.val_main_v16 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    fun c => Cert.Reference11Ideal.Read.val_main_v0 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg3)),
    fun c => Cert.Reference11Ideal.Read.val_main_v14 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg4)),
    fun c => Cert.Reference11Ideal.Read.val_main_v24 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    (θ_run (Cert.Kernel11Ideal.defs (F := Ideal)) _ _).mono (fun r h c => ?_) (Cert.Kernel11Ideal.Value.run_blocks m g),
    (θ_run (Cert.Reference11Ideal.defs (F := Ideal)) _ _).mono (fun r h c => ?_) (Cert.Reference11Ideal.Value.run m' g')⟩
  · have h := h c
    exact ⟨h.1.trans (Cert.Kernel11Ideal.Plef.final5 m c), h.2.1.trans (Cert.Kernel11Ideal.Plef.final6 m c), h.2.2.1.trans (Cert.Kernel11Ideal.Plef.final7 m c), h.2.2.2.1.trans (Cert.Kernel11Ideal.Plef.final8 m c), h.2.2.2.2.1.trans (Cert.Kernel11Ideal.Plef.final9 m c), h.2.2.2.2.2⟩
  · have h := h c
    obtain ⟨e0, e1, e2, e3, e4⟩ := hag c
    exact ⟨h.1.trans ((Cert.Reference11Ideal.Read.val_main_v15_eq _ ).trans (by rw [e0])),
      h.2.1.trans ((Cert.Reference11Ideal.Read.val_main_v16_eq _ _ ).trans (by rw [e1, e2])),
      h.2.2.1.trans ((Cert.Reference11Ideal.Read.val_main_v0_eq _ _ ).trans (by rw [e0, e3])),
      h.2.2.2.1.trans ((Cert.Reference11Ideal.Read.val_main_v14_eq _ _ _ ).trans (by rw [e1, e2, e4])),
      h.2.2.2.2.1.trans ((Cert.Reference11Ideal.Read.val_main_v24_eq _ _ _ _ _ ).trans (by rw [e0, e1, e2, e3, e4])), h.2.2.2.2.2⟩

end Cert.Proof

end
-- ==== Proof.SwafClaim.lean ====
/- The windowed attention's forward call: the frame of the reference. -/
module

public import proofs.«01_k».proof.Defs
public import proofs.«01_k».proof.Proof.Gen.Reference12Ideal.Run
public import Idealize.ShloMosaic.Lib.Quiescent

@[expose] public section

noncomputable section

namespace Cert.Proof

open Idealize.ShloMosaic Idealize.SL.Sem

theorem swaf_reference : Cert.quiescent_Reference12Ideal (hReference12Ideal := Cert.Reference12Ideal.Gen.facts) := by
  intro m g _
  exact (θ_run (Cert.Reference12Ideal.defs (F := Ideal)) _ _).mono (fun r h => ⟨fun c => (h c).2.2, sem_eq_zero_of_no_sems rfl _⟩) (Cert.Reference12Ideal.Value.run m g)

end Cert.Proof

end
-- ==== Proof.Mm.lean ====
/- The plain product of a weight gradient, in four blocks of columns. -/
module

public import proofs.«01_k».proof.Proof.Gen.Kernel13Ideal.Value
public import proofs.«01_k».proof.Proof.Gen.Reference13Ideal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel13Ideal.Mm

open Cert.Kernel13Ideal Cert.Kernel13Ideal.Gen Cert.Reference13Ideal.Read

variable (m : (ℓ : Loc nD τ sig) → Buf (Elt Ideal) ℓ)

theorem idx : ∀ t : Fin cfg0.N, win0_0.index t = ![0, t.val % 2]
    ∧ win0_1.index t = ![0, t.val / 2]
    ∧ win0_2.index t = ![t.val / 2, t.val % 2, 0] :=
  (by decide +kernel : ∀ t : Fin grid0.N, _)

/-- The block of columns of point `t`. -/
def blk (t : Fin cfg0.N) : Fin 4 := ⟨t.val / 2, by have := t.isLt; have h : cfg0.N = 8 := rfl; omega⟩

/-- Row `i` of the result's tile at point `t`. -/
def row (t : Fin cfg0.N) (i : Fin 512) : Fin 1024 := ⟨512 * (t.val % 2) + i, by omega⟩

/-- Column `j` of the right factor's tile at point `t`. -/
def col (t : Fin cfg0.N) (j : Fin 1024) : Fin 4096 := ⟨1024 * (t.val / 2) + j, by have := t.isLt; have h : cfg0.N = 8 := rfl; omega⟩

theorem stage0 (c : Dev nD) (k : Fin 4096) (i : Fin 1024) : V m c main_v0 (ix2 k i) = m ((c : Thread nD τ).loc main_arg0) (ix2 k i) := by
  simp only [V, hostOps0]
  after_results
  pointwise!

theorem rd0 (c : Dev nD) (t : Fin cfg0.N) (k : Fin 4096) (i : Fin 512) :
    iblk m c 0 t (ix2 k i) = m ((c : Thread nD τ).loc main_arg0) (ix2 k (row t i)) := by
  refine Eq.trans ?_ (stage0 m c k (row t i))
  blk_ext! [iblk, idx t, row]

theorem stage1 (c : Dev nD) (k : Fin 4096) (j : Fin 4096) : V m c main_v1 (ix2 k j) = m ((c : Thread nD τ).loc main_arg1) (ix2 k j) := by
  simp only [V, hostOps0]
  after_results
  pointwise!

theorem rd1 (c : Dev nD) (t : Fin cfg0.N) (k : Fin 4096) (j : Fin 1024) :
    iblk m c 1 t (ix2 k j) = m ((c : Thread nD τ).loc main_arg1) (ix2 k (col t j)) := by
  refine Eq.trans ?_ (stage1 m c k (col t j))
  blk_ext! [iblk, idx t, col]

theorem final2 (c : Dev nD) : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t hf y => ?_
  obtain ⟨z, i, j, rfl⟩ : ∃ (z : Fin 1) (i : Fin 512) (j : Fin 1024), y = ix3 z i j := ⟨y 0, y 1, y 2, by ext a; fin_cases a <;> rfl⟩
  blk_simp
  have e : (((View.whole main_v2).slice (win0_2.rect t)).emb (ix3 z i j)) = ix3 (blk t) (row t i) j := by
    blk_ext [idx t, row, blk] <;> simp <;> omega
  rw [e, after0_2]
  frame_out
  pointwise [k0_pay1, val_main_v3, val_main_v2, val_main_v1, val_main_v0]
  simp only [rd0, rd1]
  have h : (⟨(blk t : ℕ) * 1024 + j, by have := (blk t).isLt; omega⟩ : Fin 4096) = col t j := Fin.ext (by simp only [blk, col]; omega)
  rw [h]

end Cert.Kernel13Ideal.Mm

end
-- ==== Proof.MmClaim.lean ====
/- The plain product of a weight gradient: kernel and reference end with the same result. -/
module

public import proofs.«01_k».proof.Defs
public import proofs.«01_k».proof.Proof.Mm
public import Idealize.ShloMosaic.Lib.Quiescent

@[expose] public section

noncomputable section

namespace Cert.Proof

open Idealize.ShloMosaic Idealize.SL.Sem

theorem mm_reference : Cert.quiescent_Reference13Ideal (hReference13Ideal := Cert.Reference13Ideal.Gen.facts) := by
  intro m g _
  exact (θ_run (Cert.Reference13Ideal.defs (F := Ideal)) _ _).mono (fun r h => ⟨fun c => (h c).2, sem_eq_zero_of_no_sems rfl _⟩) (Cert.Reference13Ideal.Value.run m g)

theorem mm : Cert.algebraic_Kernel13Ideal_Reference13Ideal (hKernel13Ideal := Cert.Kernel13Ideal.Gen.facts) (hReference13Ideal := Cert.Reference13Ideal.Gen.facts) := by
  intro m g m' g' _ hag
  refine ⟨fun c => Cert.Reference13Ideal.Read.val_main_v3 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run (Cert.Kernel13Ideal.defs (F := Ideal)) _ _).mono (fun r h c => ?_) (Cert.Kernel13Ideal.Value.run_blocks m g),
    (θ_run (Cert.Reference13Ideal.defs (F := Ideal)) _ _).mono (fun r h c => ?_) (Cert.Reference13Ideal.Value.run m' g')⟩
  · have h := h c
    exact ⟨h.1.trans (Cert.Kernel13Ideal.Mm.final2 m c), h.2⟩
  · have h := h c
    obtain ⟨e0, e1⟩ := hag c
    exact ⟨h.1.trans ((Cert.Reference13Ideal.Read.val_main_v3_eq _ _ ).trans (by rw [e0, e1])), h.2⟩

end Cert.Proof

end
-- ==== Proof.Mmp.lean ====
/- The product whose left factor comes in six pieces. -/
module

public import proofs.«01_k».proof.Proof.Gen.Kernel14Ideal.Value
public import proofs.«01_k».proof.Proof.Gen.Reference14Ideal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel14Ideal.Mmp

open Cert.Kernel14Ideal Cert.Kernel14Ideal.Gen Cert.Reference14Ideal.Read

variable (m : (ℓ : Loc nD τ sig) → Buf (Elt Ideal) ℓ)

theorem idx : ∀ t : Fin cfg0.N, win0_0.index t = ![0, min (t.val - 0) 1]
    ∧ win0_1.index t = ![0, min (t.val - 2) 1]
    ∧ win0_2.index t = ![0, min (t.val - 4) 1]
    ∧ win0_3.index t = ![0, min (t.val - 6) 1]
    ∧ win0_4.index t = ![0, min (t.val - 8) 0]
    ∧ win0_5.index t = ![0, min (t.val - 9) 7]
    ∧ win0_6.index t = ![0, 0] ∧ win0_7.index t = ![t.val, 0] :=
  (by decide +kernel : ∀ t : Fin grid0.N, _)

/-- Row `i` of the result's tile at point `t`. -/
def row (t : Fin cfg0.N) (i : Fin 256) : Fin 4352 := ⟨256 * t.val + i, by have := t.isLt; have h : cfg0.N = 17 := rfl; omega⟩

theorem stage0 (c : Dev nD) (k : Fin 4096) (i : Fin 512) : V m c main_v0 (ix2 k i) = m ((c : Thread nD τ).loc main_arg0) (ix2 k i) := by
  simp only [V, hostOps0]
  after_results
  pointwise!

theorem stage1 (c : Dev nD) (k : Fin 4096) (i : Fin 512) : V m c main_v1 (ix2 k i) = m ((c : Thread nD τ).loc main_arg1) (ix2 k i) := by
  simp only [V, hostOps0]
  after_results
  pointwise!

theorem stage2 (c : Dev nD) (k : Fin 4096) (i : Fin 512) : V m c main_v2 (ix2 k i) = m ((c : Thread nD τ).loc main_arg2) (ix2 k i) := by
  simp only [V, hostOps0]
  after_results
  pointwise!

theorem stage3 (c : Dev nD) (k : Fin 4096) (i : Fin 512) : V m c main_v3 (ix2 k i) = m ((c : Thread nD τ).loc main_arg3) (ix2 k i) := by
  simp only [V, hostOps0]
  after_results
  pointwise!

theorem stage4 (c : Dev nD) (k : Fin 4096) (i : Fin 256) : V m c main_v4 (ix2 k i) = m ((c : Thread nD τ).loc main_arg4) (ix2 k i) := by
  simp only [V, hostOps0]
  after_results
  pointwise!

theorem stage5 (c : Dev nD) (k : Fin 4096) (i : Fin 2048) : V m c main_v5 (ix2 k i) = m ((c : Thread nD τ).loc main_arg5) (ix2 k i) := by
  simp only [V, hostOps0]
  after_results
  pointwise!

theorem stage6 (c : Dev nD) (k : Fin 4096) (i : Fin 1024) : V m c main_v6 (ix2 k i) = m ((c : Thread nD τ).loc main_arg6) (ix2 k i) := by
  simp only [V, hostOps0]
  after_results
  pointwise!

theorem rd0 (c : Dev nD) (t : Fin cfg0.N) (h : t.val < 2) (k : Fin 4096) (i : Fin 256) :
    iblk m c 0 t (ix2 k i) = m ((c : Thread nD τ).loc main_arg0) (ix2 k ⟨256 * (t.val - 0) + i, by have := t.isLt; have h : cfg0.N = 17 := rfl; omega⟩) := by
  refine Eq.trans ?_ (stage0 m c k ⟨256 * (t.val - 0) + i, by have := t.isLt; have h : cfg0.N = 17 := rfl; omega⟩)
  have ht : t.val < 17 := t.isLt
  blk_ext [iblk, idx t] <;> simp <;> omega

theorem rd1 (c : Dev nD) (t : Fin cfg0.N) (h : 2 ≤ t.val ∧ t.val ≤ 3) (k : Fin 4096) (i : Fin 256) :
    iblk m c 1 t (ix2 k i) = m ((c : Thread nD τ).loc main_arg1) (ix2 k ⟨256 * (t.val - 2) + i, by have := t.isLt; have h : cfg0.N = 17 := rfl; omega⟩) := by
  refine Eq.trans ?_ (stage1 m c k ⟨256 * (t.val - 2) + i, by have := t.isLt; have h : cfg0.N = 17 := rfl; omega⟩)
  have ht : t.val < 17 := t.isLt
  blk_ext [iblk, idx t] <;> simp <;> omega

theorem rd2 (c : Dev nD) (t : Fin cfg0.N) (h : 4 ≤ t.val ∧ t.val ≤ 5) (k : Fin 4096) (i : Fin 256) :
    iblk m c 2 t (ix2 k i) = m ((c : Thread nD τ).loc main_arg2) (ix2 k ⟨256 * (t.val - 4) + i, by have := t.isLt; have h : cfg0.N = 17 := rfl; omega⟩) := by
  refine Eq.trans ?_ (stage2 m c k ⟨256 * (t.val - 4) + i, by have := t.isLt; have h : cfg0.N = 17 := rfl; omega⟩)
  have ht : t.val < 17 := t.isLt
  blk_ext [iblk, idx t] <;> simp <;> omega

theorem rd3 (c : Dev nD) (t : Fin cfg0.N) (h : 6 ≤ t.val ∧ t.val ≤ 7) (k : Fin 4096) (i : Fin 256) :
    iblk m c 3 t (ix2 k i) = m ((c : Thread nD τ).loc main_arg3) (ix2 k ⟨256 * (t.val - 6) + i, by have := t.isLt; have h : cfg0.N = 17 := rfl; omega⟩) := by
  refine Eq.trans ?_ (stage3 m c k ⟨256 * (t.val - 6) + i, by have := t.isLt; have h : cfg0.N = 17 := rfl; omega⟩)
  have ht : t.val < 17 := t.isLt
  blk_ext [iblk, idx t] <;> simp <;> omega

theorem rd4 (c : Dev nD) (t : Fin cfg0.N) (h : t.val = 8) (k : Fin 4096) (i : Fin 256) :
    iblk m c 4 t (ix2 k i) = m ((c : Thread nD τ).loc main_arg4) (ix2 k ⟨256 * (t.val - 8) + i, by have := t.isLt; have h : cfg0.N = 17 := rfl; omega⟩) := by
  refine Eq.trans ?_ (stage4 m c k ⟨256 * (t.val - 8) + i, by have := t.isLt; have h : cfg0.N = 17 := rfl; omega⟩)
  have ht : t.val < 17 := t.isLt
  blk_ext [iblk, idx t] <;> simp <;> omega

theorem rd5 (c : Dev nD) (t : Fin cfg0.N) (h : 9 ≤ t.val) (k : Fin 4096) (i : Fin 256) :
    iblk m c 5 t (ix2 k i) = m ((c : Thread nD τ).loc main_arg5) (ix2 k ⟨256 * (t.val - 9) + i, by have := t.isLt; have h : cfg0.N = 17 := rfl; omega⟩) := by
  refine Eq.trans ?_ (stage5 m c k ⟨256 * (t.val - 9) + i, by have := t.isLt; have h : cfg0.N = 17 := rfl; omega⟩)
  have ht : t.val < 17 := t.isLt
  blk_ext [iblk, idx t] <;> simp <;> omega

theorem rd6 (c : Dev nD) (t : Fin cfg0.N) (k : Fin 4096) (j : Fin 1024) :
    iblk m c 6 t (ix2 k j) = m ((c : Thread nD τ).loc main_arg6) (ix2 k j) := by
  refine Eq.trans ?_ (stage6 m c k j)
  blk_ext! [iblk, idx t]

section
variable (x0 x1 x2 x3 : (⟨S4096x512, .f32⟩ : BufTy).Contents (Elt Ideal)) (x4 : (⟨S4096x256, .f32⟩ : BufTy).Contents (Elt Ideal)) (x5 : (⟨S4096x2048, .f32⟩ : BufTy).Contents (Elt Ideal))

theorem cat0 (k : Fin 4096) (j : Fin 4352) (i : Fin 512) (h : j.val = 0 + i.val) :
    val_main_v0 (F := Ideal) x0 x1 x2 x3 x4 x5 (ix2 k j) = x0 (ix2 k i) := by
  pointwise [val_main_v0]
  rw [dif_pos (by omega)]
  exact congrArg x0 (congrArg (ix2 k) (Fin.ext (by simp only [h]; omega)))

theorem cat1 (k : Fin 4096) (j : Fin 4352) (i : Fin 512) (h : j.val = 512 + i.val) :
    val_main_v0 (F := Ideal) x0 x1 x2 x3 x4 x5 (ix2 k j) = x1 (ix2 k i) := by
  pointwise [val_main_v0]
  rw [dif_neg (by omega), dif_pos (by omega)]
  exact congrArg x1 (congrArg (ix2 k) (Fin.ext (by simp only [h]; omega)))

theorem cat2 (k : Fin 4096) (j : Fin 4352) (i : Fin 512) (h : j.val = 1024 + i.val) :
    val_main_v0 (F := Ideal) x0 x1 x2 x3 x4 x5 (ix2 k j) = x2 (ix2 k i) := by
  pointwise [val_main_v0]
  rw [dif_neg (by omega), dif_neg (by omega), dif_pos (by omega)]
  exact congrArg x2 (congrArg (ix2 k) (Fin.ext (by simp only [h]; omega)))

theorem cat3 (k : Fin 4096) (j : Fin 4352) (i : Fin 512) (h : j.val = 1536 + i.val) :
    val_main_v0 (F := Ideal) x0 x1 x2 x3 x4 x5 (ix2 k j) = x3 (ix2 k i) := by
  pointwise [val_main_v0]
  rw [dif_neg (by omega), dif_neg (by omega), dif_neg (by omega), dif_pos (by omega)]
  exact congrArg x3 (congrArg (ix2 k) (Fin.ext (by simp only [h]; omega)))

theorem cat4 (k : Fin 4096) (j : Fin 4352) (i : Fin 256) (h : j.val = 2048 + i.val) :
    val_main_v0 (F := Ideal) x0 x1 x2 x3 x4 x5 (ix2 k j) = x4 (ix2 k i) := by
  pointwise [val_main_v0]
  rw [dif_neg (by omega), dif_neg (by omega), dif_neg (by omega), dif_neg (by omega), dif_pos (by omega)]
  exact congrArg x4 (congrArg (ix2 k) (Fin.ext (by simp only [h]; omega)))

theorem cat5 (k : Fin 4096) (j : Fin 4352) (i : Fin 2048) (h : j.val = 2304 + i.val) :
    val_main_v0 (F := Ideal) x0 x1 x2 x3 x4 x5 (ix2 k j) = x5 (ix2 k i) := by
  pointwise [val_main_v0]
  rw [dif_neg (by omega), dif_neg (by omega), dif_neg (by omega), dif_neg (by omega), dif_neg (by omega)]
  exact congrArg x5 (congrArg (ix2 k) (Fin.ext (by simp only [h]; omega)))

end

theorem final7 (c : Dev nD) : (dats m 0 c).arrAt 7 (cfgs 0).N = val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨i, j, rfl⟩ : ∃ (i : Fin 256) (j : Fin 1024), y = ix2 i j := ⟨y 0, y 1, by ext a; fin_cases a <;> rfl⟩
  blk_simp
  have e : (((View.whole main_v7).slice (win0_7.rect t)).emb (ix2 i j)) = ix2 (row t i) j := by
    blk_ext [idx t, row] <;> simp <;> omega
  have ht : t.val < 17 := t.isLt
  have hN : t.val % 17 = t.val := Nat.mod_eq_of_lt ht
  rw [e, after0_7]
  rcases (by omega : (t.val < 2) ∨ (2 ≤ t.val ∧ t.val ≤ 3) ∨ (4 ≤ t.val ∧ t.val ≤ 5) ∨ (6 ≤ t.val ∧ t.val ≤ 7) ∨ (t.val = 8) ∨ (9 ≤ t.val)) with h | h | h | h | h | h
  · rw [outsAt0_A m c t (by omega) (by omega) (by omega) (by omega) (by omega) (by omega)]
    frame_out
    pointwise [k0_pay1, val_main_v2, val_main_v1]
    have hc := fun x0 x1 x2 x3 x4 x5 k => cat0 x0 x1 x2 x3 x4 x5 k (row t i) ⟨256 * (t.val - 0) + i, by omega⟩ (by simp only [row]; omega)
    simp only [rd0 m c t h, rd6, hc]
  · rw [outsAt0_B m c t (by omega) (by omega) (by omega) (by omega) (by omega) (by omega)]
    frame_out
    pointwise [k0_pay2, val_main_v2, val_main_v1]
    have hc := fun x0 x1 x2 x3 x4 x5 k => cat1 x0 x1 x2 x3 x4 x5 k (row t i) ⟨256 * (t.val - 2) + i, by omega⟩ (by simp only [row]; omega)
    simp only [rd1 m c t h, rd6, hc]
  · rw [outsAt0_C m c t (by omega) (by omega) (by omega) (by omega) (by omega) (by omega)]
    frame_out
    pointwise [k0_pay3, val_main_v2, val_main_v1]
    have hc := fun x0 x1 x2 x3 x4 x5 k => cat2 x0 x1 x2 x3 x4 x5 k (row t i) ⟨256 * (t.val - 4) + i, by omega⟩ (by simp only [row]; omega)
    simp only [rd2 m c t h, rd6, hc]
  · rw [outsAt0_D m c t (by omega) (by omega) (by omega) (by omega) (by omega) (by omega)]
    frame_out
    pointwise [k0_pay4, val_main_v2, val_main_v1]
    have hc := fun x0 x1 x2 x3 x4 x5 k => cat3 x0 x1 x2 x3 x4 x5 k (row t i) ⟨256 * (t.val - 6) + i, by omega⟩ (by simp only [row]; omega)
    simp only [rd3 m c t h, rd6, hc]
  · rw [outsAt0_E m c t (by omega) (by omega) (by omega) (by omega) (by omega) (by omega)]
    frame_out
    pointwise [k0_pay5, val_main_v2, val_main_v1]
    have hc := fun x0 x1 x2 x3 x4 x5 k => cat4 x0 x1 x2 x3 x4 x5 k (row t i) ⟨256 * (t.val - 8) + i, by omega⟩ (by simp only [row]; omega)
    simp only [rd4 m c t h, rd6, hc]
  · rw [outsAt0_F m c t (by omega) (by omega) (by omega) (by omega) (by omega) (by omega)]
    frame_out
    pointwise [k0_pay6, val_main_v2, val_main_v1]
    have hc := fun x0 x1 x2 x3 x4 x5 k => cat5 x0 x1 x2 x3 x4 x5 k (row t i) ⟨256 * (t.val - 9) + i, by omega⟩ (by simp only [row]; omega)
    simp only [rd5 m c t h, rd6, hc]

end Cert.Kernel14Ideal.Mmp

end
-- ==== Proof.MmpClaim.lean ====
/- The product whose left factor comes in six pieces: kernel and reference end with the same result. -/
module

public import proofs.«01_k».proof.Defs
public import proofs.«01_k».proof.Proof.Mmp
public import Idealize.ShloMosaic.Lib.Quiescent

@[expose] public section

noncomputable section

namespace Cert.Proof

open Idealize.ShloMosaic Idealize.SL.Sem

theorem mmp_reference : Cert.quiescent_Reference14Ideal (hReference14Ideal := Cert.Reference14Ideal.Gen.facts) := by
  intro m g _
  exact (θ_run (Cert.Reference14Ideal.defs (F := Ideal)) _ _).mono (fun r h => ⟨fun c => (h c).2, sem_eq_zero_of_no_sems rfl _⟩) (Cert.Reference14Ideal.Value.run m g)

theorem mmp : Cert.algebraic_Kernel14Ideal_Reference14Ideal (hKernel14Ideal := Cert.Kernel14Ideal.Gen.facts) (hReference14Ideal := Cert.Reference14Ideal.Gen.facts) := by
  intro m g m' g' _ hag
  refine ⟨fun c => Cert.Reference14Ideal.Read.val_main_v2 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)),
    (θ_run (Cert.Kernel14Ideal.defs (F := Ideal)) _ _).mono (fun r h c => ?_) (Cert.Kernel14Ideal.Value.run_blocks m g),
    (θ_run (Cert.Reference14Ideal.defs (F := Ideal)) _ _).mono (fun r h c => ?_) (Cert.Reference14Ideal.Value.run m' g')⟩
  · have h := h c
    exact ⟨h.1.trans (Cert.Kernel14Ideal.Mmp.final7 m c), h.2⟩
  · have h := h c
    obtain ⟨e0, e1, e2, e3, e4, e5, e6⟩ := hag c
    exact ⟨h.1.trans ((Cert.Reference14Ideal.Read.val_main_v2_eq _ _ _ _ _ _ _ ).trans (by rw [e0, e1, e2, e3, e4, e5, e6])), h.2⟩

end Cert.Proof

end
-- ==== Proof.Adam.lean ====
/- The values of the optimiser's update of one weight. -/
module

public import proofs.«01_k».proof.Proof.Gen.Kernel15Ideal.Value
public import proofs.«01_k».proof.Proof.Gen.Reference15Ideal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel15Ideal.Adam

open Cert.Kernel15Ideal Cert.Kernel15Ideal.Gen Cert.Reference15Ideal.Read

variable (m : (ℓ : Loc nD τ sig) → Buf (Elt Ideal) ℓ)

theorem idx : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![if t.val / 2 = 0 then t.val % 2 else 1, 0]
    ∧ win0_4.index t = ![if t.val / 2 = 1 then t.val % 2 else 0, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The layer of point `t`. -/
def lay (t : Fin cfg0.N) : Fin 2 := ⟨t.val / 2, by have := t.isLt; have h : cfg0.N = 4 := rfl; omega⟩

/-- Row `i` of the weight's block at point `t`. -/
def row (t : Fin cfg0.N) (i : Fin 512) : Fin 1024 := ⟨512 * (t.val % 2) + i, by omega⟩

theorem coord : ∀ t : Fin cfg0.N, (grid0.coords t 0).val = t.val / 2 := (by decide +kernel : ∀ t : Fin grid0.N, _)

theorem rd0 (c : Dev nD) (t : Fin cfg0.N) (z : Fin 1) (i : Fin 512) (j : Fin 1024) :
    iblk m c 0 t (ix3 z i j) = m ((c : Thread nD τ).loc main_arg0) (ix3 (lay t) (row t i) j) := by
  blk_ext! [iblk, V, idx t, row, lay]

theorem rd1 (c : Dev nD) (t : Fin cfg0.N) (z : Fin 1) (i : Fin 512) (j : Fin 1024) :
    iblk m c 1 t (ix3 z i j) = m ((c : Thread nD τ).loc main_arg1) (ix3 (lay t) (row t i) j) := by
  blk_ext! [iblk, V, idx t, row, lay]

theorem rd2 (c : Dev nD) (t : Fin cfg0.N) (z : Fin 1) (i : Fin 512) (j : Fin 1024) :
    iblk m c 2 t (ix3 z i j) = m ((c : Thread nD τ).loc main_arg2) (ix3 (lay t) (row t i) j) := by
  blk_ext! [iblk, V, idx t, row, lay]

theorem rd3 (c : Dev nD) (t : Fin cfg0.N) (h : t.val / 2 = 0) (i : Fin 512) (j : Fin 1024) :
    iblk m c 3 t (ix2 i j) = m ((c : Thread nD τ).loc main_arg3) (ix2 (row t i) j) := by
  blk_ext! [iblk, V, idx t, row, h] <;> rw [if_pos trivial] <;> omega

theorem rd4 (c : Dev nD) (t : Fin cfg0.N) (h : t.val / 2 = 1) (i : Fin 512) (j : Fin 1024) :
    iblk m c 4 t (ix2 i j) = m ((c : Thread nD τ).loc main_arg4) (ix2 (row t i) j) := by
  blk_ext! [iblk, V, idx t, row, h] <;> rw [if_pos trivial] <;> omega

/-- The gradients of both layers, one behind the other. -/
theorem grad_ref (x3 x4 : (⟨S1024x1024, .f32⟩ : BufTy).Contents (Elt Ideal)) (l : Fin 2) (i j : Fin 1024) :
    val_main_v2 (F := Ideal) x3 x4 (ix3 l i j) = if l.val = 0 then x3 (ix2 i j) else x4 (ix2 i j) := by
  fin_cases l <;> pointwise! [val_main_v2, val_main_v1, val_main_v0]

theorem grad (c : Dev nD) (t : Fin cfg0.N) (i : Fin 512) (j : Fin 1024) :
    k0_pay5 (F := Ideal) (grid0.coords t) (iblk m c 3 t) (iblk m c 4 t) (ix2 i j)
      = val_main_v2 (F := Ideal) (m ((c : Thread nD τ).loc main_arg3)) (m ((c : Thread nD τ).loc main_arg4)) (ix3 (lay t) (row t i) j) := by
  rw [grad_ref]
  have hl : (lay t).val = t.val / 2 := rfl
  have ht : t.val / 2 < 2 := (lay t).isLt
  rw [hl]
  by_cases h : t.val / 2 = 0
  · rw [if_pos h, ← rd3 m c t h i j]
    pointwise [k0_pay5, coord t, h]
  · have h1 : t.val / 2 = 1 := by omega
    rw [if_neg h, ← rd4 m c t h1 i j]
    pointwise [k0_pay5, coord t, h1]
    rfl

theorem final5 (c : Dev nD) : (dats m 0 c).arrAt 5 (cfgs 0).N = val_main_v2 (F := Ideal) (m ((c : Thread nD τ).loc main_arg3)) (m ((c : Thread nD τ).loc main_arg4)) := by
  refine (dats m 0 c).arrAt_eq_of_covers 5 _ (by decide +kernel) fun t hf y => ?_
  obtain ⟨z, i, j, rfl⟩ : ∃ (z : Fin 1) (i : Fin 512) (j : Fin 1024), y = ix3 z i j := ⟨y 0, y 1, y 2, by ext a; fin_cases a <;> rfl⟩
  blk_simp
  have e : (((View.whole main_v0_0).slice (win0_5.rect t)).emb (ix3 z i j)) = ix3 (lay t) (row t i) j := by
    blk_ext [idx t, row, lay] <;> simp <;> omega
  rw [e, after0_5]
  frame_out
  pointwise [k0_pay1]
  simp only [grad, rd0, rd1, rd2]

theorem final7 (c : Dev nD) : (dats m 0 c).arrAt 7 (cfgs 0).N = val_main_v7 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  obtain ⟨z, i, j, rfl⟩ : ∃ (z : Fin 1) (i : Fin 512) (j : Fin 1024), y = ix3 z i j := ⟨y 0, y 1, y 2, by ext a; fin_cases a <;> rfl⟩
  blk_simp
  have e : (((View.whole main_v0_2).slice (win0_7.rect t)).emb (ix3 z i j)) = ix3 (lay t) (row t i) j := by
    blk_ext [idx t, row, lay] <;> simp <;> omega
  rw [e, after0_7]
  frame_out
  pointwise [k0_pay3, k0_pay6, val_main_v7, val_main_v6, val_main_v5, val_main_cst_0, val_main_v4, val_main_v3, val_main_cst]
  simp only [grad, rd0, rd1, rd2]

theorem final8 (c : Dev nD) : (dats m 0 c).arrAt 8 (cfgs 0).N = val_main_v13 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  obtain ⟨z, i, j, rfl⟩ : ∃ (z : Fin 1) (i : Fin 512) (j : Fin 1024), y = ix3 z i j := ⟨y 0, y 1, y 2, by ext a; fin_cases a <;> rfl⟩
  blk_simp
  have e : (((View.whole main_v0_3).slice (win0_8.rect t)).emb (ix3 z i j)) = ix3 (lay t) (row t i) j := by
    blk_ext [idx t, row, lay] <;> simp <;> omega
  rw [e, after0_8]
  frame_out
  pointwise [k0_pay4, k0_pay7, val_main_v13, val_main_v12, val_main_v11, val_main_cst_2, val_main_v10, val_main_v9, val_main_v8, val_main_cst_1]
  simp only [grad, rd0, rd1, rd2]

theorem final6 (c : Dev nD) : (dats m 0 c).arrAt 6 (cfgs 0).N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨z, i, j, rfl⟩ : ∃ (z : Fin 1) (i : Fin 512) (j : Fin 1024), y = ix3 z i j := ⟨y 0, y 1, y 2, by ext a; fin_cases a <;> rfl⟩
  blk_simp
  have e : (((View.whole main_v0_1).slice (win0_6.rect t)).emb (ix3 z i j)) = ix3 (lay t) (row t i) j := by
    blk_ext [idx t, row, lay] <;> simp <;> omega
  rw [e, after0_6]
  frame_out
  pointwise [k0_pay2, k0_pay8, k0_pay7, k0_pay6, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7]
  simp only [grad, rd0, rd1, rd2]

end Cert.Kernel15Ideal.Adam

end
-- ==== Proof.AdamClaim.lean ====
/- The update of one weight by the optimiser: kernel and reference end with the same four results. -/
module

public import proofs.«01_k».proof.Defs
public import proofs.«01_k».proof.Proof.Adam
public import Idealize.ShloMosaic.Lib.Quiescent

@[expose] public section

noncomputable section

namespace Cert.Proof

open Idealize.ShloMosaic Idealize.SL.Sem

theorem adam_reference : Cert.quiescent_Reference15Ideal (hReference15Ideal := Cert.Reference15Ideal.Gen.facts) := by
  intro m g _
  exact (θ_run (Cert.Reference15Ideal.defs (F := Ideal)) _ _).mono (fun r h => ⟨fun c => (h c).2.2.2.2, sem_eq_zero_of_no_sems rfl _⟩) (Cert.Reference15Ideal.Value.run m g)

theorem adam : Cert.algebraic_Kernel15Ideal_Reference15Ideal (hKernel15Ideal := Cert.Kernel15Ideal.Gen.facts) (hReference15Ideal := Cert.Reference15Ideal.Gen.facts) := by
  intro m g m' g' _ hag
  refine ⟨fun c => Cert.Reference15Ideal.Read.val_main_v2 (F := Ideal) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v26 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v7 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v13 (F := Ideal) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    (θ_run (Cert.Kernel15Ideal.defs (F := Ideal)) _ _).mono (fun r h c => ?_) (Cert.Kernel15Ideal.Value.run_blocks m g),
    (θ_run (Cert.Reference15Ideal.defs (F := Ideal)) _ _).mono (fun r h c => ?_) (Cert.Reference15Ideal.Value.run m' g')⟩
  · have h := h c
    exact ⟨h.1.trans (Cert.Kernel15Ideal.Adam.final5 m c), h.2.1.trans (Cert.Kernel15Ideal.Adam.final6 m c), h.2.2.1.trans (Cert.Kernel15Ideal.Adam.final7 m c), h.2.2.2.1.trans (Cert.Kernel15Ideal.Adam.final8 m c), h.2.2.2.2⟩
  · have h := h c
    obtain ⟨e0, e1, e2, e3, e4⟩ := hag c
    exact ⟨h.1.trans ((Cert.Reference15Ideal.Read.val_main_v2_eq _ _ ).trans (by rw [e3, e4])),
      h.2.1.trans ((Cert.Reference15Ideal.Read.val_main_v26_eq _ _ _ _ _ ).trans (by rw [e0, e1, e2, e3, e4])),
      h.2.2.1.trans ((Cert.Reference15Ideal.Read.val_main_v7_eq _ _ _ ).trans (by rw [e1, e3, e4])),
      h.2.2.2.1.trans ((Cert.Reference15Ideal.Read.val_main_v13_eq _ _ _ ).trans (by rw [e2, e3, e4])), h.2.2.2.2⟩

end Cert.Proof

end
-- ==== Proof.SbfCount.lean ====
module

public import Idealize.ShloMosaic.Lib.Tactic

/-! # Stick-breaking attention, forward: the counter of a search

A grid point `(h, j)` runs one search per row block of 128, `2 j` and `2 j + 1`: a round reads the block `counter` before
its own and goes on while the counter is at most the block and the sticks left are not all used up.  So at every round the
counter is at most the block, whatever the buffers hold. -/

@[expose] public section

namespace Cert.Proof.Sbf

open Idealize.ShloMosaic

/-- The row block `2 j + b` of a grid point `(h, j)`. -/
abbrev blk (j : ℕ) (b : BitVec 32) : BitVec 32 :=
  Scalar.addi (Scalar.muli (BitVec.ofNat 32 j) 2#32) b

theorem blk_le (j : ℕ) (hj : j < 16) (b : BitVec 32) (hb : b.toNat ≤ 1) : (blk j b).toNat ≤ 31 := by
  simp only [Scalar.addi, Scalar.muli, IntOp.addi, IntOp.muli, BitVec.toNat_add, BitVec.toNat_mul, BitVec.toNat_ofNat]
  omega

/-- A round runs at a counter no larger than the block. -/
theorem le_of_test (j : ℕ) (hj : j < 16) (a b : BitVec 32) (hb : b.toNat ≤ 1) (ha : a.toNat ≤ 33) (x : BitVec 1)
    (h : Scalar.andi (Scalar.cmpi .sle a (blk j b)) x = 1#1) : a.toNat ≤ (blk j b).toNat := by
  have h2 := blk_le j hj b hb
  generalize blk j b = n at h h2 ⊢
  by_contra hn
  have e : Scalar.cmpi .sle a n = 0#1 := by
    have e1 := BitVec.toInt_eq_toNat_cond a
    have e2 := BitVec.toInt_eq_toNat_cond n
    have : BitVec.sle a n = false := by
      rw [BitVec.sle_eq_decide]
      simp only [decide_eq_false_iff_not]
      omega
    simp [Scalar.cmpi, IntOp.cmpi, this]
  rw [e] at h
  simp [Scalar.andi, IntOp.andi] at h

/-- The rows of the block `a` before block `n`. -/
theorem toNat_off (n a : BitVec 32) (h1 : a.toNat ≤ n.toNat) (h2 : n.toNat ≤ 31) :
    (Scalar.muli (Scalar.subi n a) 128#32).toNat = (n.toNat - a.toNat) * 128 := by
  simp only [Scalar.muli, Scalar.subi, IntOp.muli, IntOp.subi, BitVec.toNat_mul, BitVec.toNat_sub, BitVec.toNat_ofNat]
  omega

/-- They are whole blocks among the 4096 rows of the keys and values. -/
theorem rows (j : ℕ) (hj : j < 16) (a b : BitVec 32) (hb : b.toNat ≤ 1) (h : a.toNat ≤ (blk j b).toNat) :
    128 ∣ (Scalar.muli (Scalar.subi (blk j b) a) 128#32).toNat
      ∧ ∀ x : Fin 2, ![(Scalar.muli (Scalar.subi (blk j b) a) 128#32).toNat, 0] x + ![128, 128] x ≤ ![4096, 128] x := by
  have hl := blk_le j hj b hb
  rw [toNat_off _ a h hl]
  refine ⟨by omega, fun x => ?_⟩
  fin_cases x
  · show (_ - _) * 128 + 128 ≤ 4096; omega
  · show 0 + 128 ≤ 128; omega

/-- The counter a search starts at: 3 after the straight part, 0 without it. -/
theorem start (p : BitVec 1) : (Scalar.select p 3#32 0#32).toNat + (33 - (Scalar.select p 3#32 0#32).toNat) = 33 := by
  have : (Scalar.select p 3#32 0#32).toNat ≤ 3 := by
    unfold Scalar.select; split <;> simp
  omega

end Cert.Proof.Sbf

end
-- ==== Proof.SbfRun.lean ====
module

public import proofs.«01_k».proof.Proof.SbfCount
public import proofs.«01_k».proof.Proof.Gen.Kernel16Ideal.Launch
public import proofs.«01_k».proof.Proof.Gen.Kernel16Ideal.Points
public import proofs.«01_k».proof.Proof.Gen.Kernel16Ideal.Skeleton
public import Idealize.ShloMosaic.Lib.Pipeline.Frame
public import Idealize.ShloMosaic.Lib.Tactic

/-! # Stick-breaking attention, forward: one grid point runs

A search is a label that calls itself: it is met by induction on the rounds left, at most 33.  The rows it reads are in
range (`rows`).  From every block and scratch buffer at any contents the body of a grid point runs to its end and leaves them
at some contents.
The two printed programs, at machine values and at ideal ones, each declare records of their own for the searches, so this is
the run of the idealized program; the other has its own. -/

@[expose] public section

noncomputable section

namespace Cert.Kernel16Ideal.Sbf

open Cert.Proof.Sbf Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

theorem chk1 (i : grid0.Coords) (a : BitVec 32) (h : a.toNat ≤ (blk (i 1).val 0#32).toNat) : k0_chk1 i a :=
  rows _ (i 1).isLt a 0#32 (by decide) h

theorem chk2 (i : grid0.Coords) (a : BitVec 32) (h : a.toNat ≤ (blk (i 1).val 1#32).toNat) : k0_chk2 i a :=
  rows _ (i 1).isLt a 1#32 (by decide) h

/-- The blocks and scratch buffers a search reads and writes, each at some contents. -/
abbrev Held (c : Dev nD) (arg3 : Memref sig .tc .vmem S4096x128 .bf16) (arg4 : Memref sig .tc .vmem S4096x128 .bf16) (arg5 : Memref sig .tc .vmem S128x256 .bf16) (arg11 : Memref sig .tc .vmem S2x256x128 .f32) (arg12 : Memref sig .tc .vmem S2x256x128 .f32) : sProp 𝕄 :=
  iprop((∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg11.view.loc (c : Thread nD τ) ↦[arg11.view.set]{fullShare} f) ∗ (∃ f, arg12.view.loc (c : Thread nD τ) ↦[arg12.view.set]{fullShare} f))

/-- A search, for its caller: from those buffers it returns some counter and some bound, and leaves them. -/
def spec (c : Dev nD) (arg3 : Memref sig .tc .vmem S4096x128 .bf16) (arg4 : Memref sig .tc .vmem S4096x128 .bf16) (arg5 : Memref sig .tc .vmem S128x256 .bf16) (arg11 : Memref sig .tc .vmem S2x256x128 .f32) (arg12 : Memref sig .tc .vmem S2x256x128 .f32) : sWPT 𝕄 (BitVec 32 × F .f32) := do
  sWPT.consume (Held c arg3 arg4 arg5 arg11 arg12)
  let r ← sWPT.arbitrary
  sWPT.produce (Held c arg3 arg4 arg5 arg11 arg12)
  pure r

theorem spec_apply (c : Dev nD) (arg3 : Memref sig .tc .vmem S4096x128 .bf16) (arg4 : Memref sig .tc .vmem S4096x128 .bf16) (arg5 : Memref sig .tc .vmem S128x256 .bf16) (arg11 : Memref sig .tc .vmem S2x256x128 .f32) (arg12 : Memref sig .tc .vmem S2x256x128 .f32) (K : BitVec 32 × F .f32 → sProp 𝕄) :
    spec c arg3 arg4 arg5 arg11 arg12 K = iprop(Held c arg3 arg4 arg5 arg11 arg12 ∗ ∀ r : BitVec 32 × F .f32, (Held c arg3 arg4 arg5 arg11 arg12 -∗ K r)) := rfl

set_option maxHeartbeats 4000000 in
/-- The search of row block `2 j` meets it from any counter up to 33: a round lowers `33 - counter`, and reads a block at or before its own. -/
theorem spec_le1 (c : Dev nD) (i : grid0.Coords) (arg3 : Memref sig .tc .vmem S4096x128 .bf16) (harg3 : arg3.IsWhole) (arg4 : Memref sig .tc .vmem S4096x128 .bf16) (harg4 : arg4.IsWhole) (arg5 : Memref sig .tc .vmem S128x256 .bf16) (harg5 : arg5.IsWhole) (arg11 : Memref sig .tc .vmem S2x256x128 .f32) (harg11 : arg11.IsWhole) (arg12 : Memref sig .tc .vmem S2x256x128 .f32) (harg12 : arg12.IsWhole) (v8 : IVec S256x128 32) (v24 : FVec F S256x128 .bf16) (E : Set ℕ) :
    ∀ k (a : BitVec 32), a.toNat + k = 33 → ∀ (b : F .f32) K, spec c arg3 arg4 arg5 arg11 arg12 K
      ⊢ wp frame (wpE (defs₀ (F := F)) Variants.nat (c : Thread nD τ) (some k)) E
          (defs₀ (F := F) .tc 1 ⟨i, arg3, harg3, arg4, harg4, v8, v24, arg5, harg5, arg11, harg11, arg12, harg12, a, b⟩) K := by
  intro k
  induction k with
  | zero =>
    intro a ha b K
    rw [spec_apply]
    show _ ⊢ wp frame (wpE (defs₀ (F := F)) Variants.nat (c : Thread nD τ) (some 0)) E
      (cc0_while1 i arg3 harg3 arg4 harg4 v8 v24 arg5 harg5 arg11 harg11 arg12 harg12 a b) K
    unfold cc0_while1
    have htest : ¬ Scalar.andi (Scalar.cmpi .sle a (blk (i 1).val 0#32)) (Scalar.cmpf .ogt b (Scalar.ofBits .f32 0xC2D40000#32)) = 1#1 := fun h => by
      have := le_of_test _ (i 1).isLt a 0#32 (by decide) (by omega) _ h
      have := blk_le _ (i 1).isLt 0#32 (by decide)
      omega
    rw [if_neg htest]
    simp only [Prog.pure_eq_ret]
    iintro ⟨H, Hk⟩
    rw [wp_ret]; imodintro
    iapply Hk
    iexact H
  | succ k ih =>
    intro a ha b K
    rw [spec_apply]
    show _ ⊢ wp frame (wpE (defs₀ (F := F)) Variants.nat (c : Thread nD τ) (some (k + 1))) E
      (cc0_while1 i arg3 harg3 arg4 harg4 v8 v24 arg5 harg5 arg11 harg11 arg12 harg12 a b) K
    simp only [cc0_while1_eq_skeleton]; unfold cc0_while1_skel
    by_cases htest : Scalar.andi (Scalar.cmpi .sle a (blk (i 1).val 0#32)) (Scalar.cmpf .ogt b (Scalar.ofBits .f32 0xC2D40000#32)) = 1#1
    · have hle := le_of_test _ (i 1).isLt a 0#32 (by decide) (by omega) _ htest
      have hchk := chk1 i a hle
      have hs : (Scalar.addi a 1#32).toNat + k = 33 := by
        have : (Scalar.addi a 1#32).toNat = a.toNat + 1 := by
          simp only [Scalar.addi, IntOp.addi, BitVec.toNat_add, BitVec.toNat_ofNat]; omega
        omega
      dsimp only
      rw [if_pos htest]
      iintro ⟨⟨⟨%farg3, Harg3⟩, ⟨%farg4, Harg4⟩, ⟨%farg5, Harg5⟩, ⟨%farg11, Harg11⟩, ⟨%farg12, Harg12⟩⟩, Hk⟩
      sl_exec (disch := exact hchk)
      iapply (wp_call_spec Variants.nat (c : Thread nD τ) (some (k + 1)) E (spec c arg3 arg4 arg5 arg11 arg12) k
        (fun u hu => by cases hu; exact Nat.lt_succ_self k) (ih _ hs _))
      rw [spec_apply]
      isplitl [Harg3 Harg4 Harg5 Harg11 Harg12]
      · isplitl [Harg3]; · iexists _; iexact Harg3
        isplitl [Harg4]; · iexists _; iexact Harg4
        isplitl [Harg5]; · iexists _; iexact Harg5
        isplitl [Harg11]; · iexists _; iexact Harg11
        iexists _; iexact Harg12
      iintro %r H
      rw [wp_ret]; imodintro
      iapply Hk
      iexact H
    · dsimp only
      rw [if_neg htest]
      simp only [Prog.pure_eq_ret]
      iintro ⟨H, Hk⟩
      rw [wp_ret]; imodintro
      iapply Hk
      iexact H

set_option maxHeartbeats 4000000 in
/-- The search of row block `2 j + 1` meets it from any counter up to 33: a round lowers `33 - counter`, and reads a block at or before its own. -/
theorem spec_le2 (c : Dev nD) (i : grid0.Coords) (arg3 : Memref sig .tc .vmem S4096x128 .bf16) (harg3 : arg3.IsWhole) (arg4 : Memref sig .tc .vmem S4096x128 .bf16) (harg4 : arg4.IsWhole) (arg5 : Memref sig .tc .vmem S128x256 .bf16) (harg5 : arg5.IsWhole) (arg11 : Memref sig .tc .vmem S2x256x128 .f32) (harg11 : arg11.IsWhole) (arg12 : Memref sig .tc .vmem S2x256x128 .f32) (harg12 : arg12.IsWhole) (v8 : IVec S256x128 32) (v36 : FVec F S256x128 .bf16) (E : Set ℕ) :
    ∀ k (a : BitVec 32), a.toNat + k = 33 → ∀ (b : F .f32) K, spec c arg3 arg4 arg5 arg11 arg12 K
      ⊢ wp frame (wpE (defs₀ (F := F)) Variants.nat (c : Thread nD τ) (some k)) E
          (defs₀ (F := F) .tc 2 ⟨i, arg3, harg3, arg4, harg4, v8, v36, arg5, harg5, arg11, harg11, arg12, harg12, a, b⟩) K := by
  intro k
  induction k with
  | zero =>
    intro a ha b K
    rw [spec_apply]
    show _ ⊢ wp frame (wpE (defs₀ (F := F)) Variants.nat (c : Thread nD τ) (some 0)) E
      (cc0_while2 i arg3 harg3 arg4 harg4 v8 v36 arg5 harg5 arg11 harg11 arg12 harg12 a b) K
    unfold cc0_while2
    have htest : ¬ Scalar.andi (Scalar.cmpi .sle a (blk (i 1).val 1#32)) (Scalar.cmpf .ogt b (Scalar.ofBits .f32 0xC2D40000#32)) = 1#1 := fun h => by
      have := le_of_test _ (i 1).isLt a 1#32 (by decide) (by omega) _ h
      have := blk_le _ (i 1).isLt 1#32 (by decide)
      omega
    rw [if_neg htest]
    simp only [Prog.pure_eq_ret]
    iintro ⟨H, Hk⟩
    rw [wp_ret]; imodintro
    iapply Hk
    iexact H
  | succ k ih =>
    intro a ha b K
    rw [spec_apply]
    show _ ⊢ wp frame (wpE (defs₀ (F := F)) Variants.nat (c : Thread nD τ) (some (k + 1))) E
      (cc0_while2 i arg3 harg3 arg4 harg4 v8 v36 arg5 harg5 arg11 harg11 arg12 harg12 a b) K
    simp only [cc0_while2_eq_skeleton]; unfold cc0_while2_skel
    by_cases htest : Scalar.andi (Scalar.cmpi .sle a (blk (i 1).val 1#32)) (Scalar.cmpf .ogt b (Scalar.ofBits .f32 0xC2D40000#32)) = 1#1
    · have hle := le_of_test _ (i 1).isLt a 1#32 (by decide) (by omega) _ htest
      have hchk := chk2 i a hle
      have hs : (Scalar.addi a 1#32).toNat + k = 33 := by
        have : (Scalar.addi a 1#32).toNat = a.toNat + 1 := by
          simp only [Scalar.addi, IntOp.addi, BitVec.toNat_add, BitVec.toNat_ofNat]; omega
        omega
      dsimp only
      rw [if_pos htest]
      iintro ⟨⟨⟨%farg3, Harg3⟩, ⟨%farg4, Harg4⟩, ⟨%farg5, Harg5⟩, ⟨%farg11, Harg11⟩, ⟨%farg12, Harg12⟩⟩, Hk⟩
      sl_exec (disch := exact hchk)
      iapply (wp_call_spec Variants.nat (c : Thread nD τ) (some (k + 1)) E (spec c arg3 arg4 arg5 arg11 arg12) k
        (fun u hu => by cases hu; exact Nat.lt_succ_self k) (ih _ hs _))
      rw [spec_apply]
      isplitl [Harg3 Harg4 Harg5 Harg11 Harg12]
      · isplitl [Harg3]; · iexists _; iexact Harg3
        isplitl [Harg4]; · iexists _; iexact Harg4
        isplitl [Harg5]; · iexists _; iexact Harg5
        isplitl [Harg11]; · iexists _; iexact Harg11
        iexists _; iexact Harg12
      iintro %r H
      rw [wp_ret]; imodintro
      iapply Hk
      iexact H
    · dsimp only
      rw [if_neg htest]
      simp only [Prog.pure_eq_ret]
      iintro ⟨H, Hk⟩
      rw [wp_ret]; imodintro
      iapply Hk
      iexact H

/-- The blocks and scratch buffers of a grid point, each at some contents. -/
abbrev Res (c : Dev nD) (arg2 : Memref sig .tc .vmem S256x128 .bf16) (arg3 : Memref sig .tc .vmem S4096x128 .bf16) (arg4 : Memref sig .tc .vmem S4096x128 .bf16) (arg5 : Memref sig .tc .vmem S128x256 .bf16) (arg6 : Memref sig .tc .vmem S256x128 .bf16) (arg7 : Memref sig .tc .vmem S1x2x256x128 .f32) (arg8 : Memref sig .tc .vmem S1x2x8x128 .f32) (arg9 : Memref sig .tc .vmem S1x2x256x384 .bf16) (arg10 : Memref sig .tc .vmem S1x2x256x384 .bf16) (arg11 : Memref sig .tc .vmem S2x256x128 .f32) (arg12 : Memref sig .tc .vmem S2x256x128 .f32) : sProp 𝕄 :=
  iprop((∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))

set_option maxHeartbeats 8000000 in
/-- The body's triple, for any continuation. -/
theorem kernelRun (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x256 .bf16) (harg5 : arg5.IsWhole) (arg6 : Memref sig .tc .vmem S256x128 .bf16) (harg6 : arg6.IsWhole) (arg7 : Memref sig .tc .vmem S1x2x256x128 .f32) (harg7 : arg7.IsWhole) (arg8 : Memref sig .tc .vmem S1x2x8x128 .f32) (harg8 : arg8.IsWhole) (arg9 : Memref sig .tc .vmem S1x2x256x384 .bf16) (harg9 : arg9.IsWhole) (arg10 : Memref sig .tc .vmem S1x2x256x384 .bf16) (harg10 : arg10.IsWhole) (arg11 : Memref sig .tc .vmem S2x256x128 .f32) (harg11 : arg11.IsWhole) (arg12 : Memref sig .tc .vmem S2x256x128 .f32) (harg12 : arg12.IsWhole) (K : PUnit → sProp 𝕄) :
    iprop(Res c arg2 arg3 arg4 arg5 arg6 arg7 arg8 arg9 arg10 arg11 arg12 ∗ (Res c arg2 arg3 arg4 arg5 arg6 arg7 arg8 arg9 arg10 arg11 arg12 -∗ K ⟨⟩))
      ⊢ wp frame (wpE (defs₀ (F := F)) Variants.nat c none) Set.univ (cc0_sb_fwd_0 i arg2 harg2 arg3 harg3 arg4 harg4 arg5 harg5 arg6 harg6 arg7 harg7 arg8 harg8 arg9 harg9 arg10 harg10 arg11 harg11 arg12 harg12) K := by
  simp only [cc0_sb_fwd_0_eq_skeleton]; unfold cc0_sb_fwd_0_skel
  iintro ⟨⟨⟨%farg2, Harg2⟩, ⟨%farg3, Harg3⟩, ⟨%farg4, Harg4⟩, ⟨%farg5, Harg5⟩, ⟨%farg6, Harg6⟩, ⟨%farg7, Harg7⟩, ⟨%farg8, Harg8⟩, ⟨%farg9, Harg9⟩, ⟨%farg10, Harg10⟩, ⟨%farg11, Harg11⟩, ⟨%farg12, Harg12⟩⟩, Hk⟩
  sl_exec_parts
  iapply (wp_call_spec Variants.nat (c : Thread nD τ) none Set.univ (spec c arg3 arg4 arg5 arg11 arg12) _
    (fun u hu => nomatch hu) (spec_le1 c i arg3 harg3 arg4 harg4 arg5 harg5 arg11 harg11 arg12 harg12 _ _ Set.univ _ _ (start _) _))
  rw [spec_apply]
  isplitl [Harg3 Harg4 Harg5 Harg11 Harg12]
  · isplitl [Harg3]; · iexists _; iexact Harg3
    isplitl [Harg4]; · iexists _; iexact Harg4
    isplitl [Harg5]; · iexists _; iexact Harg5
    isplitl [Harg11]; · iexists _; iexact Harg11
    iexists _; iexact Harg12
  iintro %r1 ⟨⟨%garg3, Harg3⟩, ⟨%garg4, Harg4⟩, ⟨%garg5, Harg5⟩, ⟨%garg11, Harg11⟩, ⟨%garg12, Harg12⟩⟩
  sl_exec_parts
  iapply (wp_call_spec Variants.nat (c : Thread nD τ) none Set.univ (spec c arg3 arg4 arg5 arg11 arg12) _
    (fun u hu => nomatch hu) (spec_le2 c i arg3 harg3 arg4 harg4 arg5 harg5 arg11 harg11 arg12 harg12 _ _ Set.univ _ _ (start _) _))
  rw [spec_apply]
  isplitl [Harg3 Harg4 Harg5 Harg11 Harg12]
  · isplitl [Harg3]; · iexists _; iexact Harg3
    isplitl [Harg4]; · iexists _; iexact Harg4
    isplitl [Harg5]; · iexists _; iexact Harg5
    isplitl [Harg11]; · iexists _; iexact Harg11
    iexists _; iexact Harg12
  iintro %r2 ⟨⟨%garg3, Harg3⟩, ⟨%garg4, Harg4⟩, ⟨%garg5, Harg5⟩, ⟨%garg11, Harg11⟩, ⟨%garg12, Harg12⟩⟩
  sl_exec_parts
  sl_step
  iapply Hk
  isplitl [Harg2]; · iexists _; iexact Harg2
  isplitl [Harg3]; · iexists _; iexact Harg3
  isplitl [Harg4]; · iexists _; iexact Harg4
  isplitl [Harg5]; · iexists _; iexact Harg5
  isplitl [Harg6]; · iexists _; iexact Harg6
  isplitl [Harg7]; · iexists _; iexact Harg7
  isplitl [Harg8]; · iexists _; iexact Harg8
  isplitl [Harg9]; · iexists _; iexact Harg9
  isplitl [Harg10]; · iexists _; iexact Harg10
  isplitl [Harg11]; · iexists _; iexact Harg11
  iexists _; iexact Harg12

end Cert.Kernel16Ideal.Sbf

end
-- ==== Proof.SbfFrame.lean ====
module

public import proofs.«01_k».proof.Proof.SbfRun
public import Idealize.ShloMosaic.Lib.Pipeline.Frame
public import Idealize.ShloMosaic.Lib.Pipeline.FrameBody
public import Idealize.ShloMosaic.Lib.Tactic
public import Idealize.ShloMosaic.Lib.LoopRemainder

/-! # Stick-breaking attention, forward: its frame

Every fair run of the program ends without a fault, its argument unchanged and every semaphore at zero.  The windows are over a
converted copy of the argument, a table and the results, so nothing need be said of what the body leaves in them: all nine are
forgotten.  The variant of the two searches is the number of rounds left. -/

@[expose] public section

noncomputable section

namespace Cert.Kernel16Ideal.Sbf

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

open Idealize.ShloMosaic.Pipeline (Dat BodyObligation)

local notation "𝕄" => MT nD τ sig Unit (Elt F) ℕ (UR sig nD τ) ℕ

variable (m : (ℓ : Loc nD τ sig) → Buf (Elt F) ℓ) (ρ : Dev nD → PrngReg)

/-- The host operations before the call, in order. -/
abbrev opss : List (List (HloOp τ sig (Elt F))) := [hostOps0]

/-- Core `c`'s buffers when the call is entered. -/
abbrev V (c : Dev nD) (b : Ref sig .tc) : Buf (Elt F) ((c : Thread nD τ).loc b) := StableHlo.after (opss (F := F)).flatten (fun b => m (c, b)) b

theorem opss_sub : (opss (F := F)).Forall fun ops => ops.Forall fun op => op.bufs ⊆ StableHlo.tcRefs τ sig :=
  hostOps0_sub

theorem opss_fresh : (opss (F := F)).Forall fun ops => ops.Forall fun op => op.fresh = ∅ := by
  simp only [opss, List.Forall]; repeat' constructor

theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main opss opss_sub opss_fresh main_chain

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every window is forgotten. -/
def forgets0 : Fin 9 → Bool := fun _ => true

/-- The proof data: arrays as the call finds them, the scratch buffers and the generator register at anything, nothing owed. -/
def dats (_ : Fin 1) (c : Dev nD) : Dat τ (Elt F) Unit ℕ (UR sig nD τ) ℕ (cfg0 (F := F)) c where
  A w := V m c (Pipeline.arrRef spec0 w)
  after w t := Pipeline.Dat.unnamed (cfg := cfg0 (F := F)) w t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

/-- A block's buffer, from the block held at some value. -/
theorem owns_pt (c : Dev nD) {s : Shape} {e : EltTy} (M : Memref sig .tc .vmem s e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists _; iexact H

/-- The block held at some value, from its buffer. -/
theorem pt_owns (c : Dev nD) {s : Shape} {e : EltTy} (M : Memref sig .tc .vmem s e) :
    iprop(∃ f, M.view.loc (c : Thread nD τ) ↦[M.view.set]{fullShare} f) ⊢ (iprop(∃ d, owns (c : Thread nD τ) M fullShare d) : sProp 𝕄) := by
  unfold owns
  iintro ⟨%f, H⟩
  iexists _, _; isplitr; swap; · iexact H
  ipureintro; rfl

/-- What the body is called with at point `t`: every window's block at some value. -/
def bodyPre (c : Dev nD) (t : Fin (cfg0 (F := F)).N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))
/-- What it returns. -/
def bodyPost (c : Dev nD) (t : Fin (cfg0 (F := F)).N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))

theorem scr_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA; rw [scopedRest0_eq]; simp only [owns_whole]; try rfl

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scr_eq]
  iintro ⟨⟨⟨S0, S1⟩, Hg⟩, HO, H0, H1, H2, H3, H4, H5, H6, H7, H8⟩
  iapply (kernelRun c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (Memref.whole cc0_scratch0) (Memref.isWhole_whole _) (Memref.whole cc0_scratch1) (Memref.isWhole_whole _) _)
  isplitl [H0 H1 H2 H3 H4 H5 H6 H7 H8 S0 S1]
  · isplitl [H0]; · iapply (owns_pt c _); iexact H0
    isplitl [H1]; · iapply (owns_pt c _); iexact H1
    isplitl [H2]; · iapply (owns_pt c _); iexact H2
    isplitl [H3]; · iapply (owns_pt c _); iexact H3
    isplitl [H4]; · iapply (owns_pt c _); iexact H4
    isplitl [H5]; · iapply (owns_pt c _); iexact H5
    isplitl [H6]; · iapply (owns_pt c _); iexact H6
    isplitl [H7]; · iapply (owns_pt c _); iexact H7
    isplitl [H8]; · iapply (owns_pt c _); iexact H8
    isplitl [S0]; · iapply (owns_pt c _); iexact S0
    iapply (owns_pt c _); iexact S1
  · iintro ⟨H0, H1, H2, H3, H4, H5, H6, H7, H8, S0, S1⟩
    isplitl [S0 S1 Hg]
    · isplitr [Hg]
      · isplitl [S0]; · iapply (pt_owns c _); iexact S0
        iapply (pt_owns c _); iexact S1
      · iexact Hg
    isplitl [HO]; · iexact HO
    isplitl [H0]; · iapply (pt_owns c _); iexact H0
    isplitl [H1]; · iapply (pt_owns c _); iexact H1
    isplitl [H2]; · iapply (pt_owns c _); iexact H2
    isplitl [H3]; · iapply (pt_owns c _); iexact H3
    isplitl [H4]; · iapply (pt_owns c _); iexact H4
    isplitl [H5]; · iapply (pt_owns c _); iexact H5
    isplitl [H6]; · iapply (pt_owns c _); iexact H6
    isplitl [H7]; · iapply (pt_owns c _); iexact H7
    iapply (pt_owns c _); iexact H8

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) Variants.nat () Set.univ forgets0 := fun t => by
  rw [bigSep_W0, bigSep_W0, defs₀_row]
  exact triple_restated (sound_body m c t) rfl .rfl fun _ => .rfl

set_option backward.isDefEq.respectTransparency.types false in
/-- Every fair run ends, nothing outside the windows' arrays changed and every semaphore at zero. -/
theorem run_main :
    θ_run defs (onTc (τ := τ) (main (F := F))) (s₀ m ρ)
      (fun r => Pipeline.RDat.FramePost (cfgs (F := F) 0) (fun c => (dats m 0 c).toRForget forgets0) (V m) r ∧ r.2.sem = fun _ => 0) :=
  Pipeline.θ_run_frame_forget_shared (Q' := _) (cfgs (F := F)) (dats m) (0 : Fin 1) launch₀0 defs₀ Variants.nat forgets0 m ρ main
    (hbody := fun c => (body_obligation m c).loose) (hq := fun _ _ _ => rfl)
    (howed := fun _ _ => rfl) (V := V m) (hmain := hmain m Variants.nat) (hA := A_eq m) (hΦ := fun _ _ => rfl)
    (hQ' := fun r h => h)

variable {m ρ}

theorem final_arg0 {r : PUnit × MemSt nD τ sig (Elt F)}
    (h : Pipeline.RDat.FramePost (cfgs (F := F) 0) (fun c => (dats (F := F) m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (show ∀ w : Fin 9, (spec0 w).arr.view.ref ≠ main_arg0 by decide))).trans (V_main_arg0 m c)

/-- The frame of the program at any values. -/
theorem frame_all (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => final_arg0 h.1 c, h.2⟩) (run_main m ρ)

end Cert.Kernel16Ideal.Sbf

end
-- ==== Proof.SbfClaim.lean ====
/- The stick-breaking forward call: the frames of kernel and reference. -/
module

public import proofs.«01_k».proof.Defs
public import proofs.«01_k».proof.Proof.Gen.Kernel16
public import proofs.«01_k».proof.Proof.Gen.Kernel16Ideal
public import proofs.«01_k».proof.Proof.Gen.Reference16Ideal.Run
public import proofs.«01_k».proof.Proof.SbfFrame
public import proofs.«01_k».proof.Proof.SbfFrameP
public import Idealize.ShloMosaic.Lib.Quiescent
public import Idealize.ShloMosaic.Lib.Tactic

@[expose] public section

noncomputable section

namespace Cert.Proof

open Idealize.ShloMosaic Idealize.SL.Sem

theorem sbf_ideal : Cert.quiescent_Kernel16Ideal (hKernel16Ideal := Cert.Kernel16Ideal.Gen.facts) :=
  fun m g _ => Cert.Kernel16Ideal.Sbf.frame_all m g

theorem sbf_kernel : Cert.quiescent_Kernel16 (hKernel16 := Cert.Kernel16.Gen.facts) :=
  fun m g _ => Cert.Kernel16.Sbf.frame_all (F := Bits) m g

theorem sbf_reference : Cert.quiescent_Reference16Ideal (hReference16Ideal := Cert.Reference16Ideal.Gen.facts) := by
  intro m g _
  exact (θ_run (Cert.Reference16Ideal.defs (F := Ideal)) _ _).mono (fun r h => ⟨fun c => (h c).2.2, sem_eq_zero_of_no_sems rfl _⟩) (Cert.Reference16Ideal.Value.run m g)

end Cert.Proof

end
-- ==== Proof.Sum4.lean ====
/- The sum of the four parts of a gradient: the condition on the table, and the values. -/
module

public import proofs.«01_k».proof.Proof.Gen.Kernel17Ideal.Frame
public import proofs.«01_k».proof.Proof.Gen.Kernel17.Frame
public import proofs.«01_k».proof.Proof.Gen.Reference17Ideal.Read
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.Kernel17.Sum4

open Cert.Kernel17 Cert.Kernel17.Gen

variable {F : FTy → Type} [FloatOps F]
variable (m : (ℓ : Loc nD τ sig) → Buf (Elt F) ℓ)

/-- The table holds zeros. -/
theorem table : tbl m 0 = broadcastInDim S2 ![] bcast_S_S2 (constantI S_ 32 0#32) := by
  show StableHlo.after (List.flatten [hostOps0]) (fun b => m (0, b)) (Proc.devRef .tc main_v0) = _
  simp only [List.flatten_cons, List.flatten_nil, List.append_nil, hostOps0]
  after_results

/-- The result's block is the first one at every point. -/
theorem index (i : grid0.Coords) : cc0_transform_1 inb_S2_S1_0 numel1_S1 (tbl m) i = ![0, (i 0).val, 0] := by
  unfold cc0_transform_1 Pipeline.Prefetch.Contents.at
  rw [table m]
  have h : (i 0).val < 1 := (i 0).isLt
  have h0 : (i 0).val = 0 := by omega
  simp only [h0]
  rfl

theorem ok : Ok m := by
  intro i
  have h : (i 0).val < 1 := (i 0).isLt
  refine ⟨fun a => ?_, .inl rfl⟩
  rw [index m i]
  fin_cases a <;> simp [S1x512x1024, S2x512x1024] <;> omega

end Cert.Kernel17.Sum4

namespace Cert.Kernel17Ideal.Sum4

open Cert.Kernel17Ideal Cert.Kernel17Ideal.Gen Cert.Reference17Ideal.Read

variable (m : (ℓ : Loc nD τ sig) → Buf (Elt Ideal) ℓ)

/-- The table holds zeros. -/
theorem table : tbl m 0 = broadcastInDim S2 ![] bcast_S_S2 (constantI S_ 32 0#32) := by
  show StableHlo.after (List.flatten [hostOps0]) (fun b => m (0, b)) (Proc.devRef .tc main_v0) = _
  simp only [List.flatten_cons, List.flatten_nil, List.append_nil, hostOps0]
  after_results

/-- The result's block is the first one at every point. -/
theorem index (i : grid0.Coords) : cc0_transform_1 inb_S2_S1_0 numel1_S1 (tbl m) i = ![0, (i 0).val, 0] := by
  unfold cc0_transform_1 Pipeline.Prefetch.Contents.at
  rw [table m]
  have h : (i 0).val < 1 := (i 0).isLt
  have h0 : (i 0).val = 0 := by omega
  simp only [h0]
  rfl

theorem ok : Ok m := by
  intro i
  have h : (i 0).val < 1 := (i 0).isLt
  refine ⟨fun a => ?_, .inl rfl⟩
  rw [index m i]
  fin_cases a <;> simp [S1x512x1024, S2x512x1024] <;> omega

/-- The parts are staged whole. -/
theorem parts (c : Dev nD) (t : Fin (cfgM m (ok m)).N) (k : Fin 4) (i : Fin 512) (j : Fin 1024) :
    iblk m (ok m) c 0 t (ix3 k i j) = m ((c : Thread nD τ).loc main_arg0) (ix3 k i j) := by
  rw [← V_main_arg0 m c]
  have ht : t = t0_0 := fin_N0 t
  subst ht
  show V m c main_arg0 _ = V m c main_arg0 _
  congr 1
  funext a
  apply Fin.ext
  have h0 : ∀ a, ((cfgM m (ok m)).win 0).index t0_0 a = 0 :=
    (by decide +kernel : ∀ (i : grid0.Coords) a, cc0_transform_0 i a = 0) (grid0.coords t0_0)
  exact Pipeline.Window.rect_emb_val_of_index_zero _ _ _ (h0 a) _

/-- The one point writes its block back. -/
theorem flush (t : Fin (cfgM m (ok m)).N) : ((cfgM m (ok m)).win 1).flush t = true := by
  have ht : t = t0_0 := fin_N0 t
  subst ht
  rfl

/-- The sum, element by element. -/
theorem final (c : Dev nD) (i : Fin 512) (j : Fin 1024) :
    (dats m (ok m) 0 c).arrAt 1 (cfgM m (ok m)).N (ix3 (0 : Fin 2) i j)
      = val_main_v1 (F := Ideal) (m ((c : Thread nD τ).loc main_arg0)) (ix2 i j) := by
  have h := (dats m (ok m) 0 c).arrAt_emb_eq_flushed 1
    (fun t t' _ _ hne => absurd ((fin_N0 t).trans (fin_N0 t').symm) hne) t0_0 (flush m t0_0) (ix3 (0 : Fin 1) i j)
  have e : (((cfgM m (ok m)).win 1).blk t0_0).view.emb (ix3 (0 : Fin 1) i j) = ix3 (0 : Fin 2) i j := by
    funext a
    apply Fin.ext
    have h0 : ∀ a, ((cfgM m (ok m)).win 1).index t0_0 a = 0 := by
      intro a
      show cc0_transform_1 inb_S2_S1_0 numel1_S1 (tbl m) (grid0.coords t0_0) a = 0
      rw [index m]
      have h1 : (grid0.coords t0_0 0).val < 1 := (grid0.coords t0_0 0).isLt
      fin_cases a
      · rfl
      · show (grid0.coords t0_0 0).val = 0
        omega
      · rfl
    refine (Pipeline.Window.rect_emb_val_of_index_zero _ _ _ (h0 a) _).trans ?_
    fin_cases a <;> rfl
  rw [e] at h
  refine h.trans ?_
  show (dats m (ok m) 0 c).after 1 t0_0 (ix3 (0 : Fin 1) i j) = _
  rw [after0_1, val_main_v1_apply]
  unfold outsAt0
  frame_out
  pointwise [k0_pay1, val_main_v0, val_main_cst]
  have hx : ∀ k : Fin 4, View.read (Elt Ideal) (ms0_0 m (ok m) t0_0).view ((hs0_0 m (ok m) t0_0).unread (iblk m (ok m) c 0 t0_0)) (ix3 k i j)
      = m ((c : Thread nD τ).loc main_arg0) (idx_main_v1 (ix2 i j) k) := fun k =>
    (congrFun ((hs0_0 m (ok m) t0_0).read_unread _) _).trans ((parts m c t0_0 k i j).trans
      (congrArg _ (by funext a; fin_cases a <;> rfl)))
  rw [Fin.sum_univ_four]
  exact congrArg₂ (· + ·) (congrArg₂ (· + ·) (congrArg₂ (· + ·) (hx 0) (hx 1)) (hx 2)) (hx 3)

/-- The first of two matrices. -/
theorem first (X : (⟨S2x512x1024, .f32⟩ : BufTy).Contents (Elt Ideal)) (i : Fin 512) (j : Fin 1024) :
    shapeCast S512x1024 (extractStridedSlice S1x512x1024 ![0, 0, 0] X slices_S2x512x1024_S1x512x1024_0_0_0) shapeCasts_S1x512x1024_S512x1024 (ix2 i j)
      = X (ix3 0 i j) := by
  pointwise!

/-- The kernel's run: its result is the sum, the parts unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = val_main_v1 (F := Ideal) (m ((c.tc : Thread nD τ).loc main_arg0))
      ∧ r.2.mem ((c.tc : Thread nD τ).loc main_arg0) = m ((c.tc : Thread nD τ).loc main_arg0)) := by
  refine (θ_run defs _ _).mono (fun r h c => ⟨?_, ((h c).1 0).trans (((dats m (ok m) 0 c).arrAt_in 0 rfl _).trans ((A_eq m (ok m) c 0).trans (V_main_arg0 m c)))⟩) (run_main m ρ (ok m))
  have hr : main_v3 ∈ Pipeline.restRefs sig spec0 := by decide
  refine ((h c).2 main_v3 hr).trans ?_
  unfold Pipeline.afterTail
  simp only [List.flatten_cons, List.flatten_nil, List.append_nil, hostOps1]
  have hw : Pipeline.withArrays (τ := τ) (Pipeline.pin pcfgs (fun _ => adm m (ok m)) 0).spec c (V0 m c) (fun w => (dats m (ok m) 0 c).arrAt w (Pipeline.pin pcfgs (fun _ => adm m (ok m)) 0).N) (Proc.tc.devRef main_v1) = (dats m (ok m) 0 c).arrAt 1 (cfgM m (ok m)).N :=
    Pipeline.withArrays_arr (τ := τ) spec0 winFacts0.arr_inj c (V0 m c) (fun w => (dats m (ok m) 0 c).arrAt w (cfgM m (ok m)).N) 1
  after_results
  rw [hw]
  funext y
  obtain ⟨i, j, rfl⟩ : ∃ (i : Fin 512) (j : Fin 1024), y = ix2 i j := ⟨y 0, y 1, by ext a; fin_cases a <;> rfl⟩
  refine Eq.trans ?_ (final m c i j)
  exact first _ i j

end Cert.Kernel17Ideal.Sum4

end
-- ==== Proof.Sum4Claim.lean ====
/- The sum of the four parts of a gradient: kernel and reference end with the same result. -/
module

public import proofs.«01_k».proof.Defs
public import proofs.«01_k».proof.Proof.Sum4
public import proofs.«01_k».proof.Proof.Gen.Reference17Ideal.Run
public import Idealize.ShloMosaic.Lib.Quiescent

@[expose] public section

noncomputable section

namespace Cert.Proof

open Idealize.ShloMosaic Idealize.SL.Sem

theorem sum4_reference : Cert.quiescent_Reference17Ideal (hReference17Ideal := Cert.Reference17Ideal.Gen.facts) := by
  intro m g _
  exact (θ_run (Cert.Reference17Ideal.defs (F := Ideal)) _ _).mono (fun r h => ⟨fun c => (h c).2, sem_eq_zero_of_no_sems rfl _⟩) (Cert.Reference17Ideal.Value.run m g)

theorem sum4 : Cert.algebraic_Kernel17Ideal_Reference17Ideal (hKernel17Ideal := Cert.Kernel17Ideal.Gen.facts) (hReference17Ideal := Cert.Reference17Ideal.Gen.facts) := by
  intro m g m' g' _ hag
  exact ⟨fun c => Cert.Reference17Ideal.Read.val_main_v1 (F := Ideal) (m ((c.tc : Thread Cert.Kernel17Ideal.nD Cert.Kernel17Ideal.τ).loc Cert.Kernel17Ideal.main_arg0)),
    Cert.Kernel17Ideal.Sum4.run m g,
    (θ_run (Cert.Reference17Ideal.defs (F := Ideal)) _ _).mono (fun r h c => ⟨(h c).1.trans ((Cert.Reference17Ideal.Read.val_main_v1_eq _).trans (by rw [hag c])), (h c).2⟩) (Cert.Reference17Ideal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.MixerClaim
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.FfClaim
public import proofs.«01_k».proof.Proof.PleClaim
public import proofs.«01_k».proof.Proof.InprojClaim
public import proofs.«01_k».proof.Proof.LossClaim
public import proofs.«01_k».proof.Proof.Gen.Kernel6
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Loops
public import proofs.«01_k».proof.Proof.Gen.Reference6Ideal.Run
public import proofs.«01_k».proof.Proof.SbClaim
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Loops
public import proofs.«01_k».proof.Proof.Gen.Reference7Ideal.Run
public import proofs.«01_k».proof.Proof.SwaClaim
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import proofs.«01_k».proof.Proof.InprojfClaim
public import proofs.«01_k».proof.Proof.MixerfClaim
public import proofs.«01_k».proof.Proof.FffClaim
public import proofs.«01_k».proof.Proof.PlefClaim
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13.Frame
public import proofs.«01_k».proof.Proof.Gen.Kernel14
public import proofs.«01_k».proof.Proof.Gen.Kernel14.Frame
public import proofs.«01_k».proof.Proof.Gen.Kernel15
public import proofs.«01_k».proof.Proof.Gen.Kernel15.Frame
public import proofs.«01_k».proof.Proof.SwafClaim
public import proofs.«01_k».proof.Proof.MmClaim
public import proofs.«01_k».proof.Proof.MmpClaim
public import proofs.«01_k».proof.Proof.AdamClaim
public import proofs.«01_k».proof.Proof.Gen.Kernel16
public import proofs.«01_k».proof.Proof.Gen.Kernel16Ideal
public import proofs.«01_k».proof.Proof.Gen.Kernel16Ideal.Launch
public import proofs.«01_k».proof.Proof.Gen.Kernel16Ideal.Points
public import proofs.«01_k».proof.Proof.Gen.Kernel16Ideal.Skeleton
public import proofs.«01_k».proof.Proof.Gen.Reference16Ideal.Run
public import proofs.«01_k».proof.Proof.Gen.Kernel16.Launch
public import proofs.«01_k».proof.Proof.Gen.Kernel16.Points
public import proofs.«01_k».proof.Proof.Gen.Kernel16.Skeleton
public import proofs.«01_k».proof.Proof.SbfClaim
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal.Run
public import proofs.«01_k».proof.Proof.Gen.Reference17Ideal.Read
public import proofs.«01_k».proof.Proof.Sum4Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  ff_facts,
  ple_facts,
  inproj_facts,
  loss_facts,
  fun m ρ _ => Cert.Kernel.Gen.frame m ρ, fun m ρ _ => Cert.KernelIdeal.Gen.frame m ρ,
  mixer_reference,
  fun m ρ _ => Cert.Kernel2.Gen.frame m ρ, fun m ρ _ => Cert.Kernel2Ideal.Gen.frame m ρ,
  fun m ρ _ => Cert.Kernel2Ideal.Gen.frame m ρ,
  ff_reference, fun m ρ _ => ff_reference m ρ trivial,
  fun m ρ _ => Cert.Kernel3.Gen.frame m ρ, fun m ρ _ => Cert.Kernel3Ideal.Gen.frame m ρ,
  fun m ρ _ => Cert.Kernel3Ideal.Gen.frame m ρ,
  ple_reference, fun m ρ _ => ple_reference m ρ trivial,
  fun m ρ _ => Cert.Kernel4.Gen.frame m ρ, fun m ρ _ => Cert.Kernel4Ideal.Gen.frame m ρ,
  fun m ρ _ => Cert.Kernel4Ideal.Gen.frame m ρ,
  inproj_reference, fun m ρ _ => inproj_reference m ρ trivial,
  fun m ρ _ => Cert.Kernel5.Gen.frame m ρ, fun m ρ _ => Cert.Kernel5Ideal.Gen.frame m ρ,
  fun m ρ _ => Cert.Kernel5Ideal.Gen.frame m ρ,
  loss_reference, fun m ρ _ => loss_reference m ρ trivial,
  sb_kernel, sb_ideal,
  sb_reference,
  swa_kernel, swa_ideal,
  swa_reference,
  fun m ρ _ => Cert.Kernel8.Gen.frame m ρ, fun m ρ _ => Cert.Kernel8Ideal.Gen.frame m ρ,
  inprojf_reference,
  fun m ρ _ => Cert.Kernel9.Gen.frame m ρ, fun m ρ _ => Cert.Kernel9Ideal.Gen.frame m ρ,
  mixerf_reference,
  fun m ρ _ => Cert.Kernel10.Gen.frame m ρ, fun m ρ _ => Cert.Kernel10Ideal.Gen.frame m ρ,
  fff_reference,
  fun m ρ _ => Cert.Kernel11.Gen.frame m ρ, fun m ρ _ => Cert.Kernel11Ideal.Gen.frame m ρ,
  plef_reference,
  fun m ρ _ => Cert.Kernel12.Gen.frame m ρ, fun m ρ _ => Cert.Kernel12Ideal.Gen.frame m ρ,
  swaf_reference,
  fun m ρ _ => Cert.Kernel13.Gen.frame m ρ, fun m ρ _ => Cert.Kernel13Ideal.Gen.frame m ρ,
  mm_reference,
  fun m ρ _ => Cert.Kernel14.Gen.frame m ρ, fun m ρ _ => Cert.Kernel14Ideal.Gen.frame m ρ,
  mmp_reference,
  fun m ρ _ => Cert.Kernel15.Gen.frame m ρ, fun m ρ _ => Cert.Kernel15Ideal.Gen.frame m ρ,
  adam_reference,
  sbf_kernel, sbf_ideal,
  sbf_reference,
  fun m ρ _ => Cert.Kernel17.Gen.frame m ρ (Cert.Kernel17.Sum4.ok m), fun m ρ _ => Cert.Kernel17Ideal.Gen.frame m ρ (Cert.Kernel17Ideal.Sum4.ok m),
  sum4_reference,
  trivial, mixer,
  trivial, ff,
  trivial, ple,
  trivial, inproj,
  trivial, loss,
  trivial,
  trivial,
  trivial, inprojf,
  trivial, mixerf,
  trivial, fff,
  trivial, plef,
  trivial,
  trivial, mm,
  trivial, mmp,
  trivial, adam,
  trivial,
  trivial, sum4⟩

end Cert.Proof

end
